-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_masked [hPre_finite_and_masked : Cert.Pre_finite_and_masked.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_masked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_masked [hPre_finite_and_masked : Cert.Pre_finite_and_masked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_masked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_MlpKernel (m : (ℓ : Loc Cert.MlpKernel.nD Cert.MlpKernel.τ Cert.MlpKernel.sig) → Buf (Elt Bits) ℓ) : Prop :=
  True

def Pre_MlpKernelIdeal (m : (ℓ : Loc Cert.MlpKernelIdeal.nD Cert.MlpKernelIdeal.τ Cert.MlpKernelIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_masked [hKernelIdeal : Cert.KernelIdeal.Facts] [hPre_finite_and_masked : Cert.Pre_finite_and_masked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_masked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_masked [hReferenceIdeal : Cert.ReferenceIdeal.Facts] [hPre_finite_and_masked : Cert.Pre_finite_and_masked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_masked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_MlpKernel [hMlpKernel : Cert.MlpKernel.Facts] : Prop :=
  ∀ (m : (ℓ : Loc Cert.MlpKernel.nD Cert.MlpKernel.τ Cert.MlpKernel.sig) → Buf (Elt Bits) ℓ) (g : Dev Cert.MlpKernel.nD → PrngReg), Pre_MlpKernel m →
    θ_run (Cert.MlpKernel.defs (F := Bits)) (onTc (τ := Cert.MlpKernel.τ) (Cert.MlpKernel.main (F := Bits))) ⟨m, fun _ => 0, g⟩ (fun r => (∀ c : Dev Cert.MlpKernel.nD,
      r.2.mem ((c.tc : Thread Cert.MlpKernel.nD Cert.MlpKernel.τ).loc Cert.MlpKernel.main_arg0) = m ((c.tc : Thread Cert.MlpKernel.nD Cert.MlpKernel.τ).loc Cert.MlpKernel.main_arg0)
      ∧ r.2.mem ((c.tc : Thread Cert.MlpKernel.nD Cert.MlpKernel.τ).loc Cert.MlpKernel.main_arg1) = m ((c.tc : Thread Cert.MlpKernel.nD Cert.MlpKernel.τ).loc Cert.MlpKernel.main_arg1)
      ∧ r.2.mem ((c.tc : Thread Cert.MlpKernel.nD Cert.MlpKernel.τ).loc Cert.MlpKernel.main_arg2) = m ((c.tc : Thread Cert.MlpKernel.nD Cert.MlpKernel.τ).loc Cert.MlpKernel.main_arg2)
      ∧ r.2.mem ((c.tc : Thread Cert.MlpKernel.nD Cert.MlpKernel.τ).loc Cert.MlpKernel.main_arg3) = m ((c.tc : Thread Cert.MlpKernel.nD Cert.MlpKernel.τ).loc Cert.MlpKernel.main_arg3)
      ∧ r.2.mem ((c.tc : Thread Cert.MlpKernel.nD Cert.MlpKernel.τ).loc Cert.MlpKernel.main_arg4) = m ((c.tc : Thread Cert.MlpKernel.nD Cert.MlpKernel.τ).loc Cert.MlpKernel.main_arg4))
      ∧ r.2.sem = fun _ => 0)

def quiescent_MlpKernelIdeal [hMlpKernelIdeal : Cert.MlpKernelIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
      ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def preserves_Kernel_KernelIdeal : Prop :=
  True

def algebraic_KernelIdeal_ReferenceIdeal_pre_finite_and_masked [hKernelIdeal : Cert.KernelIdeal.Facts] [hReferenceIdeal : Cert.ReferenceIdeal.Facts] [hPre_finite_and_masked : Cert.Pre_finite_and_masked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_masked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_MlpKernel_MlpKernelIdeal : Prop :=
  True

def algebraic_MlpKernelIdeal_MlpReferenceIdeal [hMlpKernelIdeal : Cert.MlpKernelIdeal.Facts] [hMlpReferenceIdeal : Cert.MlpReferenceIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpKernelIdeal m →
    (∀ c : Dev Cert.MlpKernelIdeal.nD,
      m' ((c.tc : Thread Cert.MlpReferenceIdeal.nD Cert.MlpReferenceIdeal.τ).loc Cert.MlpReferenceIdeal.main_arg0) = m ((c.tc : Thread Cert.MlpKernelIdeal.nD Cert.MlpKernelIdeal.τ).loc Cert.MlpKernelIdeal.main_arg0)
      ∧ m' ((c.tc : Thread Cert.MlpReferenceIdeal.nD Cert.MlpReferenceIdeal.τ).loc Cert.MlpReferenceIdeal.main_arg1) = m ((c.tc : Thread Cert.MlpKernelIdeal.nD Cert.MlpKernelIdeal.τ).loc Cert.MlpKernelIdeal.main_arg1)
      ∧ m' ((c.tc : Thread Cert.MlpReferenceIdeal.nD Cert.MlpReferenceIdeal.τ).loc Cert.MlpReferenceIdeal.main_arg2) = m ((c.tc : Thread Cert.MlpKernelIdeal.nD Cert.MlpKernelIdeal.τ).loc Cert.MlpKernelIdeal.main_arg2)
      ∧ m' ((c.tc : Thread Cert.MlpReferenceIdeal.nD Cert.MlpReferenceIdeal.τ).loc Cert.MlpReferenceIdeal.main_arg3) = m ((c.tc : Thread Cert.MlpKernelIdeal.nD Cert.MlpKernelIdeal.τ).loc Cert.MlpKernelIdeal.main_arg3)
      ∧ m' ((c.tc : Thread Cert.MlpReferenceIdeal.nD Cert.MlpReferenceIdeal.τ).loc Cert.MlpReferenceIdeal.main_arg4) = m ((c.tc : Thread Cert.MlpKernelIdeal.nD Cert.MlpKernelIdeal.τ).loc Cert.MlpKernelIdeal.main_arg4)) →
    ∃ (v0 : (c : Dev Cert.MlpKernelIdeal.nD) → Buf (Elt Ideal) ((c.tc : Thread Cert.MlpKernelIdeal.nD Cert.MlpKernelIdeal.τ).loc Cert.MlpKernelIdeal.main_v2)),
      θ_run (Cert.MlpKernelIdeal.defs (F := Ideal)) (onTc (τ := Cert.MlpKernelIdeal.τ) (Cert.MlpKernelIdeal.main (F := Ideal))) ⟨m, fun _ => 0, g⟩ (fun r => ∀ c : Dev Cert.MlpKernelIdeal.nD,
          r.2.mem ((c.tc : Thread Cert.MlpKernelIdeal.nD Cert.MlpKernelIdeal.τ).loc Cert.MlpKernelIdeal.main_v2) = v0 c
          ∧ r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
          ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
          ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
          ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
          ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v32) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)) →
    ∃ (v0 : (c : Dev Cert.OutKernelIdeal.nD) → Buf (Elt Ideal) ((c.tc : Thread Cert.OutKernelIdeal.nD Cert.OutKernelIdeal.τ).loc Cert.OutKernelIdeal.main_v1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v1) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v18) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def Claim : Prop :=
  ∃ (hKernel : Cert.Kernel.Facts) (hKernelIdeal : Cert.KernelIdeal.Facts) (hReferenceIdeal : Cert.ReferenceIdeal.Facts) (hMlpKernel : Cert.MlpKernel.Facts) (hMlpKernelIdeal : Cert.MlpKernelIdeal.Facts) (hMlpReferenceIdeal : Cert.MlpReferenceIdeal.Facts) (hOutKernel : Cert.OutKernel.Facts) (hOutKernelIdeal : Cert.OutKernelIdeal.Facts) (hOutReferenceIdeal : Cert.OutReferenceIdeal.Facts) (hPre_finite_and_masked : Cert.Pre_finite_and_masked.Facts),
    quiescent_Kernel (hKernel := hKernel)
    ∧ quiescent_KernelIdeal (hKernelIdeal := hKernelIdeal)
    ∧ quiescent_KernelIdeal_pre_finite_and_masked (hKernelIdeal := hKernelIdeal) (hPre_finite_and_masked := hPre_finite_and_masked)
    ∧ quiescent_ReferenceIdeal (hReferenceIdeal := hReferenceIdeal)
    ∧ quiescent_ReferenceIdeal_pre_finite_and_masked (hReferenceIdeal := hReferenceIdeal) (hPre_finite_and_masked := hPre_finite_and_masked)
    ∧ quiescent_MlpKernel (hMlpKernel := hMlpKernel)
    ∧ quiescent_MlpKernelIdeal (hMlpKernelIdeal := hMlpKernelIdeal)
    ∧ quiescent_MlpReferenceIdeal (hMlpReferenceIdeal := hMlpReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ preserves_Kernel_KernelIdeal
    ∧ algebraic_KernelIdeal_ReferenceIdeal_pre_finite_and_masked (hKernelIdeal := hKernelIdeal) (hReferenceIdeal := hReferenceIdeal) (hPre_finite_and_masked := hPre_finite_and_masked)
    ∧ preserves_MlpKernel_MlpKernelIdeal
    ∧ algebraic_MlpKernelIdeal_MlpReferenceIdeal (hMlpKernelIdeal := hMlpKernelIdeal) (hMlpReferenceIdeal := hMlpReferenceIdeal)
    ∧ preserves_OutKernel_OutKernelIdeal
    ∧ algebraic_OutKernelIdeal_OutReferenceIdeal (hOutKernelIdeal := hOutKernelIdeal) (hOutReferenceIdeal := hOutReferenceIdeal)
-- ==== Pre_finite_and_masked.lean ====
abbrev S2x16x8x128x256 : Shape := ⟨5, ![2, 16, 8, 128, 256]⟩
abbrev S2x16x8x256x128 : Shape := ⟨5, ![2, 16, 8, 256, 128]⟩
abbrev S2x16x8x16x256 : Shape := ⟨5, ![2, 16, 8, 16, 256]⟩
abbrev S_ : Shape := ⟨0, ![]⟩

class Facts : Prop where
  bitsLt_bf16_f32 : FTy.bits .bf16 < FTy.bits .f32
  bcast_S_S2x16x8x128x256 : S_.BroadcastsInDim S2x16x8x128x256 (![] : Fin 0 → Fin S2x16x8x128x256.rank)
  reducesTo_S2x16x8x128x256_S_d0_1_2_3_4 : S2x16x8x128x256.ReducesTo [0, 1, 2, 3, 4] S_
  h_S_ : 0 < S_.numel
  bcast_S_S2x16x8x256x128 : S_.BroadcastsInDim S2x16x8x256x128 (![] : Fin 0 → Fin S2x16x8x256x128.rank)
  reducesTo_S2x16x8x256x128_S_d0_1_2_3_4 : S2x16x8x256x128.ReducesTo [0, 1, 2, 3, 4] S_
  bcast_S_S2x16x8x16x256 : S_.BroadcastsInDim S2x16x8x16x256 (![] : Fin 0 → Fin S2x16x8x16x256.rank)
  reducesTo_S2x16x8x16x256_S_d0_1_2_3_4 : S2x16x8x16x256.ReducesTo [0, 1, 2, 3, 4] S_

variable [Facts]

def fn_part1 {F : FTy → Type} [FloatOps F] (main_arg3 : FVec F S2x16x8x16x256 .f32) (main_v14 : IVec S_ 1) (main_v16 : IVec S2x16x8x16x256 1) : IVec S_ 1 :=
  let main_cst_5 : FVec F S_ .f32 := constant S_ .f32 0xFF800000#32
  let main_v17 : FVec F S2x16x8x16x256 .f32 := broadcastInDim S2x16x8x16x256 ![] bcast_S_S2x16x8x16x256 main_cst_5
  let main_v18 : IVec S2x16x8x16x256 1 := cmpf .oeq main_arg3 main_v17
  let main_v19 : IVec S2x16x8x16x256 1 := ori main_v16 main_v18
  let main_c_6 : IVec S_ 1 := constantI S_ 1 1#1
  let main_v20 : IVec S_ 1 := (fun x v => Host.reduce IntOp.andi x v reducesTo_S2x16x8x16x256_S_d0_1_2_3_4 h_S_) main_v19 main_c_6
  let main_v21 : IVec S_ 1 := andi main_v14 main_v20
  main_v21

def fn {F : FTy → Type} [FloatOps F] (main_arg0 : FVec F S2x16x8x128x256 .bf16) (main_arg1 : FVec F S2x16x8x256x128 .bf16) (main_arg2 : FVec F S2x16x8x128x256 .bf16) (main_arg3 : FVec F S2x16x8x16x256 .f32) : IVec S_ 1 :=
  let main_v0 : FVec F S2x16x8x128x256 .f32 := (extf .f32 · bitsLt_bf16_f32) main_arg0
  let main_cst : FVec F S_ .f32 := constant S_ .f32 0xFF800000#32
  let main_v1 : FVec F S2x16x8x128x256 .f32 := broadcastInDim S2x16x8x128x256 ![] bcast_S_S2x16x8x128x256 main_cst
  let main_v2 : IVec S2x16x8x128x256 1 := cmpf .ogt main_v0 main_v1
  let main_cst_0 : FVec F S_ .f32 := constant S_ .f32 0x7F800000#32
  let main_v3 : FVec F S2x16x8x128x256 .f32 := broadcastInDim S2x16x8x128x256 ![] bcast_S_S2x16x8x128x256 main_cst_0
  let main_v4 : IVec S2x16x8x128x256 1 := cmpf .olt main_v0 main_v3
  let main_v5 : IVec S2x16x8x128x256 1 := andi main_v2 main_v4
  let main_c : IVec S_ 1 := constantI S_ 1 1#1
  let main_v6 : IVec S_ 1 := (fun x v => Host.reduce IntOp.andi x v reducesTo_S2x16x8x128x256_S_d0_1_2_3_4 h_S_) main_v5 main_c
  let main_v7 : FVec F S2x16x8x256x128 .f32 := (extf .f32 · bitsLt_bf16_f32) main_arg1
  let main_cst_1 : FVec F S_ .f32 := constant S_ .f32 0xFF800000#32
  let main_v8 : FVec F S2x16x8x256x128 .f32 := broadcastInDim S2x16x8x256x128 ![] bcast_S_S2x16x8x256x128 main_cst_1
  let main_v9 : IVec S2x16x8x256x128 1 := cmpf .ogt main_v7 main_v8
  let main_cst_2 : FVec F S_ .f32 := constant S_ .f32 0x7F800000#32
  let main_v10 : FVec F S2x16x8x256x128 .f32 := broadcastInDim S2x16x8x256x128 ![] bcast_S_S2x16x8x256x128 main_cst_2
  let main_v11 : IVec S2x16x8x256x128 1 := cmpf .olt main_v7 main_v10
  let main_v12 : IVec S2x16x8x256x128 1 := andi main_v9 main_v11
  let main_c_3 : IVec S_ 1 := constantI S_ 1 1#1
  let main_v13 : IVec S_ 1 := (fun x v => Host.reduce IntOp.andi x v reducesTo_S2x16x8x256x128_S_d0_1_2_3_4 h_S_) main_v12 main_c_3
  let main_v14 : IVec S_ 1 := andi main_v6 main_v13
  let main_cst_4 : FVec F S_ .f32 := constant S_ .f32 0x00000000#32
  let main_v15 : FVec F S2x16x8x16x256 .f32 := broadcastInDim S2x16x8x16x256 ![] bcast_S_S2x16x8x16x256 main_cst_4
  let main_v16 : IVec S2x16x8x16x256 1 := cmpf .oeq main_arg3 main_v15
  fn_part1 (F := F) main_arg3 main_v14 main_v16
-- ==== Kernel.lean ====
abbrev S2x16x8x128x256 : Shape := ⟨5, ![2, 16, 8, 128, 256]⟩
abbrev S2x16x8x256x128 : Shape := ⟨5, ![2, 16, 8, 256, 128]⟩
abbrev S2x16x8x16x256 : Shape := ⟨5, ![2, 16, 8, 16, 256]⟩
abbrev S2x4096x1024 : Shape := ⟨3, ![2, 4096, 1024]⟩
abbrev S1x1x8x128x256 : Shape := ⟨5, ![1, 1, 8, 128, 256]⟩
abbrev S1x16x8x256x128 : Shape := ⟨5, ![1, 16, 8, 256, 128]⟩
abbrev S1x16x8x128x256 : Shape := ⟨5, ![1, 16, 8, 128, 256]⟩
abbrev S1x1x8x16x256 : Shape := ⟨5, ![1, 1, 8, 16, 256]⟩
abbrev S1x256x1024 : Shape := ⟨3, ![1, 256, 1024]⟩
abbrev S1x1x1x128x256 : Shape := ⟨5, ![1, 1, 1, 128, 256]⟩
abbrev S128x256 : Shape := ⟨2, ![128, 256]⟩
abbrev S256x256 : Shape := ⟨2, ![256, 256]⟩
abbrev S1x1x1x256x128 : Shape := ⟨5, ![1, 1, 1, 256, 128]⟩
abbrev S256x128 : Shape := ⟨2, ![256, 128]⟩
abbrev S256 : Shape := ⟨1, ![256]⟩
abbrev S1x256 : Shape := ⟨2, ![1, 256]⟩
abbrev S1x1x1x1x256 : Shape := ⟨5, ![1, 1, 1, 1, 256]⟩
abbrev S1x256x128 : Shape := ⟨3, ![1, 256, 128]⟩

abbrev nBuf : Space → Nat
  | .hbm => 5
  | .vmem => 10
  | .smem => 0
  | _ => 0

abbrev bufTy : (tb : Table) → Fin (tcTables nBuf tb) → BufTy
  | .hbm, ⟨0, _⟩ => ⟨S2x16x8x128x256, .bf16⟩
  | .hbm, ⟨1, _⟩ => ⟨S2x16x8x256x128, .bf16⟩
  | .hbm, ⟨2, _⟩ => ⟨S2x16x8x128x256, .bf16⟩
  | .hbm, ⟨3, _⟩ => ⟨S2x16x8x16x256, .f32⟩
  | .hbm, ⟨4, _⟩ => ⟨S2x4096x1024, .bf16⟩
  | .local _ .vmem, ⟨0, _⟩ => ⟨S1x1x8x128x256, .bf16⟩
  | .local _ .vmem, ⟨1, _⟩ => ⟨S1x1x8x128x256, .bf16⟩
  | .local _ .vmem, ⟨2, _⟩ => ⟨S1x16x8x256x128, .bf16⟩
  | .local _ .vmem, ⟨3, _⟩ => ⟨S1x16x8x256x128, .bf16⟩
  | .local _ .vmem, ⟨4, _⟩ => ⟨S1x16x8x128x256, .bf16⟩
  | .local _ .vmem, ⟨5, _⟩ => ⟨S1x16x8x128x256, .bf16⟩
  | .local _ .vmem, ⟨6, _⟩ => ⟨S1x1x8x16x256, .f32⟩
  | .local _ .vmem, ⟨7, _⟩ => ⟨S1x1x8x16x256, .f32⟩
  | .local _ .vmem, ⟨8, _⟩ => ⟨S1x256x1024, .bf16⟩
  | .local _ .vmem, ⟨9, _⟩ => ⟨S1x256x1024, .bf16⟩
  | _, _ => ⟨S2x16x8x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 1, 16], ![false, false, false]⟩

def k0_off1 (i : grid0.Coords) : Fin 5 → Nat :=
  let c0_32 : Index := 0#32
  let arg2 : BitVec 32 := BitVec.ofNat 32 (i 2).val
  let v19 : Index := Scalar.indexCast arg2
  let c0_33 : Index := 0#32
  let c0_34 : Index := 0#32
  let c0_35 : Index := 0#32
  ![0, v19.toNat, 0, 0, 0]
def k0_off2 (i : grid0.Coords) : Fin 5 → Nat :=
  let c0_36 : Index := 0#32
  let arg2 : BitVec 32 := BitVec.ofNat 32 (i 2).val
  let v23 : Index := Scalar.indexCast arg2
  let c1_37 : Index := 1#32
  let c0_38 : Index := 0#32
  let c0_39 : Index := 0#32
  ![0, v23.toNat, 1, 0, 0]
def k0_off3 (i : grid0.Coords) : Fin 5 → Nat :=
  let c0_41 : Index := 0#32
  let arg2 : BitVec 32 := BitVec.ofNat 32 (i 2).val
  let v27 : Index := Scalar.indexCast arg2
  let c2_42 : Index := 2#32
  let c0_43 : Index := 0#32
  let c0_44 : Index := 0#32
  ![0, v27.toNat, 2, 0, 0]
def k0_off4 (i : grid0.Coords) : Fin 5 → Nat :=
  let c0_46 : Index := 0#32
  let arg2 : BitVec 32 := BitVec.ofNat 32 (i 2).val
  let v31 : Index := Scalar.indexCast arg2
  let c3_47 : Index := 3#32
  let c0_48 : Index := 0#32
  let c0_49 : Index := 0#32
  ![0, v31.toNat, 3, 0, 0]
def k0_off5 (i : grid0.Coords) : Fin 5 → Nat :=
  let c0_51 : Index := 0#32
  let arg2 : BitVec 32 := BitVec.ofNat 32 (i 2).val
  let v35 : Index := Scalar.indexCast arg2
  let c4_52 : Index := 4#32
  let c0_53 : Index := 0#32
  let c0_54 : Index := 0#32
  ![0, v35.toNat, 4, 0, 0]
def k0_off6 (i : grid0.Coords) : Fin 5 → Nat :=
  let c0_56 : Index := 0#32
  let arg2 : BitVec 32 := BitVec.ofNat 32 (i 2).val
  let v39 : Index := Scalar.indexCast arg2
  let c5_57 : Index := 5#32
  let c0_58 : Index := 0#32
  let c0_59 : Index := 0#32
  ![0, v39.toNat, 5, 0, 0]
def k0_off7 (i : grid0.Coords) : Fin 5 → Nat :=
  let c0_61 : Index := 0#32
  let arg2 : BitVec 32 := BitVec.ofNat 32 (i 2).val
  let v43 : Index := Scalar.indexCast arg2
  let c6_62 : Index := 6#32
  let c0_63 : Index := 0#32
  let c0_64 : Index := 0#32
  ![0, v43.toNat, 6, 0, 0]
def k0_off8 (i : grid0.Coords) : Fin 5 → Nat :=
  let c0_66 : Index := 0#32
  let arg2 : BitVec 32 := BitVec.ofNat 32 (i 2).val
  let v47 : Index := Scalar.indexCast arg2
  let c7_67 : Index := 7#32
  let c0_68 : Index := 0#32
  let c0_69 : Index := 0#32
  ![0, v47.toNat, 7, 0, 0]
def k0_off9 (i : grid0.Coords) : Fin 5 → Nat :=
  let c0_74 : Index := 0#32
  let arg2 : BitVec 32 := BitVec.ofNat 32 (i 2).val
  let v60 : Index := Scalar.indexCast arg2
  let c0_75 : Index := 0#32
  let c0_76 : Index := 0#32
  let c0_77 : Index := 0#32
  ![0, v60.toNat, 0, 0, 0]
def k0_off10 (i : grid0.Coords) : Fin 5 → Nat :=
  let c0_82 : Index := 0#32
  let arg2 : BitVec 32 := BitVec.ofNat 32 (i 2).val
  let v74 : Index := Scalar.indexCast arg2
  let c1_83 : Index := 1#32
  let c0_84 : Index := 0#32
  let c0_85 : Index := 0#32
  ![0, v74.toNat, 1, 0, 0]
def k0_off11 (i : grid0.Coords) : Fin 5 → Nat :=
  let c0_90 : Index := 0#32
  let arg2 : BitVec 32 := BitVec.ofNat 32 (i 2).val
  let v88 : Index := Scalar.indexCast arg2
  let c2_91 : Index := 2#32
  let c0_92 : Index := 0#32
  let c0_93 : Index := 0#32
  ![0, v88.toNat, 2, 0, 0]
def k0_off12 (i : grid0.Coords) : Fin 5 → Nat :=
  let c0_98 : Index := 0#32
  let arg2 : BitVec 32 := BitVec.ofNat 32 (i 2).val
  let v102 : Index := Scalar.indexCast arg2
  let c3_99 : Index := 3#32
  let c0_100 : Index := 0#32
  let c0_101 : Index := 0#32
  ![0, v102.toNat, 3, 0, 0]
def k0_off13 (i : grid0.Coords) : Fin 5 → Nat :=
  let c0_106 : Index := 0#32
  let arg2 : BitVec 32 := BitVec.ofNat 32 (i 2).val
  let v116 : Index := Scalar.indexCast arg2
  let c4_107 : Index := 4#32
  let c0_108 : Index := 0#32
  let c0_109 : Index := 0#32
  ![0, v116.toNat, 4, 0, 0]
def k0_off14 (i : grid0.Coords) : Fin 5 → Nat :=
  let c0_114 : Index := 0#32
  let arg2 : BitVec 32 := BitVec.ofNat 32 (i 2).val
  let v130 : Index := Scalar.indexCast arg2
  let c5_115 : Index := 5#32
  let c0_116 : Index := 0#32
  let c0_117 : Index := 0#32
  ![0, v130.toNat, 5, 0, 0]
def k0_off15 (i : grid0.Coords) : Fin 5 → Nat :=
  let c0_122 : Index := 0#32
  let arg2 : BitVec 32 := BitVec.ofNat 32 (i 2).val
  let v144 : Index := Scalar.indexCast arg2
  let c6_123 : Index := 6#32
  let c0_124 : Index := 0#32
  let c0_125 : Index := 0#32
  ![0, v144.toNat, 6, 0, 0]
def k0_off16 (i : grid0.Coords) : Fin 5 → Nat :=
  let c0_130 : Index := 0#32
  let arg2 : BitVec 32 := BitVec.ofNat 32 (i 2).val
  let v158 : Index := Scalar.indexCast arg2
  let c7_131 : Index := 7#32
  let c0_132 : Index := 0#32
  let c0_133 : Index := 0#32
  ![0, v158.toNat, 7, 0, 0]
@[reducible] def k0_t1_loop (i : grid0.Coords) : Scf.Loop 32 :=
  let c0_i32_139 : BitVec 32 := 0#32
  let arg2 : BitVec 32 := BitVec.ofNat 32 (i 2).val
  let c0_i32 : BitVec 32 := 0#32
  let v164 : BitVec 1 := Scalar.cmpi .sgt arg2 c0_i32
  let v165 : BitVec 32 := Scalar.extui v164
  let c0_i32_135 : BitVec 32 := 0#32
  let v166 : BitVec 1 := Scalar.cmpi .slt arg2 c0_i32_135
  let v167 : BitVec 32 := Scalar.extui v166
  let v168 : BitVec 32 := Scalar.subi v165 v167
  let c4_i32 : BitVec 32 := 4#32
  let c0_i32_136 : BitVec 32 := 0#32
  let v169 : BitVec 1 := Scalar.cmpi .sgt c4_i32 c0_i32_136
  let v170 : BitVec 32 := Scalar.extui v169
  let c0_i32_137 : BitVec 32 := 0#32
  let v171 : BitVec 1 := Scalar.cmpi .slt c4_i32 c0_i32_137
  let v172 : BitVec 32 := Scalar.extui v171
  let v173 : BitVec 32 := Scalar.subi v170 v172
  let v174 : BitVec 1 := Scalar.cmpi .ne v168 v173
  let v175 : BitVec 32 := Scalar.remsi arg2 c4_i32
  let c0_i32_138 : BitVec 32 := 0#32
  let v176 : BitVec 1 := Scalar.cmpi .ne v175 c0_i32_138
  let v177 : BitVec 1 := Scalar.andi v174 v176
  let v163 : BitVec 32 := Scalar.divsi arg2 c4_i32
  let c1_i32 : BitVec 32 := 1#32
  let v178 : BitVec 32 := Scalar.subi v163 c1_i32
  let v179 : BitVec 32 := Scalar.select v177 v178 v163
  let v180 : BitVec 32 := Scalar.subi v179 c0_i32_139
  let c1_i32_140 : BitVec 32 := 1#32
  let v182 : BitVec 32 := Scalar.divsi v180 c1_i32_140
  let v183 : BitVec 32 := Scalar.muli v182 c1_i32_140
  let v184 : BitVec 32 := Scalar.addi c0_i32_139 v183
  let c1_i32_141 : BitVec 32 := 1#32
  ⟨c0_i32_139, v184, c1_i32_141⟩
def k0_off17 (i : grid0.Coords) (k0_t1 : Fin (k0_t1_loop i).trips) (c0_i32_172 : BitVec 32) : Fin 5 → Nat :=
  let c0_177 : Index := 0#32
  let c0_i32_139 : BitVec 32 := 0#32
  let c1_i32_141 : BitVec 32 := 1#32
  let arg8 : BitVec 32 := Scf.iv c0_i32_139 c1_i32_141 k0_t1
  let c4_i32_171 : BitVec 32 := 4#32
  let v268 : BitVec 32 := Scalar.muli arg8 c4_i32_171
  let v269 : BitVec 32 := Scalar.addi v268 c0_i32_172
  let v276 : Index := Scalar.indexCast v269
  let c0_178 : Index := 0#32
  let c0_179 : Index := 0#32
  let c0_180 : Index := 0#32
  ![0, v276.toNat, 0, 0, 0]
def k0_off18 (i : grid0.Coords) (k0_t1 : Fin (k0_t1_loop i).trips) (c0_i32_172 : BitVec 32) : Fin 5 → Nat :=
  let c0_182 : Index := 0#32
  let c0_i32_139 : BitVec 32 := 0#32
  let c1_i32_141 : BitVec 32 := 1#32
  let arg8 : BitVec 32 := Scf.iv c0_i32_139 c1_i32_141 k0_t1
  let c4_i32_171 : BitVec 32 := 4#32
  let v268 : BitVec 32 := Scalar.muli arg8 c4_i32_171
  let v269 : BitVec 32 := Scalar.addi v268 c0_i32_172
  let v280 : Index := Scalar.indexCast v269
  let c1_183 : Index := 1#32
  let c0_184 : Index := 0#32
  let c0_185 : Index := 0#32
  ![0, v280.toNat, 1, 0, 0]
def k0_off19 (i : grid0.Coords) (k0_t1 : Fin (k0_t1_loop i).trips) (c0_i32_172 : BitVec 32) : Fin 5 → Nat :=
  let c0_187 : Index := 0#32
  let c0_i32_139 : BitVec 32 := 0#32
  let c1_i32_141 : BitVec 32 := 1#32
  let arg8 : BitVec 32 := Scf.iv c0_i32_139 c1_i32_141 k0_t1
  let c4_i32_171 : BitVec 32 := 4#32
  let v268 : BitVec 32 := Scalar.muli arg8 c4_i32_171
  let v269 : BitVec 32 := Scalar.addi v268 c0_i32_172
  let v284 : Index := Scalar.indexCast v269
  let c2_188 : Index := 2#32
  let c0_189 : Index := 0#32
  let c0_190 : Index := 0#32
  ![0, v284.toNat, 2, 0, 0]
def k0_off20 (i : grid0.Coords) (k0_t1 : Fin (k0_t1_loop i).trips) (c0_i32_172 : BitVec 32) : Fin 5 → Nat :=
  let c0_192 : Index := 0#32
  let c0_i32_139 : BitVec 32 := 0#32
  let c1_i32_141 : BitVec 32 := 1#32
  let arg8 : BitVec 32 := Scf.iv c0_i32_139 c1_i32_141 k0_t1
  let c4_i32_171 : BitVec 32 := 4#32
  let v268 : BitVec 32 := Scalar.muli arg8 c4_i32_171
  let v269 : BitVec 32 := Scalar.addi v268 c0_i32_172
  let v288 : Index := Scalar.indexCast v269
  let c3_193 : Index := 3#32
  let c0_194 : Index := 0#32
  let c0_195 : Index := 0#32
  ![0, v288.toNat, 3, 0, 0]
def k0_off21 (i : grid0.Coords) (k0_t1 : Fin (k0_t1_loop i).trips) (c0_i32_172 : BitVec 32) : Fin 5 → Nat :=
  let c0_197 : Index := 0#32
  let c0_i32_139 : BitVec 32 := 0#32
  let c1_i32_141 : BitVec 32 := 1#32
  let arg8 : BitVec 32 := Scf.iv c0_i32_139 c1_i32_141 k0_t1
  let c4_i32_171 : BitVec 32 := 4#32
  let v268 : BitVec 32 := Scalar.muli arg8 c4_i32_171
  let v269 : BitVec 32 := Scalar.addi v268 c0_i32_172
  let v292 : Index := Scalar.indexCast v269
  let c4_198 : Index := 4#32
  let c0_199 : Index := 0#32
  let c0_200 : Index := 0#32
  ![0, v292.toNat, 4, 0, 0]
def k0_off22 (i : grid0.Coords) (k0_t1 : Fin (k0_t1_loop i).trips) (c0_i32_172 : BitVec 32) : Fin 5 → Nat :=
  let c0_202 : Index := 0#32
  let c0_i32_139 : BitVec 32 := 0#32
  let c1_i32_141 : BitVec 32 := 1#32
  let arg8 : BitVec 32 := Scf.iv c0_i32_139 c1_i32_141 k0_t1
  let c4_i32_171 : BitVec 32 := 4#32
  let v268 : BitVec 32 := Scalar.muli arg8 c4_i32_171
  let v269 : BitVec 32 := Scalar.addi v268 c0_i32_172
  let v296 : Index := Scalar.indexCast v269
  let c5_203 : Index := 5#32
  let c0_204 : Index := 0#32
  let c0_205 : Index := 0#32
  ![0, v296.toNat, 5, 0, 0]
def k0_off23 (i : grid0.Coords) (k0_t1 : Fin (k0_t1_loop i).trips) (c0_i32_172 : BitVec 32) : Fin 5 → Nat :=
  let c0_207 : Index := 0#32
  let c0_i32_139 : BitVec 32 := 0#32
  let c1_i32_141 : BitVec 32 := 1#32
  let arg8 : BitVec 32 := Scf.iv c0_i32_139 c1_i32_141 k0_t1
  let c4_i32_171 : BitVec 32 := 4#32
  let v268 : BitVec 32 := Scalar.muli arg8 c4_i32_171
  let v269 : BitVec 32 := Scalar.addi v268 c0_i32_172
  let v300 : Index := Scalar.indexCast v269
  let c6_208 : Index := 6#32
  let c0_209 : Index := 0#32
  let c0_210 : Index := 0#32
  ![0, v300.toNat, 6, 0, 0]
def k0_off24 (i : grid0.Coords) (k0_t1 : Fin (k0_t1_loop i).trips) (c0_i32_172 : BitVec 32) : Fin 5 → Nat :=
  let c0_212 : Index := 0#32
  let c0_i32_139 : BitVec 32 := 0#32
  let c1_i32_141 : BitVec 32 := 1#32
  let arg8 : BitVec 32 := Scf.iv c0_i32_139 c1_i32_141 k0_t1
  let c4_i32_171 : BitVec 32 := 4#32
  let v268 : BitVec 32 := Scalar.muli arg8 c4_i32_171
  let v269 : BitVec 32 := Scalar.addi v268 c0_i32_172
  let v304 : Index := Scalar.indexCast v269
  let c7_213 : Index := 7#32
  let c0_214 : Index := 0#32
  let c0_215 : Index := 0#32
  ![0, v304.toNat, 7, 0, 0]
def k0_off25 (i : grid0.Coords) (k0_t1 : Fin (k0_t1_loop i).trips) (c0_i32_172 : BitVec 32) : Fin 5 → Nat :=
  let c0_222 : Index := 0#32
  let c0_223 : Index := 0#32
  let c0_224 : Index := 0#32
  let c0_i32_139 : BitVec 32 := 0#32
  let c1_i32_141 : BitVec 32 := 1#32
  let arg8 : BitVec 32 := Scf.iv c0_i32_139 c1_i32_141 k0_t1
  let c4_i32_171 : BitVec 32 := 4#32
  let v268 : BitVec 32 := Scalar.muli arg8 c4_i32_171
  let v269 : BitVec 32 := Scalar.addi v268 c0_i32_172
  let v312 : Index := Scalar.indexCast v269
  let c0_225 : Index := 0#32
  ![0, 0, 0, v312.toNat, 0]
def k0_off26 (i : grid0.Coords) (k0_t1 : Fin (k0_t1_loop i).trips) (c0_i32_172 : BitVec 32) : Fin 5 → Nat :=
  let c0_228 : Index := 0#32
  let c0_i32_139 : BitVec 32 := 0#32
  let c1_i32_141 : BitVec 32 := 1#32
  let arg8 : BitVec 32 := Scf.iv c0_i32_139 c1_i32_141 k0_t1
  let c4_i32_171 : BitVec 32 := 4#32
  let v268 : BitVec 32 := Scalar.muli arg8 c4_i32_171
  let v269 : BitVec 32 := Scalar.addi v268 c0_i32_172
  let v327 : Index := Scalar.indexCast v269
  let c0_229 : Index := 0#32
  let c0_230 : Index := 0#32
  let c0_231 : Index := 0#32
  ![0, v327.toNat, 0, 0, 0]
def k0_off27 (i : grid0.Coords) (k0_t1 : Fin (k0_t1_loop i).trips) (c0_i32_172 : BitVec 32) : Fin 5 → Nat :=
  let c0_239 : Index := 0#32
  let c0_240 : Index := 0#32
  let c1_241 : Index := 1#32
  let c0_i32_139 : BitVec 32 := 0#32
  let c1_i32_141 : BitVec 32 := 1#32
  let arg8 : BitVec 32 := Scf.iv c0_i32_139 c1_i32_141 k0_t1
  let c4_i32_171 : BitVec 32 := 4#32
  let v268 : BitVec 32 := Scalar.muli arg8 c4_i32_171
  let v269 : BitVec 32 := Scalar.addi v268 c0_i32_172
  let v343 : Index := Scalar.indexCast v269
  let c0_242 : Index := 0#32
  ![0, 0, 1, v343.toNat, 0]
def k0_off28 (i : grid0.Coords) (k0_t1 : Fin (k0_t1_loop i).trips) (c0_i32_172 : BitVec 32) : Fin 5 → Nat :=
  let c0_245 : Index := 0#32
  let c0_i32_139 : BitVec 32 := 0#32
  let c1_i32_141 : BitVec 32 := 1#32
  let arg8 : BitVec 32 := Scf.iv c0_i32_139 c1_i32_141 k0_t1
  let c4_i32_171 : BitVec 32 := 4#32
  let v268 : BitVec 32 := Scalar.muli arg8 c4_i32_171
  let v269 : BitVec 32 := Scalar.addi v268 c0_i32_172
  let v358 : Index := Scalar.indexCast v269
  let c1_246 : Index := 1#32
  let c0_247 : Index := 0#32
  let c0_248 : Index := 0#32
  ![0, v358.toNat, 1, 0, 0]
def k0_off29 (i : grid0.Coords) (k0_t1 : Fin (k0_t1_loop i).trips) (c0_i32_172 : BitVec 32) : Fin 5 → Nat :=
  let c0_256 : Index := 0#32
  let c0_257 : Index := 0#32
  let c2_258 : Index := 2#32
  let c0_i32_139 : BitVec 32 := 0#32
  let c1_i32_141 : BitVec 32 := 1#32
  let arg8 : BitVec 32 := Scf.iv c0_i32_139 c1_i32_141 k0_t1
  let c4_i32_171 : BitVec 32 := 4#32
  let v268 : BitVec 32 := Scalar.muli arg8 c4_i32_171
  let v269 : BitVec 32 := Scalar.addi v268 c0_i32_172
  let v374 : Index := Scalar.indexCast v269
  let c0_259 : Index := 0#32
  ![0, 0, 2, v374.toNat, 0]
def k0_off30 (i : grid0.Coords) (k0_t1 : Fin (k0_t1_loop i).trips) (c0_i32_172 : BitVec 32) : Fin 5 → Nat :=
  let c0_262 : Index := 0#32
  let c0_i32_139 : BitVec 32 := 0#32
  let c1_i32_141 : BitVec 32 := 1#32
  let arg8 : BitVec 32 := Scf.iv c0_i32_139 c1_i32_141 k0_t1
  let c4_i32_171 : BitVec 32 := 4#32
  let v268 : BitVec 32 := Scalar.muli arg8 c4_i32_171
  let v269 : BitVec 32 := Scalar.addi v268 c0_i32_172
  let v389 : Index := Scalar.indexCast v269
  let c2_263 : Index := 2#32
  let c0_264 : Index := 0#32
  let c0_265 : Index := 0#32
  ![0, v389.toNat, 2, 0, 0]
def k0_off31 (i : grid0.Coords) (k0_t1 : Fin (k0_t1_loop i).trips) (c0_i32_172 : BitVec 32) : Fin 5 → Nat :=
  let c0_273 : Index := 0#32
  let c0_274 : Index := 0#32
  let c3_275 : Index := 3#32
  let c0_i32_139 : BitVec 32 := 0#32
  let c1_i32_141 : BitVec 32 := 1#32
  let arg8 : BitVec 32 := Scf.iv c0_i32_139 c1_i32_141 k0_t1
  let c4_i32_171 : BitVec 32 := 4#32
  let v268 : BitVec 32 := Scalar.muli arg8 c4_i32_171
  let v269 : BitVec 32 := Scalar.addi v268 c0_i32_172
  let v405 : Index := Scalar.indexCast v269
  let c0_276 : Index := 0#32
  ![0, 0, 3, v405.toNat, 0]
def k0_off32 (i : grid0.Coords) (k0_t1 : Fin (k0_t1_loop i).trips) (c0_i32_172 : BitVec 32) : Fin 5 → Nat :=
  let c0_279 : Index := 0#32
  let c0_i32_139 : BitVec 32 := 0#32
  let c1_i32_141 : BitVec 32 := 1#32
  let arg8 : BitVec 32 := Scf.iv c0_i32_139 c1_i32_141 k0_t1
  let c4_i32_171 : BitVec 32 := 4#32
  let v268 : BitVec 32 := Scalar.muli arg8 c4_i32_171
  let v269 : BitVec 32 := Scalar.addi v268 c0_i32_172
  let v420 : Index := Scalar.indexCast v269
  let c3_280 : Index := 3#32
  let c0_281 : Index := 0#32
  let c0_282 : Index := 0#32
  ![0, v420.toNat, 3, 0, 0]
def k0_off33 (i : grid0.Coords) (k0_t1 : Fin (k0_t1_loop i).trips) (c0_i32_172 : BitVec 32) : Fin 5 → Nat :=
  let c0_290 : Index := 0#32
  let c0_291 : Index := 0#32
  let c4_292 : Index := 4#32
  let c0_i32_139 : BitVec 32 := 0#32
  let c1_i32_141 : BitVec 32 := 1#32
  let arg8 : BitVec 32 := Scf.iv c0_i32_139 c1_i32_141 k0_t1
  let c4_i32_171 : BitVec 32 := 4#32
  let v268 : BitVec 32 := Scalar.muli arg8 c4_i32_171
  let v269 : BitVec 32 := Scalar.addi v268 c0_i32_172
  let v436 : Index := Scalar.indexCast v269
  let c0_293 : Index := 0#32
  ![0, 0, 4, v436.toNat, 0]
def k0_off34 (i : grid0.Coords) (k0_t1 : Fin (k0_t1_loop i).trips) (c0_i32_172 : BitVec 32) : Fin 5 → Nat :=
  let c0_296 : Index := 0#32
  let c0_i32_139 : BitVec 32 := 0#32
  let c1_i32_141 : BitVec 32 := 1#32
  let arg8 : BitVec 32 := Scf.iv c0_i32_139 c1_i32_141 k0_t1
  let c4_i32_171 : BitVec 32 := 4#32
  let v268 : BitVec 32 := Scalar.muli arg8 c4_i32_171
  let v269 : BitVec 32 := Scalar.addi v268 c0_i32_172
  let v451 : Index := Scalar.indexCast v269
  let c4_297 : Index := 4#32
  let c0_298 : Index := 0#32
  let c0_299 : Index := 0#32
  ![0, v451.toNat, 4, 0, 0]
def k0_off35 (i : grid0.Coords) (k0_t1 : Fin (k0_t1_loop i).trips) (c0_i32_172 : BitVec 32) : Fin 5 → Nat :=
  let c0_307 : Index := 0#32
  let c0_308 : Index := 0#32
  let c5_309 : Index := 5#32
  let c0_i32_139 : BitVec 32 := 0#32
  let c1_i32_141 : BitVec 32 := 1#32
  let arg8 : BitVec 32 := Scf.iv c0_i32_139 c1_i32_141 k0_t1
  let c4_i32_171 : BitVec 32 := 4#32
  let v268 : BitVec 32 := Scalar.muli arg8 c4_i32_171
  let v269 : BitVec 32 := Scalar.addi v268 c0_i32_172
  let v467 : Index := Scalar.indexCast v269
  let c0_310 : Index := 0#32
  ![0, 0, 5, v467.toNat, 0]
def k0_off36 (i : grid0.Coords) (k0_t1 : Fin (k0_t1_loop i).trips) (c0_i32_172 : BitVec 32) : Fin 5 → Nat :=
  let c0_313 : Index := 0#32
  let c0_i32_139 : BitVec 32 := 0#32
  let c1_i32_141 : BitVec 32 := 1#32
  let arg8 : BitVec 32 := Scf.iv c0_i32_139 c1_i32_141 k0_t1
  let c4_i32_171 : BitVec 32 := 4#32
  let v268 : BitVec 32 := Scalar.muli arg8 c4_i32_171
  let v269 : BitVec 32 := Scalar.addi v268 c0_i32_172
  let v482 : Index := Scalar.indexCast v269
  let c5_314 : Index := 5#32
  let c0_315 : Index := 0#32
  let c0_316 : Index := 0#32
  ![0, v482.toNat, 5, 0, 0]
def k0_off37 (i : grid0.Coords) (k0_t1 : Fin (k0_t1_loop i).trips) (c0_i32_172 : BitVec 32) : Fin 5 → Nat :=
  let c0_324 : Index := 0#32
  let c0_325 : Index := 0#32
  let c6_326 : Index := 6#32
  let c0_i32_139 : BitVec 32 := 0#32
  let c1_i32_141 : BitVec 32 := 1#32
  let arg8 : BitVec 32 := Scf.iv c0_i32_139 c1_i32_141 k0_t1
  let c4_i32_171 : BitVec 32 := 4#32
  let v268 : BitVec 32 := Scalar.muli arg8 c4_i32_171
  let v269 : BitVec 32 := Scalar.addi v268 c0_i32_172
  let v498 : Index := Scalar.indexCast v269
  let c0_327 : Index := 0#32
  ![0, 0, 6, v498.toNat, 0]
def k0_off38 (i : grid0.Coords) (k0_t1 : Fin (k0_t1_loop i).trips) (c0_i32_172 : BitVec 32) : Fin 5 → Nat :=
  let c0_330 : Index := 0#32
  let c0_i32_139 : BitVec 32 := 0#32
  let c1_i32_141 : BitVec 32 := 1#32
  let arg8 : BitVec 32 := Scf.iv c0_i32_139 c1_i32_141 k0_t1
  let c4_i32_171 : BitVec 32 := 4#32
  let v268 : BitVec 32 := Scalar.muli arg8 c4_i32_171
  let v269 : BitVec 32 := Scalar.addi v268 c0_i32_172
  let v513 : Index := Scalar.indexCast v269
  let c6_331 : Index := 6#32
  let c0_332 : Index := 0#32
  let c0_333 : Index := 0#32
  ![0, v513.toNat, 6, 0, 0]
def k0_off39 (i : grid0.Coords) (k0_t1 : Fin (k0_t1_loop i).trips) (c0_i32_172 : BitVec 32) : Fin 5 → Nat :=
  let c0_341 : Index := 0#32
  let c0_342 : Index := 0#32
  let c7_343 : Index := 7#32
  let c0_i32_139 : BitVec 32 := 0#32
  let c1_i32_141 : BitVec 32 := 1#32
  let arg8 : BitVec 32 := Scf.iv c0_i32_139 c1_i32_141 k0_t1
  let c4_i32_171 : BitVec 32 := 4#32
  let v268 : BitVec 32 := Scalar.muli arg8 c4_i32_171
  let v269 : BitVec 32 := Scalar.addi v268 c0_i32_172
  let v529 : Index := Scalar.indexCast v269
  let c0_344 : Index := 0#32
  ![0, 0, 7, v529.toNat, 0]
def k0_off40 (i : grid0.Coords) (k0_t1 : Fin (k0_t1_loop i).trips) (c0_i32_172 : BitVec 32) : Fin 5 → Nat :=
  let c0_347 : Index := 0#32
  let c0_i32_139 : BitVec 32 := 0#32
  let c1_i32_141 : BitVec 32 := 1#32
  let arg8 : BitVec 32 := Scf.iv c0_i32_139 c1_i32_141 k0_t1
  let c4_i32_171 : BitVec 32 := 4#32
  let v268 : BitVec 32 := Scalar.muli arg8 c4_i32_171
  let v269 : BitVec 32 := Scalar.addi v268 c0_i32_172
  let v544 : Index := Scalar.indexCast v269
  let c7_348 : Index := 7#32
  let c0_349 : Index := 0#32
  let c0_350 : Index := 0#32
  ![0, v544.toNat, 7, 0, 0]
@[reducible] def k0_t2_loop (i : grid0.Coords) : Scf.Loop 32 :=
  let c0_i32_139 : BitVec 32 := 0#32
  let arg2 : BitVec 32 := BitVec.ofNat 32 (i 2).val
  let c0_i32 : BitVec 32 := 0#32
  let v164 : BitVec 1 := Scalar.cmpi .sgt arg2 c0_i32
  let v165 : BitVec 32 := Scalar.extui v164
  let c0_i32_135 : BitVec 32 := 0#32
  let v166 : BitVec 1 := Scalar.cmpi .slt arg2 c0_i32_135
  let v167 : BitVec 32 := Scalar.extui v166
  let v168 : BitVec 32 := Scalar.subi v165 v167
  let c4_i32 : BitVec 32 := 4#32
  let c0_i32_136 : BitVec 32 := 0#32
  let v169 : BitVec 1 := Scalar.cmpi .sgt c4_i32 c0_i32_136
  let v170 : BitVec 32 := Scalar.extui v169
  let c0_i32_137 : BitVec 32 := 0#32
  let v171 : BitVec 1 := Scalar.cmpi .slt c4_i32 c0_i32_137
  let v172 : BitVec 32 := Scalar.extui v171
  let v173 : BitVec 32 := Scalar.subi v170 v172
  let v174 : BitVec 1 := Scalar.cmpi .ne v168 v173
  let v175 : BitVec 32 := Scalar.remsi arg2 c4_i32
  let c0_i32_138 : BitVec 32 := 0#32
  let v176 : BitVec 1 := Scalar.cmpi .ne v175 c0_i32_138
  let v177 : BitVec 1 := Scalar.andi v174 v176
  let v163 : BitVec 32 := Scalar.divsi arg2 c4_i32
  let c1_i32 : BitVec 32 := 1#32
  let v178 : BitVec 32 := Scalar.subi v163 c1_i32
  let v179 : BitVec 32 := Scalar.select v177 v178 v163
  let v180 : BitVec 32 := Scalar.subi v179 c0_i32_139
  let c1_i32_140 : BitVec 32 := 1#32
  let v182 : BitVec 32 := Scalar.divsi v180 c1_i32_140
  let v183 : BitVec 32 := Scalar.muli v182 c1_i32_140
  let v184 : BitVec 32 := Scalar.addi c0_i32_139 v183
  let v181 : BitVec 32 := Scalar.addi c0_i32_139 v180
  let c1_i32_142 : BitVec 32 := 1#32
  ⟨v184, v181, c1_i32_142⟩
def k0_off41 (i : grid0.Coords) (k0_t2 : Fin (k0_t2_loop i).trips) (c0_i32_172 : BitVec 32) : Fin 5 → Nat :=
  let c0_177 : Index := 0#32
  let c0_i32_139 : BitVec 32 := 0#32
  let arg2 : BitVec 32 := BitVec.ofNat 32 (i 2).val
  let c0_i32 : BitVec 32 := 0#32
  let v164 : BitVec 1 := Scalar.cmpi .sgt arg2 c0_i32
  let v165 : BitVec 32 := Scalar.extui v164
  let c0_i32_135 : BitVec 32 := 0#32
  let v166 : BitVec 1 := Scalar.cmpi .slt arg2 c0_i32_135
  let v167 : BitVec 32 := Scalar.extui v166
  let v168 : BitVec 32 := Scalar.subi v165 v167
  let c4_i32 : BitVec 32 := 4#32
  let c0_i32_136 : BitVec 32 := 0#32
  let v169 : BitVec 1 := Scalar.cmpi .sgt c4_i32 c0_i32_136
  let v170 : BitVec 32 := Scalar.extui v169
  let c0_i32_137 : BitVec 32 := 0#32
  let v171 : BitVec 1 := Scalar.cmpi .slt c4_i32 c0_i32_137
  let v172 : BitVec 32 := Scalar.extui v171
  let v173 : BitVec 32 := Scalar.subi v170 v172
  let v174 : BitVec 1 := Scalar.cmpi .ne v168 v173
  let v175 : BitVec 32 := Scalar.remsi arg2 c4_i32
  let c0_i32_138 : BitVec 32 := 0#32
  let v176 : BitVec 1 := Scalar.cmpi .ne v175 c0_i32_138
  let v177 : BitVec 1 := Scalar.andi v174 v176
  let v163 : BitVec 32 := Scalar.divsi arg2 c4_i32
  let c1_i32 : BitVec 32 := 1#32
  let v178 : BitVec 32 := Scalar.subi v163 c1_i32
  let v179 : BitVec 32 := Scalar.select v177 v178 v163
  let v180 : BitVec 32 := Scalar.subi v179 c0_i32_139
  let c1_i32_140 : BitVec 32 := 1#32
  let v182 : BitVec 32 := Scalar.divsi v180 c1_i32_140
  let v183 : BitVec 32 := Scalar.muli v182 c1_i32_140
  let v184 : BitVec 32 := Scalar.addi c0_i32_139 v183
  let c1_i32_142 : BitVec 32 := 1#32
  let arg8 : BitVec 32 := Scf.iv v184 c1_i32_142 k0_t2
  let c4_i32_171 : BitVec 32 := 4#32
  let v268 : BitVec 32 := Scalar.muli arg8 c4_i32_171
  let v269 : BitVec 32 := Scalar.addi v268 c0_i32_172
  let v276 : Index := Scalar.indexCast v269
  let c0_178 : Index := 0#32
  let c0_179 : Index := 0#32
  let c0_180 : Index := 0#32
  ![0, v276.toNat, 0, 0, 0]
def k0_off42 (i : grid0.Coords) (k0_t2 : Fin (k0_t2_loop i).trips) (c0_i32_172 : BitVec 32) : Fin 5 → Nat :=
  let c0_182 : Index := 0#32
  let c0_i32_139 : BitVec 32 := 0#32
  let arg2 : BitVec 32 := BitVec.ofNat 32 (i 2).val
  let c0_i32 : BitVec 32 := 0#32
  let v164 : BitVec 1 := Scalar.cmpi .sgt arg2 c0_i32
  let v165 : BitVec 32 := Scalar.extui v164
  let c0_i32_135 : BitVec 32 := 0#32
  let v166 : BitVec 1 := Scalar.cmpi .slt arg2 c0_i32_135
  let v167 : BitVec 32 := Scalar.extui v166
  let v168 : BitVec 32 := Scalar.subi v165 v167
  let c4_i32 : BitVec 32 := 4#32
  let c0_i32_136 : BitVec 32 := 0#32
  let v169 : BitVec 1 := Scalar.cmpi .sgt c4_i32 c0_i32_136
  let v170 : BitVec 32 := Scalar.extui v169
  let c0_i32_137 : BitVec 32 := 0#32
  let v171 : BitVec 1 := Scalar.cmpi .slt c4_i32 c0_i32_137
  let v172 : BitVec 32 := Scalar.extui v171
  let v173 : BitVec 32 := Scalar.subi v170 v172
  let v174 : BitVec 1 := Scalar.cmpi .ne v168 v173
  let v175 : BitVec 32 := Scalar.remsi arg2 c4_i32
  let c0_i32_138 : BitVec 32 := 0#32
  let v176 : BitVec 1 := Scalar.cmpi .ne v175 c0_i32_138
  let v177 : BitVec 1 := Scalar.andi v174 v176
  let v163 : BitVec 32 := Scalar.divsi arg2 c4_i32
  let c1_i32 : BitVec 32 := 1#32
  let v178 : BitVec 32 := Scalar.subi v163 c1_i32
  let v179 : BitVec 32 := Scalar.select v177 v178 v163
  let v180 : BitVec 32 := Scalar.subi v179 c0_i32_139
  let c1_i32_140 : BitVec 32 := 1#32
  let v182 : BitVec 32 := Scalar.divsi v180 c1_i32_140
  let v183 : BitVec 32 := Scalar.muli v182 c1_i32_140
  let v184 : BitVec 32 := Scalar.addi c0_i32_139 v183
  let c1_i32_142 : BitVec 32 := 1#32
  let arg8 : BitVec 32 := Scf.iv v184 c1_i32_142 k0_t2
  let c4_i32_171 : BitVec 32 := 4#32
  let v268 : BitVec 32 := Scalar.muli arg8 c4_i32_171
  let v269 : BitVec 32 := Scalar.addi v268 c0_i32_172
  let v280 : Index := Scalar.indexCast v269
  let c1_183 : Index := 1#32
  let c0_184 : Index := 0#32
  let c0_185 : Index := 0#32
  ![0, v280.toNat, 1, 0, 0]
def k0_off43 (i : grid0.Coords) (k0_t2 : Fin (k0_t2_loop i).trips) (c0_i32_172 : BitVec 32) : Fin 5 → Nat :=
  let c0_187 : Index := 0#32
  let c0_i32_139 : BitVec 32 := 0#32
  let arg2 : BitVec 32 := BitVec.ofNat 32 (i 2).val
  let c0_i32 : BitVec 32 := 0#32
  let v164 : BitVec 1 := Scalar.cmpi .sgt arg2 c0_i32
  let v165 : BitVec 32 := Scalar.extui v164
  let c0_i32_135 : BitVec 32 := 0#32
  let v166 : BitVec 1 := Scalar.cmpi .slt arg2 c0_i32_135
  let v167 : BitVec 32 := Scalar.extui v166
  let v168 : BitVec 32 := Scalar.subi v165 v167
  let c4_i32 : BitVec 32 := 4#32
  let c0_i32_136 : BitVec 32 := 0#32
  let v169 : BitVec 1 := Scalar.cmpi .sgt c4_i32 c0_i32_136
  let v170 : BitVec 32 := Scalar.extui v169
  let c0_i32_137 : BitVec 32 := 0#32
  let v171 : BitVec 1 := Scalar.cmpi .slt c4_i32 c0_i32_137
  let v172 : BitVec 32 := Scalar.extui v171
  let v173 : BitVec 32 := Scalar.subi v170 v172
  let v174 : BitVec 1 := Scalar.cmpi .ne v168 v173
  let v175 : BitVec 32 := Scalar.remsi arg2 c4_i32
  let c0_i32_138 : BitVec 32 := 0#32
  let v176 : BitVec 1 := Scalar.cmpi .ne v175 c0_i32_138
  let v177 : BitVec 1 := Scalar.andi v174 v176
  let v163 : BitVec 32 := Scalar.divsi arg2 c4_i32
  let c1_i32 : BitVec 32 := 1#32
  let v178 : BitVec 32 := Scalar.subi v163 c1_i32
  let v179 : BitVec 32 := Scalar.select v177 v178 v163
  let v180 : BitVec 32 := Scalar.subi v179 c0_i32_139
  let c1_i32_140 : BitVec 32 := 1#32
  let v182 : BitVec 32 := Scalar.divsi v180 c1_i32_140
  let v183 : BitVec 32 := Scalar.muli v182 c1_i32_140
  let v184 : BitVec 32 := Scalar.addi c0_i32_139 v183
  let c1_i32_142 : BitVec 32 := 1#32
  let arg8 : BitVec 32 := Scf.iv v184 c1_i32_142 k0_t2
  let c4_i32_171 : BitVec 32 := 4#32
  let v268 : BitVec 32 := Scalar.muli arg8 c4_i32_171
  let v269 : BitVec 32 := Scalar.addi v268 c0_i32_172
  let v284 : Index := Scalar.indexCast v269
  let c2_188 : Index := 2#32
  let c0_189 : Index := 0#32
  let c0_190 : Index := 0#32
  ![0, v284.toNat, 2, 0, 0]
def k0_off44 (i : grid0.Coords) (k0_t2 : Fin (k0_t2_loop i).trips) (c0_i32_172 : BitVec 32) : Fin 5 → Nat :=
  let c0_192 : Index := 0#32
  let c0_i32_139 : BitVec 32 := 0#32
  let arg2 : BitVec 32 := BitVec.ofNat 32 (i 2).val
  let c0_i32 : BitVec 32 := 0#32
  let v164 : BitVec 1 := Scalar.cmpi .sgt arg2 c0_i32
  let v165 : BitVec 32 := Scalar.extui v164
  let c0_i32_135 : BitVec 32 := 0#32
  let v166 : BitVec 1 := Scalar.cmpi .slt arg2 c0_i32_135
  let v167 : BitVec 32 := Scalar.extui v166
  let v168 : BitVec 32 := Scalar.subi v165 v167
  let c4_i32 : BitVec 32 := 4#32
  let c0_i32_136 : BitVec 32 := 0#32
  let v169 : BitVec 1 := Scalar.cmpi .sgt c4_i32 c0_i32_136
  let v170 : BitVec 32 := Scalar.extui v169
  let c0_i32_137 : BitVec 32 := 0#32
  let v171 : BitVec 1 := Scalar.cmpi .slt c4_i32 c0_i32_137
  let v172 : BitVec 32 := Scalar.extui v171
  let v173 : BitVec 32 := Scalar.subi v170 v172
  let v174 : BitVec 1 := Scalar.cmpi .ne v168 v173
  let v175 : BitVec 32 := Scalar.remsi arg2 c4_i32
  let c0_i32_138 : BitVec 32 := 0#32
  let v176 : BitVec 1 := Scalar.cmpi .ne v175 c0_i32_138
  let v177 : BitVec 1 := Scalar.andi v174 v176
  let v163 : BitVec 32 := Scalar.divsi arg2 c4_i32
  let c1_i32 : BitVec 32 := 1#32
  let v178 : BitVec 32 := Scalar.subi v163 c1_i32
  let v179 : BitVec 32 := Scalar.select v177 v178 v163
  let v180 : BitVec 32 := Scalar.subi v179 c0_i32_139
  let c1_i32_140 : BitVec 32 := 1#32
  let v182 : BitVec 32 := Scalar.divsi v180 c1_i32_140
  let v183 : BitVec 32 := Scalar.muli v182 c1_i32_140
  let v184 : BitVec 32 := Scalar.addi c0_i32_139 v183
  let c1_i32_142 : BitVec 32 := 1#32
  let arg8 : BitVec 32 := Scf.iv v184 c1_i32_142 k0_t2
  let c4_i32_171 : BitVec 32 := 4#32
  let v268 : BitVec 32 := Scalar.muli arg8 c4_i32_171
  let v269 : BitVec 32 := Scalar.addi v268 c0_i32_172
  let v288 : Index := Scalar.indexCast v269
  let c3_193 : Index := 3#32
  let c0_194 : Index := 0#32
  let c0_195 : Index := 0#32
  ![0, v288.toNat, 3, 0, 0]
def k0_off45 (i : grid0.Coords) (k0_t2 : Fin (k0_t2_loop i).trips) (c0_i32_172 : BitVec 32) : Fin 5 → Nat :=
  let c0_197 : Index := 0#32
  let c0_i32_139 : BitVec 32 := 0#32
  let arg2 : BitVec 32 := BitVec.ofNat 32 (i 2).val
  let c0_i32 : BitVec 32 := 0#32
  let v164 : BitVec 1 := Scalar.cmpi .sgt arg2 c0_i32
  let v165 : BitVec 32 := Scalar.extui v164
  let c0_i32_135 : BitVec 32 := 0#32
  let v166 : BitVec 1 := Scalar.cmpi .slt arg2 c0_i32_135
  let v167 : BitVec 32 := Scalar.extui v166
  let v168 : BitVec 32 := Scalar.subi v165 v167
  let c4_i32 : BitVec 32 := 4#32
  let c0_i32_136 : BitVec 32 := 0#32
  let v169 : BitVec 1 := Scalar.cmpi .sgt c4_i32 c0_i32_136
  let v170 : BitVec 32 := Scalar.extui v169
  let c0_i32_137 : BitVec 32 := 0#32
  let v171 : BitVec 1 := Scalar.cmpi .slt c4_i32 c0_i32_137
  let v172 : BitVec 32 := Scalar.extui v171
  let v173 : BitVec 32 := Scalar.subi v170 v172
  let v174 : BitVec 1 := Scalar.cmpi .ne v168 v173
  let v175 : BitVec 32 := Scalar.remsi arg2 c4_i32
  let c0_i32_138 : BitVec 32 := 0#32
  let v176 : BitVec 1 := Scalar.cmpi .ne v175 c0_i32_138
  let v177 : BitVec 1 := Scalar.andi v174 v176
  let v163 : BitVec 32 := Scalar.divsi arg2 c4_i32
  let c1_i32 : BitVec 32 := 1#32
  let v178 : BitVec 32 := Scalar.subi v163 c1_i32
  let v179 : BitVec 32 := Scalar.select v177 v178 v163
  let v180 : BitVec 32 := Scalar.subi v179 c0_i32_139
  let c1_i32_140 : BitVec 32 := 1#32
  let v182 : BitVec 32 := Scalar.divsi v180 c1_i32_140
  let v183 : BitVec 32 := Scalar.muli v182 c1_i32_140
  let v184 : BitVec 32 := Scalar.addi c0_i32_139 v183
  let c1_i32_142 : BitVec 32 := 1#32
  let arg8 : BitVec 32 := Scf.iv v184 c1_i32_142 k0_t2
  let c4_i32_171 : BitVec 32 := 4#32
  let v268 : BitVec 32 := Scalar.muli arg8 c4_i32_171
  let v269 : BitVec 32 := Scalar.addi v268 c0_i32_172
  let v292 : Index := Scalar.indexCast v269
  let c4_198 : Index := 4#32
  let c0_199 : Index := 0#32
  let c0_200 : Index := 0#32
  ![0, v292.toNat, 4, 0, 0]
def k0_off46 (i : grid0.Coords) (k0_t2 : Fin (k0_t2_loop i).trips) (c0_i32_172 : BitVec 32) : Fin 5 → Nat :=
  let c0_202 : Index := 0#32
  let c0_i32_139 : BitVec 32 := 0#32
  let arg2 : BitVec 32 := BitVec.ofNat 32 (i 2).val
  let c0_i32 : BitVec 32 := 0#32
  let v164 : BitVec 1 := Scalar.cmpi .sgt arg2 c0_i32
  let v165 : BitVec 32 := Scalar.extui v164
  let c0_i32_135 : BitVec 32 := 0#32
  let v166 : BitVec 1 := Scalar.cmpi .slt arg2 c0_i32_135
  let v167 : BitVec 32 := Scalar.extui v166
  let v168 : BitVec 32 := Scalar.subi v165 v167
  let c4_i32 : BitVec 32 := 4#32
  let c0_i32_136 : BitVec 32 := 0#32
  let v169 : BitVec 1 := Scalar.cmpi .sgt c4_i32 c0_i32_136
  let v170 : BitVec 32 := Scalar.extui v169
  let c0_i32_137 : BitVec 32 := 0#32
  let v171 : BitVec 1 := Scalar.cmpi .slt c4_i32 c0_i32_137
  let v172 : BitVec 32 := Scalar.extui v171
  let v173 : BitVec 32 := Scalar.subi v170 v172
  let v174 : BitVec 1 := Scalar.cmpi .ne v168 v173
  let v175 : BitVec 32 := Scalar.remsi arg2 c4_i32
  let c0_i32_138 : BitVec 32 := 0#32
  let v176 : BitVec 1 := Scalar.cmpi .ne v175 c0_i32_138
  let v177 : BitVec 1 := Scalar.andi v174 v176
  let v163 : BitVec 32 := Scalar.divsi arg2 c4_i32
  let c1_i32 : BitVec 32 := 1#32
  let v178 : BitVec 32 := Scalar.subi v163 c1_i32
  let v179 : BitVec 32 := Scalar.select v177 v178 v163
  let v180 : BitVec 32 := Scalar.subi v179 c0_i32_139
  let c1_i32_140 : BitVec 32 := 1#32
  let v182 : BitVec 32 := Scalar.divsi v180 c1_i32_140
  let v183 : BitVec 32 := Scalar.muli v182 c1_i32_140
  let v184 : BitVec 32 := Scalar.addi c0_i32_139 v183
  let c1_i32_142 : BitVec 32 := 1#32
  let arg8 : BitVec 32 := Scf.iv v184 c1_i32_142 k0_t2
  let c4_i32_171 : BitVec 32 := 4#32
  let v268 : BitVec 32 := Scalar.muli arg8 c4_i32_171
  let v269 : BitVec 32 := Scalar.addi v268 c0_i32_172
  let v296 : Index := Scalar.indexCast v269
  let c5_203 : Index := 5#32
  let c0_204 : Index := 0#32
  let c0_205 : Index := 0#32
  ![0, v296.toNat, 5, 0, 0]
def k0_off47 (i : grid0.Coords) (k0_t2 : Fin (k0_t2_loop i).trips) (c0_i32_172 : BitVec 32) : Fin 5 → Nat :=
  let c0_207 : Index := 0#32
  let c0_i32_139 : BitVec 32 := 0#32
  let arg2 : BitVec 32 := BitVec.ofNat 32 (i 2).val
  let c0_i32 : BitVec 32 := 0#32
  let v164 : BitVec 1 := Scalar.cmpi .sgt arg2 c0_i32
  let v165 : BitVec 32 := Scalar.extui v164
  let c0_i32_135 : BitVec 32 := 0#32
  let v166 : BitVec 1 := Scalar.cmpi .slt arg2 c0_i32_135
  let v167 : BitVec 32 := Scalar.extui v166
  let v168 : BitVec 32 := Scalar.subi v165 v167
  let c4_i32 : BitVec 32 := 4#32
  let c0_i32_136 : BitVec 32 := 0#32
  let v169 : BitVec 1 := Scalar.cmpi .sgt c4_i32 c0_i32_136
  let v170 : BitVec 32 := Scalar.extui v169
  let c0_i32_137 : BitVec 32 := 0#32
  let v171 : BitVec 1 := Scalar.cmpi .slt c4_i32 c0_i32_137
  let v172 : BitVec 32 := Scalar.extui v171
  let v173 : BitVec 32 := Scalar.subi v170 v172
  let v174 : BitVec 1 := Scalar.cmpi .ne v168 v173
  let v175 : BitVec 32 := Scalar.remsi arg2 c4_i32
  let c0_i32_138 : BitVec 32 := 0#32
  let v176 : BitVec 1 := Scalar.cmpi .ne v175 c0_i32_138
  let v177 : BitVec 1 := Scalar.andi v174 v176
  let v163 : BitVec 32 := Scalar.divsi arg2 c4_i32
  let c1_i32 : BitVec 32 := 1#32
  let v178 : BitVec 32 := Scalar.subi v163 c1_i32
  let v179 : BitVec 32 := Scalar.select v177 v178 v163
  let v180 : BitVec 32 := Scalar.subi v179 c0_i32_139
  let c1_i32_140 : BitVec 32 := 1#32
  let v182 : BitVec 32 := Scalar.divsi v180 c1_i32_140
  let v183 : BitVec 32 := Scalar.muli v182 c1_i32_140
  let v184 : BitVec 32 := Scalar.addi c0_i32_139 v183
  let c1_i32_142 : BitVec 32 := 1#32
  let arg8 : BitVec 32 := Scf.iv v184 c1_i32_142 k0_t2
  let c4_i32_171 : BitVec 32 := 4#32
  let v268 : BitVec 32 := Scalar.muli arg8 c4_i32_171
  let v269 : BitVec 32 := Scalar.addi v268 c0_i32_172
  let v300 : Index := Scalar.indexCast v269
  let c6_208 : Index := 6#32
  let c0_209 : Index := 0#32
  let c0_210 : Index := 0#32
  ![0, v300.toNat, 6, 0, 0]
def k0_off48 (i : grid0.Coords) (k0_t2 : Fin (k0_t2_loop i).trips) (c0_i32_172 : BitVec 32) : Fin 5 → Nat :=
  let c0_212 : Index := 0#32
  let c0_i32_139 : BitVec 32 := 0#32
  let arg2 : BitVec 32 := BitVec.ofNat 32 (i 2).val
  let c0_i32 : BitVec 32 := 0#32
  let v164 : BitVec 1 := Scalar.cmpi .sgt arg2 c0_i32
  let v165 : BitVec 32 := Scalar.extui v164
  let c0_i32_135 : BitVec 32 := 0#32
  let v166 : BitVec 1 := Scalar.cmpi .slt arg2 c0_i32_135
  let v167 : BitVec 32 := Scalar.extui v166
  let v168 : BitVec 32 := Scalar.subi v165 v167
  let c4_i32 : BitVec 32 := 4#32
  let c0_i32_136 : BitVec 32 := 0#32
  let v169 : BitVec 1 := Scalar.cmpi .sgt c4_i32 c0_i32_136
  let v170 : BitVec 32 := Scalar.extui v169
  let c0_i32_137 : BitVec 32 := 0#32
  let v171 : BitVec 1 := Scalar.cmpi .slt c4_i32 c0_i32_137
  let v172 : BitVec 32 := Scalar.extui v171
  let v173 : BitVec 32 := Scalar.subi v170 v172
  let v174 : BitVec 1 := Scalar.cmpi .ne v168 v173
  let v175 : BitVec 32 := Scalar.remsi arg2 c4_i32
  let c0_i32_138 : BitVec 32 := 0#32
  let v176 : BitVec 1 := Scalar.cmpi .ne v175 c0_i32_138
  let v177 : BitVec 1 := Scalar.andi v174 v176
  let v163 : BitVec 32 := Scalar.divsi arg2 c4_i32
  let c1_i32 : BitVec 32 := 1#32
  let v178 : BitVec 32 := Scalar.subi v163 c1_i32
  let v179 : BitVec 32 := Scalar.select v177 v178 v163
  let v180 : BitVec 32 := Scalar.subi v179 c0_i32_139
  let c1_i32_140 : BitVec 32 := 1#32
  let v182 : BitVec 32 := Scalar.divsi v180 c1_i32_140
  let v183 : BitVec 32 := Scalar.muli v182 c1_i32_140
  let v184 : BitVec 32 := Scalar.addi c0_i32_139 v183
  let c1_i32_142 : BitVec 32 := 1#32
  let arg8 : BitVec 32 := Scf.iv v184 c1_i32_142 k0_t2
  let c4_i32_171 : BitVec 32 := 4#32
  let v268 : BitVec 32 := Scalar.muli arg8 c4_i32_171
  let v269 : BitVec 32 := Scalar.addi v268 c0_i32_172
  let v304 : Index := Scalar.indexCast v269
  let c7_213 : Index := 7#32
  let c0_214 : Index := 0#32
  let c0_215 : Index := 0#32
  ![0, v304.toNat, 7, 0, 0]
def k0_off49 (i : grid0.Coords) (k0_t2 : Fin (k0_t2_loop i).trips) (c0_i32_172 : BitVec 32) : Fin 5 → Nat :=
  let c0_222 : Index := 0#32
  let c0_223 : Index := 0#32
  let c0_224 : Index := 0#32
  let c0_i32_139 : BitVec 32 := 0#32
  let arg2 : BitVec 32 := BitVec.ofNat 32 (i 2).val
  let c0_i32 : BitVec 32 := 0#32
  let v164 : BitVec 1 := Scalar.cmpi .sgt arg2 c0_i32
  let v165 : BitVec 32 := Scalar.extui v164
  let c0_i32_135 : BitVec 32 := 0#32
  let v166 : BitVec 1 := Scalar.cmpi .slt arg2 c0_i32_135
  let v167 : BitVec 32 := Scalar.extui v166
  let v168 : BitVec 32 := Scalar.subi v165 v167
  let c4_i32 : BitVec 32 := 4#32
  let c0_i32_136 : BitVec 32 := 0#32
  let v169 : BitVec 1 := Scalar.cmpi .sgt c4_i32 c0_i32_136
  let v170 : BitVec 32 := Scalar.extui v169
  let c0_i32_137 : BitVec 32 := 0#32
  let v171 : BitVec 1 := Scalar.cmpi .slt c4_i32 c0_i32_137
  let v172 : BitVec 32 := Scalar.extui v171
  let v173 : BitVec 32 := Scalar.subi v170 v172
  let v174 : BitVec 1 := Scalar.cmpi .ne v168 v173
  let v175 : BitVec 32 := Scalar.remsi arg2 c4_i32
  let c0_i32_138 : BitVec 32 := 0#32
  let v176 : BitVec 1 := Scalar.cmpi .ne v175 c0_i32_138
  let v177 : BitVec 1 := Scalar.andi v174 v176
  let v163 : BitVec 32 := Scalar.divsi arg2 c4_i32
  let c1_i32 : BitVec 32 := 1#32
  let v178 : BitVec 32 := Scalar.subi v163 c1_i32
  let v179 : BitVec 32 := Scalar.select v177 v178 v163
  let v180 : BitVec 32 := Scalar.subi v179 c0_i32_139
  let c1_i32_140 : BitVec 32 := 1#32
  let v182 : BitVec 32 := Scalar.divsi v180 c1_i32_140
  let v183 : BitVec 32 := Scalar.muli v182 c1_i32_140
  let v184 : BitVec 32 := Scalar.addi c0_i32_139 v183
  let c1_i32_142 : BitVec 32 := 1#32
  let arg8 : BitVec 32 := Scf.iv v184 c1_i32_142 k0_t2
  let c4_i32_171 : BitVec 32 := 4#32
  let v268 : BitVec 32 := Scalar.muli arg8 c4_i32_171
  let v269 : BitVec 32 := Scalar.addi v268 c0_i32_172
  let v312 : Index := Scalar.indexCast v269
  let c0_225 : Index := 0#32
  ![0, 0, 0, v312.toNat, 0]
def k0_off50 (i : grid0.Coords) (k0_t2 : Fin (k0_t2_loop i).trips) (c0_i32_172 : BitVec 32) : Fin 5 → Nat :=
  let c0_228 : Index := 0#32
  let c0_i32_139 : BitVec 32 := 0#32
  let arg2 : BitVec 32 := BitVec.ofNat 32 (i 2).val
  let c0_i32 : BitVec 32 := 0#32
  let v164 : BitVec 1 := Scalar.cmpi .sgt arg2 c0_i32
  let v165 : BitVec 32 := Scalar.extui v164
  let c0_i32_135 : BitVec 32 := 0#32
  let v166 : BitVec 1 := Scalar.cmpi .slt arg2 c0_i32_135
  let v167 : BitVec 32 := Scalar.extui v166
  let v168 : BitVec 32 := Scalar.subi v165 v167
  let c4_i32 : BitVec 32 := 4#32
  let c0_i32_136 : BitVec 32 := 0#32
  let v169 : BitVec 1 := Scalar.cmpi .sgt c4_i32 c0_i32_136
  let v170 : BitVec 32 := Scalar.extui v169
  let c0_i32_137 : BitVec 32 := 0#32
  let v171 : BitVec 1 := Scalar.cmpi .slt c4_i32 c0_i32_137
  let v172 : BitVec 32 := Scalar.extui v171
  let v173 : BitVec 32 := Scalar.subi v170 v172
  let v174 : BitVec 1 := Scalar.cmpi .ne v168 v173
  let v175 : BitVec 32 := Scalar.remsi arg2 c4_i32
  let c0_i32_138 : BitVec 32 := 0#32
  let v176 : BitVec 1 := Scalar.cmpi .ne v175 c0_i32_138
  let v177 : BitVec 1 := Scalar.andi v174 v176
  let v163 : BitVec 32 := Scalar.divsi arg2 c4_i32
  let c1_i32 : BitVec 32 := 1#32
  let v178 : BitVec 32 := Scalar.subi v163 c1_i32
  let v179 : BitVec 32 := Scalar.select v177 v178 v163
  let v180 : BitVec 32 := Scalar.subi v179 c0_i32_139
  let c1_i32_140 : BitVec 32 := 1#32
  let v182 : BitVec 32 := Scalar.divsi v180 c1_i32_140
  let v183 : BitVec 32 := Scalar.muli v182 c1_i32_140
  let v184 : BitVec 32 := Scalar.addi c0_i32_139 v183
  let c1_i32_142 : BitVec 32 := 1#32
  let arg8 : BitVec 32 := Scf.iv v184 c1_i32_142 k0_t2
  let c4_i32_171 : BitVec 32 := 4#32
  let v268 : BitVec 32 := Scalar.muli arg8 c4_i32_171
  let v269 : BitVec 32 := Scalar.addi v268 c0_i32_172
  let v327 : Index := Scalar.indexCast v269
  let c0_229 : Index := 0#32
  let c0_230 : Index := 0#32
  let c0_231 : Index := 0#32
  ![0, v327.toNat, 0, 0, 0]
def k0_off51 (i : grid0.Coords) (k0_t2 : Fin (k0_t2_loop i).trips) (c0_i32_172 : BitVec 32) : Fin 5 → Nat :=
  let c0_239 : Index := 0#32
  let c0_240 : Index := 0#32
  let c1_241 : Index := 1#32
  let c0_i32_139 : BitVec 32 := 0#32
  let arg2 : BitVec 32 := BitVec.ofNat 32 (i 2).val
  let c0_i32 : BitVec 32 := 0#32
  let v164 : BitVec 1 := Scalar.cmpi .sgt arg2 c0_i32
  let v165 : BitVec 32 := Scalar.extui v164
  let c0_i32_135 : BitVec 32 := 0#32
  let v166 : BitVec 1 := Scalar.cmpi .slt arg2 c0_i32_135
  let v167 : BitVec 32 := Scalar.extui v166
  let v168 : BitVec 32 := Scalar.subi v165 v167
  let c4_i32 : BitVec 32 := 4#32
  let c0_i32_136 : BitVec 32 := 0#32
  let v169 : BitVec 1 := Scalar.cmpi .sgt c4_i32 c0_i32_136
  let v170 : BitVec 32 := Scalar.extui v169
  let c0_i32_137 : BitVec 32 := 0#32
  let v171 : BitVec 1 := Scalar.cmpi .slt c4_i32 c0_i32_137
  let v172 : BitVec 32 := Scalar.extui v171
  let v173 : BitVec 32 := Scalar.subi v170 v172
  let v174 : BitVec 1 := Scalar.cmpi .ne v168 v173
  let v175 : BitVec 32 := Scalar.remsi arg2 c4_i32
  let c0_i32_138 : BitVec 32 := 0#32
  let v176 : BitVec 1 := Scalar.cmpi .ne v175 c0_i32_138
  let v177 : BitVec 1 := Scalar.andi v174 v176
  let v163 : BitVec 32 := Scalar.divsi arg2 c4_i32
  let c1_i32 : BitVec 32 := 1#32
  let v178 : BitVec 32 := Scalar.subi v163 c1_i32
  let v179 : BitVec 32 := Scalar.select v177 v178 v163
  let v180 : BitVec 32 := Scalar.subi v179 c0_i32_139
  let c1_i32_140 : BitVec 32 := 1#32
  let v182 : BitVec 32 := Scalar.divsi v180 c1_i32_140
  let v183 : BitVec 32 := Scalar.muli v182 c1_i32_140
  let v184 : BitVec 32 := Scalar.addi c0_i32_139 v183
  let c1_i32_142 : BitVec 32 := 1#32
  let arg8 : BitVec 32 := Scf.iv v184 c1_i32_142 k0_t2
  let c4_i32_171 : BitVec 32 := 4#32
  let v268 : BitVec 32 := Scalar.muli arg8 c4_i32_171
  let v269 : BitVec 32 := Scalar.addi v268 c0_i32_172
  let v343 : Index := Scalar.indexCast v269
  let c0_242 : Index := 0#32
  ![0, 0, 1, v343.toNat, 0]
def k0_off52 (i : grid0.Coords) (k0_t2 : Fin (k0_t2_loop i).trips) (c0_i32_172 : BitVec 32) : Fin 5 → Nat :=
  let c0_245 : Index := 0#32
  let c0_i32_139 : BitVec 32 := 0#32
  let arg2 : BitVec 32 := BitVec.ofNat 32 (i 2).val
  let c0_i32 : BitVec 32 := 0#32
  let v164 : BitVec 1 := Scalar.cmpi .sgt arg2 c0_i32
  let v165 : BitVec 32 := Scalar.extui v164
  let c0_i32_135 : BitVec 32 := 0#32
  let v166 : BitVec 1 := Scalar.cmpi .slt arg2 c0_i32_135
  let v167 : BitVec 32 := Scalar.extui v166
  let v168 : BitVec 32 := Scalar.subi v165 v167
  let c4_i32 : BitVec 32 := 4#32
  let c0_i32_136 : BitVec 32 := 0#32
  let v169 : BitVec 1 := Scalar.cmpi .sgt c4_i32 c0_i32_136
  let v170 : BitVec 32 := Scalar.extui v169
  let c0_i32_137 : BitVec 32 := 0#32
  let v171 : BitVec 1 := Scalar.cmpi .slt c4_i32 c0_i32_137
  let v172 : BitVec 32 := Scalar.extui v171
  let v173 : BitVec 32 := Scalar.subi v170 v172
  let v174 : BitVec 1 := Scalar.cmpi .ne v168 v173
  let v175 : BitVec 32 := Scalar.remsi arg2 c4_i32
  let c0_i32_138 : BitVec 32 := 0#32
  let v176 : BitVec 1 := Scalar.cmpi .ne v175 c0_i32_138
  let v177 : BitVec 1 := Scalar.andi v174 v176
  let v163 : BitVec 32 := Scalar.divsi arg2 c4_i32
  let c1_i32 : BitVec 32 := 1#32
  let v178 : BitVec 32 := Scalar.subi v163 c1_i32
  let v179 : BitVec 32 := Scalar.select v177 v178 v163
  let v180 : BitVec 32 := Scalar.subi v179 c0_i32_139
  let c1_i32_140 : BitVec 32 := 1#32
  let v182 : BitVec 32 := Scalar.divsi v180 c1_i32_140
  let v183 : BitVec 32 := Scalar.muli v182 c1_i32_140
  let v184 : BitVec 32 := Scalar.addi c0_i32_139 v183
  let c1_i32_142 : BitVec 32 := 1#32
  let arg8 : BitVec 32 := Scf.iv v184 c1_i32_142 k0_t2
  let c4_i32_171 : BitVec 32 := 4#32
  let v268 : BitVec 32 := Scalar.muli arg8 c4_i32_171
  let v269 : BitVec 32 := Scalar.addi v268 c0_i32_172
  let v358 : Index := Scalar.indexCast v269
  let c1_246 : Index := 1#32
  let c0_247 : Index := 0#32
  let c0_248 : Index := 0#32
  ![0, v358.toNat, 1, 0, 0]
def k0_off53 (i : grid0.Coords) (k0_t2 : Fin (k0_t2_loop i).trips) (c0_i32_172 : BitVec 32) : Fin 5 → Nat :=
  let c0_256 : Index := 0#32
  let c0_257 : Index := 0#32
  let c2_258 : Index := 2#32
  let c0_i32_139 : BitVec 32 := 0#32
  let arg2 : BitVec 32 := BitVec.ofNat 32 (i 2).val
  let c0_i32 : BitVec 32 := 0#32
  let v164 : BitVec 1 := Scalar.cmpi .sgt arg2 c0_i32
  let v165 : BitVec 32 := Scalar.extui v164
  let c0_i32_135 : BitVec 32 := 0#32
  let v166 : BitVec 1 := Scalar.cmpi .slt arg2 c0_i32_135
  let v167 : BitVec 32 := Scalar.extui v166
  let v168 : BitVec 32 := Scalar.subi v165 v167
  let c4_i32 : BitVec 32 := 4#32
  let c0_i32_136 : BitVec 32 := 0#32
  let v169 : BitVec 1 := Scalar.cmpi .sgt c4_i32 c0_i32_136
  let v170 : BitVec 32 := Scalar.extui v169
  let c0_i32_137 : BitVec 32 := 0#32
  let v171 : BitVec 1 := Scalar.cmpi .slt c4_i32 c0_i32_137
  let v172 : BitVec 32 := Scalar.extui v171
  let v173 : BitVec 32 := Scalar.subi v170 v172
  let v174 : BitVec 1 := Scalar.cmpi .ne v168 v173
  let v175 : BitVec 32 := Scalar.remsi arg2 c4_i32
  let c0_i32_138 : BitVec 32 := 0#32
  let v176 : BitVec 1 := Scalar.cmpi .ne v175 c0_i32_138
  let v177 : BitVec 1 := Scalar.andi v174 v176
  let v163 : BitVec 32 := Scalar.divsi arg2 c4_i32
  let c1_i32 : BitVec 32 := 1#32
  let v178 : BitVec 32 := Scalar.subi v163 c1_i32
  let v179 : BitVec 32 := Scalar.select v177 v178 v163
  let v180 : BitVec 32 := Scalar.subi v179 c0_i32_139
  let c1_i32_140 : BitVec 32 := 1#32
  let v182 : BitVec 32 := Scalar.divsi v180 c1_i32_140
  let v183 : BitVec 32 := Scalar.muli v182 c1_i32_140
  let v184 : BitVec 32 := Scalar.addi c0_i32_139 v183
  let c1_i32_142 : BitVec 32 := 1#32
  let arg8 : BitVec 32 := Scf.iv v184 c1_i32_142 k0_t2
  let c4_i32_171 : BitVec 32 := 4#32
  let v268 : BitVec 32 := Scalar.muli arg8 c4_i32_171
  let v269 : BitVec 32 := Scalar.addi v268 c0_i32_172
  let v374 : Index := Scalar.indexCast v269
  let c0_259 : Index := 0#32
  ![0, 0, 2, v374.toNat, 0]
def k0_off54 (i : grid0.Coords) (k0_t2 : Fin (k0_t2_loop i).trips) (c0_i32_172 : BitVec 32) : Fin 5 → Nat :=
  let c0_262 : Index := 0#32
  let c0_i32_139 : BitVec 32 := 0#32
  let arg2 : BitVec 32 := BitVec.ofNat 32 (i 2).val
  let c0_i32 : BitVec 32 := 0#32
  let v164 : BitVec 1 := Scalar.cmpi .sgt arg2 c0_i32
  let v165 : BitVec 32 := Scalar.extui v164
  let c0_i32_135 : BitVec 32 := 0#32
  let v166 : BitVec 1 := Scalar.cmpi .slt arg2 c0_i32_135
  let v167 : BitVec 32 := Scalar.extui v166
  let v168 : BitVec 32 := Scalar.subi v165 v167
  let c4_i32 : BitVec 32 := 4#32
  let c0_i32_136 : BitVec 32 := 0#32
  let v169 : BitVec 1 := Scalar.cmpi .sgt c4_i32 c0_i32_136
  let v170 : BitVec 32 := Scalar.extui v169
  let c0_i32_137 : BitVec 32 := 0#32
  let v171 : BitVec 1 := Scalar.cmpi .slt c4_i32 c0_i32_137
  let v172 : BitVec 32 := Scalar.extui v171
  let v173 : BitVec 32 := Scalar.subi v170 v172
  let v174 : BitVec 1 := Scalar.cmpi .ne v168 v173
  let v175 : BitVec 32 := Scalar.remsi arg2 c4_i32
  let c0_i32_138 : BitVec 32 := 0#32
  let v176 : BitVec 1 := Scalar.cmpi .ne v175 c0_i32_138
  let v177 : BitVec 1 := Scalar.andi v174 v176
  let v163 : BitVec 32 := Scalar.divsi arg2 c4_i32
  let c1_i32 : BitVec 32 := 1#32
  let v178 : BitVec 32 := Scalar.subi v163 c1_i32
  let v179 : BitVec 32 := Scalar.select v177 v178 v163
  let v180 : BitVec 32 := Scalar.subi v179 c0_i32_139
  let c1_i32_140 : BitVec 32 := 1#32
  let v182 : BitVec 32 := Scalar.divsi v180 c1_i32_140
  let v183 : BitVec 32 := Scalar.muli v182 c1_i32_140
  let v184 : BitVec 32 := Scalar.addi c0_i32_139 v183
  let c1_i32_142 : BitVec 32 := 1#32
  let arg8 : BitVec 32 := Scf.iv v184 c1_i32_142 k0_t2
  let c4_i32_171 : BitVec 32 := 4#32
  let v268 : BitVec 32 := Scalar.muli arg8 c4_i32_171
  let v269 : BitVec 32 := Scalar.addi v268 c0_i32_172
  let v389 : Index := Scalar.indexCast v269
  let c2_263 : Index := 2#32
  let c0_264 : Index := 0#32
  let c0_265 : Index := 0#32
  ![0, v389.toNat, 2, 0, 0]
def k0_off55 (i : grid0.Coords) (k0_t2 : Fin (k0_t2_loop i).trips) (c0_i32_172 : BitVec 32) : Fin 5 → Nat :=
  let c0_273 : Index := 0#32
  let c0_274 : Index := 0#32
  let c3_275 : Index := 3#32
  let c0_i32_139 : BitVec 32 := 0#32
  let arg2 : BitVec 32 := BitVec.ofNat 32 (i 2).val
  let c0_i32 : BitVec 32 := 0#32
  let v164 : BitVec 1 := Scalar.cmpi .sgt arg2 c0_i32
  let v165 : BitVec 32 := Scalar.extui v164
  let c0_i32_135 : BitVec 32 := 0#32
  let v166 : BitVec 1 := Scalar.cmpi .slt arg2 c0_i32_135
  let v167 : BitVec 32 := Scalar.extui v166
  let v168 : BitVec 32 := Scalar.subi v165 v167
  let c4_i32 : BitVec 32 := 4#32
  let c0_i32_136 : BitVec 32 := 0#32
  let v169 : BitVec 1 := Scalar.cmpi .sgt c4_i32 c0_i32_136
  let v170 : BitVec 32 := Scalar.extui v169
  let c0_i32_137 : BitVec 32 := 0#32
  let v171 : BitVec 1 := Scalar.cmpi .slt c4_i32 c0_i32_137
  let v172 : BitVec 32 := Scalar.extui v171
  let v173 : BitVec 32 := Scalar.subi v170 v172
  let v174 : BitVec 1 := Scalar.cmpi .ne v168 v173
  let v175 : BitVec 32 := Scalar.remsi arg2 c4_i32
  let c0_i32_138 : BitVec 32 := 0#32
  let v176 : BitVec 1 := Scalar.cmpi .ne v175 c0_i32_138
  let v177 : BitVec 1 := Scalar.andi v174 v176
  let v163 : BitVec 32 := Scalar.divsi arg2 c4_i32
  let c1_i32 : BitVec 32 := 1#32
  let v178 : BitVec 32 := Scalar.subi v163 c1_i32
  let v179 : BitVec 32 := Scalar.select v177 v178 v163
  let v180 : BitVec 32 := Scalar.subi v179 c0_i32_139
  let c1_i32_140 : BitVec 32 := 1#32
  let v182 : BitVec 32 := Scalar.divsi v180 c1_i32_140
  let v183 : BitVec 32 := Scalar.muli v182 c1_i32_140
  let v184 : BitVec 32 := Scalar.addi c0_i32_139 v183
  let c1_i32_142 : BitVec 32 := 1#32
  let arg8 : BitVec 32 := Scf.iv v184 c1_i32_142 k0_t2
  let c4_i32_171 : BitVec 32 := 4#32
  let v268 : BitVec 32 := Scalar.muli arg8 c4_i32_171
  let v269 : BitVec 32 := Scalar.addi v268 c0_i32_172
  let v405 : Index := Scalar.indexCast v269
  let c0_276 : Index := 0#32
  ![0, 0, 3, v405.toNat, 0]
def k0_off56 (i : grid0.Coords) (k0_t2 : Fin (k0_t2_loop i).trips) (c0_i32_172 : BitVec 32) : Fin 5 → Nat :=
  let c0_279 : Index := 0#32
  let c0_i32_139 : BitVec 32 := 0#32
  let arg2 : BitVec 32 := BitVec.ofNat 32 (i 2).val
  let c0_i32 : BitVec 32 := 0#32
  let v164 : BitVec 1 := Scalar.cmpi .sgt arg2 c0_i32
  let v165 : BitVec 32 := Scalar.extui v164
  let c0_i32_135 : BitVec 32 := 0#32
  let v166 : BitVec 1 := Scalar.cmpi .slt arg2 c0_i32_135
  let v167 : BitVec 32 := Scalar.extui v166
  let v168 : BitVec 32 := Scalar.subi v165 v167
  let c4_i32 : BitVec 32 := 4#32
  let c0_i32_136 : BitVec 32 := 0#32
  let v169 : BitVec 1 := Scalar.cmpi .sgt c4_i32 c0_i32_136
  let v170 : BitVec 32 := Scalar.extui v169
  let c0_i32_137 : BitVec 32 := 0#32
  let v171 : BitVec 1 := Scalar.cmpi .slt c4_i32 c0_i32_137
  let v172 : BitVec 32 := Scalar.extui v171
  let v173 : BitVec 32 := Scalar.subi v170 v172
  let v174 : BitVec 1 := Scalar.cmpi .ne v168 v173
  let v175 : BitVec 32 := Scalar.remsi arg2 c4_i32
  let c0_i32_138 : BitVec 32 := 0#32
  let v176 : BitVec 1 := Scalar.cmpi .ne v175 c0_i32_138
  let v177 : BitVec 1 := Scalar.andi v174 v176
  let v163 : BitVec 32 := Scalar.divsi arg2 c4_i32
  let c1_i32 : BitVec 32 := 1#32
  let v178 : BitVec 32 := Scalar.subi v163 c1_i32
  let v179 : BitVec 32 := Scalar.select v177 v178 v163
  let v180 : BitVec 32 := Scalar.subi v179 c0_i32_139
  let c1_i32_140 : BitVec 32 := 1#32
  let v182 : BitVec 32 := Scalar.divsi v180 c1_i32_140
  let v183 : BitVec 32 := Scalar.muli v182 c1_i32_140
  let v184 : BitVec 32 := Scalar.addi c0_i32_139 v183
  let c1_i32_142 : BitVec 32 := 1#32
  let arg8 : BitVec 32 := Scf.iv v184 c1_i32_142 k0_t2
  let c4_i32_171 : BitVec 32 := 4#32
  let v268 : BitVec 32 := Scalar.muli arg8 c4_i32_171
  let v269 : BitVec 32 := Scalar.addi v268 c0_i32_172
  let v420 : Index := Scalar.indexCast v269
  let c3_280 : Index := 3#32
  let c0_281 : Index := 0#32
  let c0_282 : Index := 0#32
  ![0, v420.toNat, 3, 0, 0]
def k0_off57 (i : grid0.Coords) (k0_t2 : Fin (k0_t2_loop i).trips) (c0_i32_172 : BitVec 32) : Fin 5 → Nat :=
  let c0_290 : Index := 0#32
  let c0_291 : Index := 0#32
  let c4_292 : Index := 4#32
  let c0_i32_139 : BitVec 32 := 0#32
  let arg2 : BitVec 32 := BitVec.ofNat 32 (i 2).val
  let c0_i32 : BitVec 32 := 0#32
  let v164 : BitVec 1 := Scalar.cmpi .sgt arg2 c0_i32
  let v165 : BitVec 32 := Scalar.extui v164
  let c0_i32_135 : BitVec 32 := 0#32
  let v166 : BitVec 1 := Scalar.cmpi .slt arg2 c0_i32_135
  let v167 : BitVec 32 := Scalar.extui v166
  let v168 : BitVec 32 := Scalar.subi v165 v167
  let c4_i32 : BitVec 32 := 4#32
  let c0_i32_136 : BitVec 32 := 0#32
  let v169 : BitVec 1 := Scalar.cmpi .sgt c4_i32 c0_i32_136
  let v170 : BitVec 32 := Scalar.extui v169
  let c0_i32_137 : BitVec 32 := 0#32
  let v171 : BitVec 1 := Scalar.cmpi .slt c4_i32 c0_i32_137
  let v172 : BitVec 32 := Scalar.extui v171
  let v173 : BitVec 32 := Scalar.subi v170 v172
  let v174 : BitVec 1 := Scalar.cmpi .ne v168 v173
  let v175 : BitVec 32 := Scalar.remsi arg2 c4_i32
  let c0_i32_138 : BitVec 32 := 0#32
  let v176 : BitVec 1 := Scalar.cmpi .ne v175 c0_i32_138
  let v177 : BitVec 1 := Scalar.andi v174 v176
  let v163 : BitVec 32 := Scalar.divsi arg2 c4_i32
  let c1_i32 : BitVec 32 := 1#32
  let v178 : BitVec 32 := Scalar.subi v163 c1_i32
  let v179 : BitVec 32 := Scalar.select v177 v178 v163
  let v180 : BitVec 32 := Scalar.subi v179 c0_i32_139
  let c1_i32_140 : BitVec 32 := 1#32
  let v182 : BitVec 32 := Scalar.divsi v180 c1_i32_140
  let v183 : BitVec 32 := Scalar.muli v182 c1_i32_140
  let v184 : BitVec 32 := Scalar.addi c0_i32_139 v183
  let c1_i32_142 : BitVec 32 := 1#32
  let arg8 : BitVec 32 := Scf.iv v184 c1_i32_142 k0_t2
  let c4_i32_171 : BitVec 32 := 4#32
  let v268 : BitVec 32 := Scalar.muli arg8 c4_i32_171
  let v269 : BitVec 32 := Scalar.addi v268 c0_i32_172
  let v436 : Index := Scalar.indexCast v269
  let c0_293 : Index := 0#32
  ![0, 0, 4, v436.toNat, 0]
def k0_off58 (i : grid0.Coords) (k0_t2 : Fin (k0_t2_loop i).trips) (c0_i32_172 : BitVec 32) : Fin 5 → Nat :=
  let c0_296 : Index := 0#32
  let c0_i32_139 : BitVec 32 := 0#32
  let arg2 : BitVec 32 := BitVec.ofNat 32 (i 2).val
  let c0_i32 : BitVec 32 := 0#32
  let v164 : BitVec 1 := Scalar.cmpi .sgt arg2 c0_i32
  let v165 : BitVec 32 := Scalar.extui v164
  let c0_i32_135 : BitVec 32 := 0#32
  let v166 : BitVec 1 := Scalar.cmpi .slt arg2 c0_i32_135
  let v167 : BitVec 32 := Scalar.extui v166
  let v168 : BitVec 32 := Scalar.subi v165 v167
  let c4_i32 : BitVec 32 := 4#32
  let c0_i32_136 : BitVec 32 := 0#32
  let v169 : BitVec 1 := Scalar.cmpi .sgt c4_i32 c0_i32_136
  let v170 : BitVec 32 := Scalar.extui v169
  let c0_i32_137 : BitVec 32 := 0#32
  let v171 : BitVec 1 := Scalar.cmpi .slt c4_i32 c0_i32_137
  let v172 : BitVec 32 := Scalar.extui v171
  let v173 : BitVec 32 := Scalar.subi v170 v172
  let v174 : BitVec 1 := Scalar.cmpi .ne v168 v173
  let v175 : BitVec 32 := Scalar.remsi arg2 c4_i32
  let c0_i32_138 : BitVec 32 := 0#32
  let v176 : BitVec 1 := Scalar.cmpi .ne v175 c0_i32_138
  let v177 : BitVec 1 := Scalar.andi v174 v176
  let v163 : BitVec 32 := Scalar.divsi arg2 c4_i32
  let c1_i32 : BitVec 32 := 1#32
  let v178 : BitVec 32 := Scalar.subi v163 c1_i32
  let v179 : BitVec 32 := Scalar.select v177 v178 v163
  let v180 : BitVec 32 := Scalar.subi v179 c0_i32_139
  let c1_i32_140 : BitVec 32 := 1#32
  let v182 : BitVec 32 := Scalar.divsi v180 c1_i32_140
  let v183 : BitVec 32 := Scalar.muli v182 c1_i32_140
  let v184 : BitVec 32 := Scalar.addi c0_i32_139 v183
  let c1_i32_142 : BitVec 32 := 1#32
  let arg8 : BitVec 32 := Scf.iv v184 c1_i32_142 k0_t2
  let c4_i32_171 : BitVec 32 := 4#32
  let v268 : BitVec 32 := Scalar.muli arg8 c4_i32_171
  let v269 : BitVec 32 := Scalar.addi v268 c0_i32_172
  let v451 : Index := Scalar.indexCast v269
  let c4_297 : Index := 4#32
  let c0_298 : Index := 0#32
  let c0_299 : Index := 0#32
  ![0, v451.toNat, 4, 0, 0]
def k0_off59 (i : grid0.Coords) (k0_t2 : Fin (k0_t2_loop i).trips) (c0_i32_172 : BitVec 32) : Fin 5 → Nat :=
  let c0_307 : Index := 0#32
  let c0_308 : Index := 0#32
  let c5_309 : Index := 5#32
  let c0_i32_139 : BitVec 32 := 0#32
  let arg2 : BitVec 32 := BitVec.ofNat 32 (i 2).val
  let c0_i32 : BitVec 32 := 0#32
  let v164 : BitVec 1 := Scalar.cmpi .sgt arg2 c0_i32
  let v165 : BitVec 32 := Scalar.extui v164
  let c0_i32_135 : BitVec 32 := 0#32
  let v166 : BitVec 1 := Scalar.cmpi .slt arg2 c0_i32_135
  let v167 : BitVec 32 := Scalar.extui v166
  let v168 : BitVec 32 := Scalar.subi v165 v167
  let c4_i32 : BitVec 32 := 4#32
  let c0_i32_136 : BitVec 32 := 0#32
  let v169 : BitVec 1 := Scalar.cmpi .sgt c4_i32 c0_i32_136
  let v170 : BitVec 32 := Scalar.extui v169
  let c0_i32_137 : BitVec 32 := 0#32
  let v171 : BitVec 1 := Scalar.cmpi .slt c4_i32 c0_i32_137
  let v172 : BitVec 32 := Scalar.extui v171
  let v173 : BitVec 32 := Scalar.subi v170 v172
  let v174 : BitVec 1 := Scalar.cmpi .ne v168 v173
  let v175 : BitVec 32 := Scalar.remsi arg2 c4_i32
  let c0_i32_138 : BitVec 32 := 0#32
  let v176 : BitVec 1 := Scalar.cmpi .ne v175 c0_i32_138
  let v177 : BitVec 1 := Scalar.andi v174 v176
  let v163 : BitVec 32 := Scalar.divsi arg2 c4_i32
  let c1_i32 : BitVec 32 := 1#32
  let v178 : BitVec 32 := Scalar.subi v163 c1_i32
  let v179 : BitVec 32 := Scalar.select v177 v178 v163
  let v180 : BitVec 32 := Scalar.subi v179 c0_i32_139
  let c1_i32_140 : BitVec 32 := 1#32
  let v182 : BitVec 32 := Scalar.divsi v180 c1_i32_140
  let v183 : BitVec 32 := Scalar.muli v182 c1_i32_140
  let v184 : BitVec 32 := Scalar.addi c0_i32_139 v183
  let c1_i32_142 : BitVec 32 := 1#32
  let arg8 : BitVec 32 := Scf.iv v184 c1_i32_142 k0_t2
  let c4_i32_171 : BitVec 32 := 4#32
  let v268 : BitVec 32 := Scalar.muli arg8 c4_i32_171
  let v269 : BitVec 32 := Scalar.addi v268 c0_i32_172
  let v467 : Index := Scalar.indexCast v269
  let c0_310 : Index := 0#32
  ![0, 0, 5, v467.toNat, 0]
def k0_off60 (i : grid0.Coords) (k0_t2 : Fin (k0_t2_loop i).trips) (c0_i32_172 : BitVec 32) : Fin 5 → Nat :=
  let c0_313 : Index := 0#32
  let c0_i32_139 : BitVec 32 := 0#32
  let arg2 : BitVec 32 := BitVec.ofNat 32 (i 2).val
  let c0_i32 : BitVec 32 := 0#32
  let v164 : BitVec 1 := Scalar.cmpi .sgt arg2 c0_i32
  let v165 : BitVec 32 := Scalar.extui v164
  let c0_i32_135 : BitVec 32 := 0#32
  let v166 : BitVec 1 := Scalar.cmpi .slt arg2 c0_i32_135
  let v167 : BitVec 32 := Scalar.extui v166
  let v168 : BitVec 32 := Scalar.subi v165 v167
  let c4_i32 : BitVec 32 := 4#32
  let c0_i32_136 : BitVec 32 := 0#32
  let v169 : BitVec 1 := Scalar.cmpi .sgt c4_i32 c0_i32_136
  let v170 : BitVec 32 := Scalar.extui v169
  let c0_i32_137 : BitVec 32 := 0#32
  let v171 : BitVec 1 := Scalar.cmpi .slt c4_i32 c0_i32_137
  let v172 : BitVec 32 := Scalar.extui v171
  let v173 : BitVec 32 := Scalar.subi v170 v172
  let v174 : BitVec 1 := Scalar.cmpi .ne v168 v173
  let v175 : BitVec 32 := Scalar.remsi arg2 c4_i32
  let c0_i32_138 : BitVec 32 := 0#32
  let v176 : BitVec 1 := Scalar.cmpi .ne v175 c0_i32_138
  let v177 : BitVec 1 := Scalar.andi v174 v176
  let v163 : BitVec 32 := Scalar.divsi arg2 c4_i32
  let c1_i32 : BitVec 32 := 1#32
  let v178 : BitVec 32 := Scalar.subi v163 c1_i32
  let v179 : BitVec 32 := Scalar.select v177 v178 v163
  let v180 : BitVec 32 := Scalar.subi v179 c0_i32_139
  let c1_i32_140 : BitVec 32 := 1#32
  let v182 : BitVec 32 := Scalar.divsi v180 c1_i32_140
  let v183 : BitVec 32 := Scalar.muli v182 c1_i32_140
  let v184 : BitVec 32 := Scalar.addi c0_i32_139 v183
  let c1_i32_142 : BitVec 32 := 1#32
  let arg8 : BitVec 32 := Scf.iv v184 c1_i32_142 k0_t2
  let c4_i32_171 : BitVec 32 := 4#32
  let v268 : BitVec 32 := Scalar.muli arg8 c4_i32_171
  let v269 : BitVec 32 := Scalar.addi v268 c0_i32_172
  let v482 : Index := Scalar.indexCast v269
  let c5_314 : Index := 5#32
  let c0_315 : Index := 0#32
  let c0_316 : Index := 0#32
  ![0, v482.toNat, 5, 0, 0]
def k0_off61 (i : grid0.Coords) (k0_t2 : Fin (k0_t2_loop i).trips) (c0_i32_172 : BitVec 32) : Fin 5 → Nat :=
  let c0_324 : Index := 0#32
  let c0_325 : Index := 0#32
  let c6_326 : Index := 6#32
  let c0_i32_139 : BitVec 32 := 0#32
  let arg2 : BitVec 32 := BitVec.ofNat 32 (i 2).val
  let c0_i32 : BitVec 32 := 0#32
  let v164 : BitVec 1 := Scalar.cmpi .sgt arg2 c0_i32
  let v165 : BitVec 32 := Scalar.extui v164
  let c0_i32_135 : BitVec 32 := 0#32
  let v166 : BitVec 1 := Scalar.cmpi .slt arg2 c0_i32_135
  let v167 : BitVec 32 := Scalar.extui v166
  let v168 : BitVec 32 := Scalar.subi v165 v167
  let c4_i32 : BitVec 32 := 4#32
  let c0_i32_136 : BitVec 32 := 0#32
  let v169 : BitVec 1 := Scalar.cmpi .sgt c4_i32 c0_i32_136
  let v170 : BitVec 32 := Scalar.extui v169
  let c0_i32_137 : BitVec 32 := 0#32
  let v171 : BitVec 1 := Scalar.cmpi .slt c4_i32 c0_i32_137
  let v172 : BitVec 32 := Scalar.extui v171
  let v173 : BitVec 32 := Scalar.subi v170 v172
  let v174 : BitVec 1 := Scalar.cmpi .ne v168 v173
  let v175 : BitVec 32 := Scalar.remsi arg2 c4_i32
  let c0_i32_138 : BitVec 32 := 0#32
  let v176 : BitVec 1 := Scalar.cmpi .ne v175 c0_i32_138
  let v177 : BitVec 1 := Scalar.andi v174 v176
  let v163 : BitVec 32 := Scalar.divsi arg2 c4_i32
  let c1_i32 : BitVec 32 := 1#32
  let v178 : BitVec 32 := Scalar.subi v163 c1_i32
  let v179 : BitVec 32 := Scalar.select v177 v178 v163
  let v180 : BitVec 32 := Scalar.subi v179 c0_i32_139
  let c1_i32_140 : BitVec 32 := 1#32
  let v182 : BitVec 32 := Scalar.divsi v180 c1_i32_140
  let v183 : BitVec 32 := Scalar.muli v182 c1_i32_140
  let v184 : BitVec 32 := Scalar.addi c0_i32_139 v183
  let c1_i32_142 : BitVec 32 := 1#32
  let arg8 : BitVec 32 := Scf.iv v184 c1_i32_142 k0_t2
  let c4_i32_171 : BitVec 32 := 4#32
  let v268 : BitVec 32 := Scalar.muli arg8 c4_i32_171
  let v269 : BitVec 32 := Scalar.addi v268 c0_i32_172
  let v498 : Index := Scalar.indexCast v269
  let c0_327 : Index := 0#32
  ![0, 0, 6, v498.toNat, 0]
def k0_off62 (i : grid0.Coords) (k0_t2 : Fin (k0_t2_loop i).trips) (c0_i32_172 : BitVec 32) : Fin 5 → Nat :=
  let c0_330 : Index := 0#32
  let c0_i32_139 : BitVec 32 := 0#32
  let arg2 : BitVec 32 := BitVec.ofNat 32 (i 2).val
  let c0_i32 : BitVec 32 := 0#32
  let v164 : BitVec 1 := Scalar.cmpi .sgt arg2 c0_i32
  let v165 : BitVec 32 := Scalar.extui v164
  let c0_i32_135 : BitVec 32 := 0#32
  let v166 : BitVec 1 := Scalar.cmpi .slt arg2 c0_i32_135
  let v167 : BitVec 32 := Scalar.extui v166
  let v168 : BitVec 32 := Scalar.subi v165 v167
  let c4_i32 : BitVec 32 := 4#32
  let c0_i32_136 : BitVec 32 := 0#32
  let v169 : BitVec 1 := Scalar.cmpi .sgt c4_i32 c0_i32_136
  let v170 : BitVec 32 := Scalar.extui v169
  let c0_i32_137 : BitVec 32 := 0#32
  let v171 : BitVec 1 := Scalar.cmpi .slt c4_i32 c0_i32_137
  let v172 : BitVec 32 := Scalar.extui v171
  let v173 : BitVec 32 := Scalar.subi v170 v172
  let v174 : BitVec 1 := Scalar.cmpi .ne v168 v173
  let v175 : BitVec 32 := Scalar.remsi arg2 c4_i32
  let c0_i32_138 : BitVec 32 := 0#32
  let v176 : BitVec 1 := Scalar.cmpi .ne v175 c0_i32_138
  let v177 : BitVec 1 := Scalar.andi v174 v176
  let v163 : BitVec 32 := Scalar.divsi arg2 c4_i32
  let c1_i32 : BitVec 32 := 1#32
  let v178 : BitVec 32 := Scalar.subi v163 c1_i32
  let v179 : BitVec 32 := Scalar.select v177 v178 v163
  let v180 : BitVec 32 := Scalar.subi v179 c0_i32_139
  let c1_i32_140 : BitVec 32 := 1#32
  let v182 : BitVec 32 := Scalar.divsi v180 c1_i32_140
  let v183 : BitVec 32 := Scalar.muli v182 c1_i32_140
  let v184 : BitVec 32 := Scalar.addi c0_i32_139 v183
  let c1_i32_142 : BitVec 32 := 1#32
  let arg8 : BitVec 32 := Scf.iv v184 c1_i32_142 k0_t2
  let c4_i32_171 : BitVec 32 := 4#32
  let v268 : BitVec 32 := Scalar.muli arg8 c4_i32_171
  let v269 : BitVec 32 := Scalar.addi v268 c0_i32_172
  let v513 : Index := Scalar.indexCast v269
  let c6_331 : Index := 6#32
  let c0_332 : Index := 0#32
  let c0_333 : Index := 0#32
  ![0, v513.toNat, 6, 0, 0]
def k0_off63 (i : grid0.Coords) (k0_t2 : Fin (k0_t2_loop i).trips) (c0_i32_172 : BitVec 32) : Fin 5 → Nat :=
  let c0_341 : Index := 0#32
  let c0_342 : Index := 0#32
  let c7_343 : Index := 7#32
  let c0_i32_139 : BitVec 32 := 0#32
  let arg2 : BitVec 32 := BitVec.ofNat 32 (i 2).val
  let c0_i32 : BitVec 32 := 0#32
  let v164 : BitVec 1 := Scalar.cmpi .sgt arg2 c0_i32
  let v165 : BitVec 32 := Scalar.extui v164
  let c0_i32_135 : BitVec 32 := 0#32
  let v166 : BitVec 1 := Scalar.cmpi .slt arg2 c0_i32_135
  let v167 : BitVec 32 := Scalar.extui v166
  let v168 : BitVec 32 := Scalar.subi v165 v167
  let c4_i32 : BitVec 32 := 4#32
  let c0_i32_136 : BitVec 32 := 0#32
  let v169 : BitVec 1 := Scalar.cmpi .sgt c4_i32 c0_i32_136
  let v170 : BitVec 32 := Scalar.extui v169
  let c0_i32_137 : BitVec 32 := 0#32
  let v171 : BitVec 1 := Scalar.cmpi .slt c4_i32 c0_i32_137
  let v172 : BitVec 32 := Scalar.extui v171
  let v173 : BitVec 32 := Scalar.subi v170 v172
  let v174 : BitVec 1 := Scalar.cmpi .ne v168 v173
  let v175 : BitVec 32 := Scalar.remsi arg2 c4_i32
  let c0_i32_138 : BitVec 32 := 0#32
  let v176 : BitVec 1 := Scalar.cmpi .ne v175 c0_i32_138
  let v177 : BitVec 1 := Scalar.andi v174 v176
  let v163 : BitVec 32 := Scalar.divsi arg2 c4_i32
  let c1_i32 : BitVec 32 := 1#32
  let v178 : BitVec 32 := Scalar.subi v163 c1_i32
  let v179 : BitVec 32 := Scalar.select v177 v178 v163
  let v180 : BitVec 32 := Scalar.subi v179 c0_i32_139
  let c1_i32_140 : BitVec 32 := 1#32
  let v182 : BitVec 32 := Scalar.divsi v180 c1_i32_140
  let v183 : BitVec 32 := Scalar.muli v182 c1_i32_140
  let v184 : BitVec 32 := Scalar.addi c0_i32_139 v183
  let c1_i32_142 : BitVec 32 := 1#32
  let arg8 : BitVec 32 := Scf.iv v184 c1_i32_142 k0_t2
  let c4_i32_171 : BitVec 32 := 4#32
  let v268 : BitVec 32 := Scalar.muli arg8 c4_i32_171
  let v269 : BitVec 32 := Scalar.addi v268 c0_i32_172
  let v529 : Index := Scalar.indexCast v269
  let c0_344 : Index := 0#32
  ![0, 0, 7, v529.toNat, 0]
def k0_off64 (i : grid0.Coords) (k0_t2 : Fin (k0_t2_loop i).trips) (c0_i32_172 : BitVec 32) : Fin 5 → Nat :=
  let c0_347 : Index := 0#32
  let c0_i32_139 : BitVec 32 := 0#32
  let arg2 : BitVec 32 := BitVec.ofNat 32 (i 2).val
  let c0_i32 : BitVec 32 := 0#32
  let v164 : BitVec 1 := Scalar.cmpi .sgt arg2 c0_i32
  let v165 : BitVec 32 := Scalar.extui v164
  let c0_i32_135 : BitVec 32 := 0#32
  let v166 : BitVec 1 := Scalar.cmpi .slt arg2 c0_i32_135
  let v167 : BitVec 32 := Scalar.extui v166
  let v168 : BitVec 32 := Scalar.subi v165 v167
  let c4_i32 : BitVec 32 := 4#32
  let c0_i32_136 : BitVec 32 := 0#32
  let v169 : BitVec 1 := Scalar.cmpi .sgt c4_i32 c0_i32_136
  let v170 : BitVec 32 := Scalar.extui v169
  let c0_i32_137 : BitVec 32 := 0#32
  let v171 : BitVec 1 := Scalar.cmpi .slt c4_i32 c0_i32_137
  let v172 : BitVec 32 := Scalar.extui v171
  let v173 : BitVec 32 := Scalar.subi v170 v172
  let v174 : BitVec 1 := Scalar.cmpi .ne v168 v173
  let v175 : BitVec 32 := Scalar.remsi arg2 c4_i32
  let c0_i32_138 : BitVec 32 := 0#32
  let v176 : BitVec 1 := Scalar.cmpi .ne v175 c0_i32_138
  let v177 : BitVec 1 := Scalar.andi v174 v176
  let v163 : BitVec 32 := Scalar.divsi arg2 c4_i32
  let c1_i32 : BitVec 32 := 1#32
  let v178 : BitVec 32 := Scalar.subi v163 c1_i32
  let v179 : BitVec 32 := Scalar.select v177 v178 v163
  let v180 : BitVec 32 := Scalar.subi v179 c0_i32_139
  let c1_i32_140 : BitVec 32 := 1#32
  let v182 : BitVec 32 := Scalar.divsi v180 c1_i32_140
  let v183 : BitVec 32 := Scalar.muli v182 c1_i32_140
  let v184 : BitVec 32 := Scalar.addi c0_i32_139 v183
  let c1_i32_142 : BitVec 32 := 1#32
  let arg8 : BitVec 32 := Scf.iv v184 c1_i32_142 k0_t2
  let c4_i32_171 : BitVec 32 := 4#32
  let v268 : BitVec 32 := Scalar.muli arg8 c4_i32_171
  let v269 : BitVec 32 := Scalar.addi v268 c0_i32_172
  let v544 : Index := Scalar.indexCast v269
  let c7_348 : Index := 7#32
  let c0_349 : Index := 0#32
  let c0_350 : Index := 0#32
  ![0, v544.toNat, 7, 0, 0]
@[reducible] def k0_t3_loop (i : grid0.Coords) : Scf.Loop 32 :=
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let v205 : BitVec 32 := Scalar.subi arg2 v204
  let c1_i32_151 : BitVec 32 := 1#32
  let v207 : BitVec 32 := Scalar.divsi v205 c1_i32_151
  let v208 : BitVec 32 := Scalar.muli v207 c1_i32_151
  let v209 : BitVec 32 := Scalar.addi v204 v208
  let c1_i32_152 : BitVec 32 := 1#32
  ⟨v204, v209, c1_i32_152⟩
def k0_off65 (i : grid0.Coords) (k0_t3 : Fin (k0_t3_loop i).trips) : Fin 5 → Nat :=
  let c0_171 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let c1_i32_152 : BitVec 32 := 1#32
  let arg8 : BitVec 32 := Scf.iv v204 c1_i32_152 k0_t3
  let v268 : Index := Scalar.indexCast arg8
  let c0_172 : Index := 0#32
  let c0_173 : Index := 0#32
  let c0_174 : Index := 0#32
  ![0, v268.toNat, 0, 0, 0]
def k0_off66 (i : grid0.Coords) (k0_t3 : Fin (k0_t3_loop i).trips) : Fin 5 → Nat :=
  let c0_176 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let c1_i32_152 : BitVec 32 := 1#32
  let arg8 : BitVec 32 := Scf.iv v204 c1_i32_152 k0_t3
  let v272 : Index := Scalar.indexCast arg8
  let c1_177 : Index := 1#32
  let c0_178 : Index := 0#32
  let c0_179 : Index := 0#32
  ![0, v272.toNat, 1, 0, 0]
def k0_off67 (i : grid0.Coords) (k0_t3 : Fin (k0_t3_loop i).trips) : Fin 5 → Nat :=
  let c0_181 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let c1_i32_152 : BitVec 32 := 1#32
  let arg8 : BitVec 32 := Scf.iv v204 c1_i32_152 k0_t3
  let v276 : Index := Scalar.indexCast arg8
  let c2_182 : Index := 2#32
  let c0_183 : Index := 0#32
  let c0_184 : Index := 0#32
  ![0, v276.toNat, 2, 0, 0]
def k0_off68 (i : grid0.Coords) (k0_t3 : Fin (k0_t3_loop i).trips) : Fin 5 → Nat :=
  let c0_186 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let c1_i32_152 : BitVec 32 := 1#32
  let arg8 : BitVec 32 := Scf.iv v204 c1_i32_152 k0_t3
  let v280 : Index := Scalar.indexCast arg8
  let c3_187 : Index := 3#32
  let c0_188 : Index := 0#32
  let c0_189 : Index := 0#32
  ![0, v280.toNat, 3, 0, 0]
def k0_off69 (i : grid0.Coords) (k0_t3 : Fin (k0_t3_loop i).trips) : Fin 5 → Nat :=
  let c0_191 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let c1_i32_152 : BitVec 32 := 1#32
  let arg8 : BitVec 32 := Scf.iv v204 c1_i32_152 k0_t3
  let v284 : Index := Scalar.indexCast arg8
  let c4_192 : Index := 4#32
  let c0_193 : Index := 0#32
  let c0_194 : Index := 0#32
  ![0, v284.toNat, 4, 0, 0]
def k0_off70 (i : grid0.Coords) (k0_t3 : Fin (k0_t3_loop i).trips) : Fin 5 → Nat :=
  let c0_196 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let c1_i32_152 : BitVec 32 := 1#32
  let arg8 : BitVec 32 := Scf.iv v204 c1_i32_152 k0_t3
  let v288 : Index := Scalar.indexCast arg8
  let c5_197 : Index := 5#32
  let c0_198 : Index := 0#32
  let c0_199 : Index := 0#32
  ![0, v288.toNat, 5, 0, 0]
def k0_off71 (i : grid0.Coords) (k0_t3 : Fin (k0_t3_loop i).trips) : Fin 5 → Nat :=
  let c0_201 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let c1_i32_152 : BitVec 32 := 1#32
  let arg8 : BitVec 32 := Scf.iv v204 c1_i32_152 k0_t3
  let v292 : Index := Scalar.indexCast arg8
  let c6_202 : Index := 6#32
  let c0_203 : Index := 0#32
  let c0_204 : Index := 0#32
  ![0, v292.toNat, 6, 0, 0]
def k0_off72 (i : grid0.Coords) (k0_t3 : Fin (k0_t3_loop i).trips) : Fin 5 → Nat :=
  let c0_206 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let c1_i32_152 : BitVec 32 := 1#32
  let arg8 : BitVec 32 := Scf.iv v204 c1_i32_152 k0_t3
  let v296 : Index := Scalar.indexCast arg8
  let c7_207 : Index := 7#32
  let c0_208 : Index := 0#32
  let c0_209 : Index := 0#32
  ![0, v296.toNat, 7, 0, 0]
def k0_off73 (i : grid0.Coords) (k0_t3 : Fin (k0_t3_loop i).trips) : Fin 5 → Nat :=
  let c0_211 : Index := 0#32
  let c0_212 : Index := 0#32
  let c0_213 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let c1_i32_152 : BitVec 32 := 1#32
  let arg8 : BitVec 32 := Scf.iv v204 c1_i32_152 k0_t3
  let v300 : Index := Scalar.indexCast arg8
  let c0_214 : Index := 0#32
  ![0, 0, 0, v300.toNat, 0]
def k0_off74 (i : grid0.Coords) (k0_t3 : Fin (k0_t3_loop i).trips) : Fin 5 → Nat :=
  let c0_217 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let c1_i32_152 : BitVec 32 := 1#32
  let arg8 : BitVec 32 := Scf.iv v204 c1_i32_152 k0_t3
  let v315 : Index := Scalar.indexCast arg8
  let c0_218 : Index := 0#32
  let c0_219 : Index := 0#32
  let c0_220 : Index := 0#32
  ![0, v315.toNat, 0, 0, 0]
def k0_off75 (i : grid0.Coords) (k0_t3 : Fin (k0_t3_loop i).trips) : Fin 5 → Nat :=
  let c0_223 : Index := 0#32
  let c0_224 : Index := 0#32
  let c1_225 : Index := 1#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let c1_i32_152 : BitVec 32 := 1#32
  let arg8 : BitVec 32 := Scf.iv v204 c1_i32_152 k0_t3
  let v327 : Index := Scalar.indexCast arg8
  let c0_226 : Index := 0#32
  ![0, 0, 1, v327.toNat, 0]
def k0_off76 (i : grid0.Coords) (k0_t3 : Fin (k0_t3_loop i).trips) : Fin 5 → Nat :=
  let c0_229 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let c1_i32_152 : BitVec 32 := 1#32
  let arg8 : BitVec 32 := Scf.iv v204 c1_i32_152 k0_t3
  let v342 : Index := Scalar.indexCast arg8
  let c1_230 : Index := 1#32
  let c0_231 : Index := 0#32
  let c0_232 : Index := 0#32
  ![0, v342.toNat, 1, 0, 0]
def k0_off77 (i : grid0.Coords) (k0_t3 : Fin (k0_t3_loop i).trips) : Fin 5 → Nat :=
  let c0_235 : Index := 0#32
  let c0_236 : Index := 0#32
  let c2_237 : Index := 2#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let c1_i32_152 : BitVec 32 := 1#32
  let arg8 : BitVec 32 := Scf.iv v204 c1_i32_152 k0_t3
  let v354 : Index := Scalar.indexCast arg8
  let c0_238 : Index := 0#32
  ![0, 0, 2, v354.toNat, 0]
def k0_off78 (i : grid0.Coords) (k0_t3 : Fin (k0_t3_loop i).trips) : Fin 5 → Nat :=
  let c0_241 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let c1_i32_152 : BitVec 32 := 1#32
  let arg8 : BitVec 32 := Scf.iv v204 c1_i32_152 k0_t3
  let v369 : Index := Scalar.indexCast arg8
  let c2_242 : Index := 2#32
  let c0_243 : Index := 0#32
  let c0_244 : Index := 0#32
  ![0, v369.toNat, 2, 0, 0]
def k0_off79 (i : grid0.Coords) (k0_t3 : Fin (k0_t3_loop i).trips) : Fin 5 → Nat :=
  let c0_247 : Index := 0#32
  let c0_248 : Index := 0#32
  let c3_249 : Index := 3#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let c1_i32_152 : BitVec 32 := 1#32
  let arg8 : BitVec 32 := Scf.iv v204 c1_i32_152 k0_t3
  let v381 : Index := Scalar.indexCast arg8
  let c0_250 : Index := 0#32
  ![0, 0, 3, v381.toNat, 0]
def k0_off80 (i : grid0.Coords) (k0_t3 : Fin (k0_t3_loop i).trips) : Fin 5 → Nat :=
  let c0_253 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let c1_i32_152 : BitVec 32 := 1#32
  let arg8 : BitVec 32 := Scf.iv v204 c1_i32_152 k0_t3
  let v396 : Index := Scalar.indexCast arg8
  let c3_254 : Index := 3#32
  let c0_255 : Index := 0#32
  let c0_256 : Index := 0#32
  ![0, v396.toNat, 3, 0, 0]
def k0_off81 (i : grid0.Coords) (k0_t3 : Fin (k0_t3_loop i).trips) : Fin 5 → Nat :=
  let c0_259 : Index := 0#32
  let c0_260 : Index := 0#32
  let c4_261 : Index := 4#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let c1_i32_152 : BitVec 32 := 1#32
  let arg8 : BitVec 32 := Scf.iv v204 c1_i32_152 k0_t3
  let v408 : Index := Scalar.indexCast arg8
  let c0_262 : Index := 0#32
  ![0, 0, 4, v408.toNat, 0]
def k0_off82 (i : grid0.Coords) (k0_t3 : Fin (k0_t3_loop i).trips) : Fin 5 → Nat :=
  let c0_265 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let c1_i32_152 : BitVec 32 := 1#32
  let arg8 : BitVec 32 := Scf.iv v204 c1_i32_152 k0_t3
  let v423 : Index := Scalar.indexCast arg8
  let c4_266 : Index := 4#32
  let c0_267 : Index := 0#32
  let c0_268 : Index := 0#32
  ![0, v423.toNat, 4, 0, 0]
def k0_off83 (i : grid0.Coords) (k0_t3 : Fin (k0_t3_loop i).trips) : Fin 5 → Nat :=
  let c0_271 : Index := 0#32
  let c0_272 : Index := 0#32
  let c5_273 : Index := 5#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let c1_i32_152 : BitVec 32 := 1#32
  let arg8 : BitVec 32 := Scf.iv v204 c1_i32_152 k0_t3
  let v435 : Index := Scalar.indexCast arg8
  let c0_274 : Index := 0#32
  ![0, 0, 5, v435.toNat, 0]
def k0_off84 (i : grid0.Coords) (k0_t3 : Fin (k0_t3_loop i).trips) : Fin 5 → Nat :=
  let c0_277 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let c1_i32_152 : BitVec 32 := 1#32
  let arg8 : BitVec 32 := Scf.iv v204 c1_i32_152 k0_t3
  let v450 : Index := Scalar.indexCast arg8
  let c5_278 : Index := 5#32
  let c0_279 : Index := 0#32
  let c0_280 : Index := 0#32
  ![0, v450.toNat, 5, 0, 0]
def k0_off85 (i : grid0.Coords) (k0_t3 : Fin (k0_t3_loop i).trips) : Fin 5 → Nat :=
  let c0_283 : Index := 0#32
  let c0_284 : Index := 0#32
  let c6_285 : Index := 6#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let c1_i32_152 : BitVec 32 := 1#32
  let arg8 : BitVec 32 := Scf.iv v204 c1_i32_152 k0_t3
  let v462 : Index := Scalar.indexCast arg8
  let c0_286 : Index := 0#32
  ![0, 0, 6, v462.toNat, 0]
def k0_off86 (i : grid0.Coords) (k0_t3 : Fin (k0_t3_loop i).trips) : Fin 5 → Nat :=
  let c0_289 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let c1_i32_152 : BitVec 32 := 1#32
  let arg8 : BitVec 32 := Scf.iv v204 c1_i32_152 k0_t3
  let v477 : Index := Scalar.indexCast arg8
  let c6_290 : Index := 6#32
  let c0_291 : Index := 0#32
  let c0_292 : Index := 0#32
  ![0, v477.toNat, 6, 0, 0]
def k0_off87 (i : grid0.Coords) (k0_t3 : Fin (k0_t3_loop i).trips) : Fin 5 → Nat :=
  let c0_295 : Index := 0#32
  let c0_296 : Index := 0#32
  let c7_297 : Index := 7#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let c1_i32_152 : BitVec 32 := 1#32
  let arg8 : BitVec 32 := Scf.iv v204 c1_i32_152 k0_t3
  let v489 : Index := Scalar.indexCast arg8
  let c0_298 : Index := 0#32
  ![0, 0, 7, v489.toNat, 0]
def k0_off88 (i : grid0.Coords) (k0_t3 : Fin (k0_t3_loop i).trips) : Fin 5 → Nat :=
  let c0_301 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let c1_i32_152 : BitVec 32 := 1#32
  let arg8 : BitVec 32 := Scf.iv v204 c1_i32_152 k0_t3
  let v504 : Index := Scalar.indexCast arg8
  let c7_302 : Index := 7#32
  let c0_303 : Index := 0#32
  let c0_304 : Index := 0#32
  ![0, v504.toNat, 7, 0, 0]
@[reducible] def k0_t4_loop (i : grid0.Coords) : Scf.Loop 32 :=
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let v205 : BitVec 32 := Scalar.subi arg2 v204
  let c1_i32_151 : BitVec 32 := 1#32
  let v207 : BitVec 32 := Scalar.divsi v205 c1_i32_151
  let v208 : BitVec 32 := Scalar.muli v207 c1_i32_151
  let v209 : BitVec 32 := Scalar.addi v204 v208
  let v206 : BitVec 32 := Scalar.addi v204 v205
  let c1_i32_153 : BitVec 32 := 1#32
  ⟨v209, v206, c1_i32_153⟩
def k0_off89 (i : grid0.Coords) (k0_t4 : Fin (k0_t4_loop i).trips) : Fin 5 → Nat :=
  let c0_171 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let v205 : BitVec 32 := Scalar.subi arg2 v204
  let c1_i32_151 : BitVec 32 := 1#32
  let v207 : BitVec 32 := Scalar.divsi v205 c1_i32_151
  let v208 : BitVec 32 := Scalar.muli v207 c1_i32_151
  let v209 : BitVec 32 := Scalar.addi v204 v208
  let c1_i32_153 : BitVec 32 := 1#32
  let arg8 : BitVec 32 := Scf.iv v209 c1_i32_153 k0_t4
  let v268 : Index := Scalar.indexCast arg8
  let c0_172 : Index := 0#32
  let c0_173 : Index := 0#32
  let c0_174 : Index := 0#32
  ![0, v268.toNat, 0, 0, 0]
def k0_off90 (i : grid0.Coords) (k0_t4 : Fin (k0_t4_loop i).trips) : Fin 5 → Nat :=
  let c0_176 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let v205 : BitVec 32 := Scalar.subi arg2 v204
  let c1_i32_151 : BitVec 32 := 1#32
  let v207 : BitVec 32 := Scalar.divsi v205 c1_i32_151
  let v208 : BitVec 32 := Scalar.muli v207 c1_i32_151
  let v209 : BitVec 32 := Scalar.addi v204 v208
  let c1_i32_153 : BitVec 32 := 1#32
  let arg8 : BitVec 32 := Scf.iv v209 c1_i32_153 k0_t4
  let v272 : Index := Scalar.indexCast arg8
  let c1_177 : Index := 1#32
  let c0_178 : Index := 0#32
  let c0_179 : Index := 0#32
  ![0, v272.toNat, 1, 0, 0]
def k0_off91 (i : grid0.Coords) (k0_t4 : Fin (k0_t4_loop i).trips) : Fin 5 → Nat :=
  let c0_181 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let v205 : BitVec 32 := Scalar.subi arg2 v204
  let c1_i32_151 : BitVec 32 := 1#32
  let v207 : BitVec 32 := Scalar.divsi v205 c1_i32_151
  let v208 : BitVec 32 := Scalar.muli v207 c1_i32_151
  let v209 : BitVec 32 := Scalar.addi v204 v208
  let c1_i32_153 : BitVec 32 := 1#32
  let arg8 : BitVec 32 := Scf.iv v209 c1_i32_153 k0_t4
  let v276 : Index := Scalar.indexCast arg8
  let c2_182 : Index := 2#32
  let c0_183 : Index := 0#32
  let c0_184 : Index := 0#32
  ![0, v276.toNat, 2, 0, 0]
def k0_off92 (i : grid0.Coords) (k0_t4 : Fin (k0_t4_loop i).trips) : Fin 5 → Nat :=
  let c0_186 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let v205 : BitVec 32 := Scalar.subi arg2 v204
  let c1_i32_151 : BitVec 32 := 1#32
  let v207 : BitVec 32 := Scalar.divsi v205 c1_i32_151
  let v208 : BitVec 32 := Scalar.muli v207 c1_i32_151
  let v209 : BitVec 32 := Scalar.addi v204 v208
  let c1_i32_153 : BitVec 32 := 1#32
  let arg8 : BitVec 32 := Scf.iv v209 c1_i32_153 k0_t4
  let v280 : Index := Scalar.indexCast arg8
  let c3_187 : Index := 3#32
  let c0_188 : Index := 0#32
  let c0_189 : Index := 0#32
  ![0, v280.toNat, 3, 0, 0]
def k0_off93 (i : grid0.Coords) (k0_t4 : Fin (k0_t4_loop i).trips) : Fin 5 → Nat :=
  let c0_191 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let v205 : BitVec 32 := Scalar.subi arg2 v204
  let c1_i32_151 : BitVec 32 := 1#32
  let v207 : BitVec 32 := Scalar.divsi v205 c1_i32_151
  let v208 : BitVec 32 := Scalar.muli v207 c1_i32_151
  let v209 : BitVec 32 := Scalar.addi v204 v208
  let c1_i32_153 : BitVec 32 := 1#32
  let arg8 : BitVec 32 := Scf.iv v209 c1_i32_153 k0_t4
  let v284 : Index := Scalar.indexCast arg8
  let c4_192 : Index := 4#32
  let c0_193 : Index := 0#32
  let c0_194 : Index := 0#32
  ![0, v284.toNat, 4, 0, 0]
def k0_off94 (i : grid0.Coords) (k0_t4 : Fin (k0_t4_loop i).trips) : Fin 5 → Nat :=
  let c0_196 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let v205 : BitVec 32 := Scalar.subi arg2 v204
  let c1_i32_151 : BitVec 32 := 1#32
  let v207 : BitVec 32 := Scalar.divsi v205 c1_i32_151
  let v208 : BitVec 32 := Scalar.muli v207 c1_i32_151
  let v209 : BitVec 32 := Scalar.addi v204 v208
  let c1_i32_153 : BitVec 32 := 1#32
  let arg8 : BitVec 32 := Scf.iv v209 c1_i32_153 k0_t4
  let v288 : Index := Scalar.indexCast arg8
  let c5_197 : Index := 5#32
  let c0_198 : Index := 0#32
  let c0_199 : Index := 0#32
  ![0, v288.toNat, 5, 0, 0]
def k0_off95 (i : grid0.Coords) (k0_t4 : Fin (k0_t4_loop i).trips) : Fin 5 → Nat :=
  let c0_201 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let v205 : BitVec 32 := Scalar.subi arg2 v204
  let c1_i32_151 : BitVec 32 := 1#32
  let v207 : BitVec 32 := Scalar.divsi v205 c1_i32_151
  let v208 : BitVec 32 := Scalar.muli v207 c1_i32_151
  let v209 : BitVec 32 := Scalar.addi v204 v208
  let c1_i32_153 : BitVec 32 := 1#32
  let arg8 : BitVec 32 := Scf.iv v209 c1_i32_153 k0_t4
  let v292 : Index := Scalar.indexCast arg8
  let c6_202 : Index := 6#32
  let c0_203 : Index := 0#32
  let c0_204 : Index := 0#32
  ![0, v292.toNat, 6, 0, 0]
def k0_off96 (i : grid0.Coords) (k0_t4 : Fin (k0_t4_loop i).trips) : Fin 5 → Nat :=
  let c0_206 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let v205 : BitVec 32 := Scalar.subi arg2 v204
  let c1_i32_151 : BitVec 32 := 1#32
  let v207 : BitVec 32 := Scalar.divsi v205 c1_i32_151
  let v208 : BitVec 32 := Scalar.muli v207 c1_i32_151
  let v209 : BitVec 32 := Scalar.addi v204 v208
  let c1_i32_153 : BitVec 32 := 1#32
  let arg8 : BitVec 32 := Scf.iv v209 c1_i32_153 k0_t4
  let v296 : Index := Scalar.indexCast arg8
  let c7_207 : Index := 7#32
  let c0_208 : Index := 0#32
  let c0_209 : Index := 0#32
  ![0, v296.toNat, 7, 0, 0]
def k0_off97 (i : grid0.Coords) (k0_t4 : Fin (k0_t4_loop i).trips) : Fin 5 → Nat :=
  let c0_211 : Index := 0#32
  let c0_212 : Index := 0#32
  let c0_213 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let v205 : BitVec 32 := Scalar.subi arg2 v204
  let c1_i32_151 : BitVec 32 := 1#32
  let v207 : BitVec 32 := Scalar.divsi v205 c1_i32_151
  let v208 : BitVec 32 := Scalar.muli v207 c1_i32_151
  let v209 : BitVec 32 := Scalar.addi v204 v208
  let c1_i32_153 : BitVec 32 := 1#32
  let arg8 : BitVec 32 := Scf.iv v209 c1_i32_153 k0_t4
  let v300 : Index := Scalar.indexCast arg8
  let c0_214 : Index := 0#32
  ![0, 0, 0, v300.toNat, 0]
def k0_off98 (i : grid0.Coords) (k0_t4 : Fin (k0_t4_loop i).trips) : Fin 5 → Nat :=
  let c0_217 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let v205 : BitVec 32 := Scalar.subi arg2 v204
  let c1_i32_151 : BitVec 32 := 1#32
  let v207 : BitVec 32 := Scalar.divsi v205 c1_i32_151
  let v208 : BitVec 32 := Scalar.muli v207 c1_i32_151
  let v209 : BitVec 32 := Scalar.addi v204 v208
  let c1_i32_153 : BitVec 32 := 1#32
  let arg8 : BitVec 32 := Scf.iv v209 c1_i32_153 k0_t4
  let v315 : Index := Scalar.indexCast arg8
  let c0_218 : Index := 0#32
  let c0_219 : Index := 0#32
  let c0_220 : Index := 0#32
  ![0, v315.toNat, 0, 0, 0]
def k0_off99 (i : grid0.Coords) (k0_t4 : Fin (k0_t4_loop i).trips) : Fin 5 → Nat :=
  let c0_223 : Index := 0#32
  let c0_224 : Index := 0#32
  let c1_225 : Index := 1#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let v205 : BitVec 32 := Scalar.subi arg2 v204
  let c1_i32_151 : BitVec 32 := 1#32
  let v207 : BitVec 32 := Scalar.divsi v205 c1_i32_151
  let v208 : BitVec 32 := Scalar.muli v207 c1_i32_151
  let v209 : BitVec 32 := Scalar.addi v204 v208
  let c1_i32_153 : BitVec 32 := 1#32
  let arg8 : BitVec 32 := Scf.iv v209 c1_i32_153 k0_t4
  let v327 : Index := Scalar.indexCast arg8
  let c0_226 : Index := 0#32
  ![0, 0, 1, v327.toNat, 0]
def k0_off100 (i : grid0.Coords) (k0_t4 : Fin (k0_t4_loop i).trips) : Fin 5 → Nat :=
  let c0_229 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let v205 : BitVec 32 := Scalar.subi arg2 v204
  let c1_i32_151 : BitVec 32 := 1#32
  let v207 : BitVec 32 := Scalar.divsi v205 c1_i32_151
  let v208 : BitVec 32 := Scalar.muli v207 c1_i32_151
  let v209 : BitVec 32 := Scalar.addi v204 v208
  let c1_i32_153 : BitVec 32 := 1#32
  let arg8 : BitVec 32 := Scf.iv v209 c1_i32_153 k0_t4
  let v342 : Index := Scalar.indexCast arg8
  let c1_230 : Index := 1#32
  let c0_231 : Index := 0#32
  let c0_232 : Index := 0#32
  ![0, v342.toNat, 1, 0, 0]
def k0_off101 (i : grid0.Coords) (k0_t4 : Fin (k0_t4_loop i).trips) : Fin 5 → Nat :=
  let c0_235 : Index := 0#32
  let c0_236 : Index := 0#32
  let c2_237 : Index := 2#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let v205 : BitVec 32 := Scalar.subi arg2 v204
  let c1_i32_151 : BitVec 32 := 1#32
  let v207 : BitVec 32 := Scalar.divsi v205 c1_i32_151
  let v208 : BitVec 32 := Scalar.muli v207 c1_i32_151
  let v209 : BitVec 32 := Scalar.addi v204 v208
  let c1_i32_153 : BitVec 32 := 1#32
  let arg8 : BitVec 32 := Scf.iv v209 c1_i32_153 k0_t4
  let v354 : Index := Scalar.indexCast arg8
  let c0_238 : Index := 0#32
  ![0, 0, 2, v354.toNat, 0]
def k0_off102 (i : grid0.Coords) (k0_t4 : Fin (k0_t4_loop i).trips) : Fin 5 → Nat :=
  let c0_241 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let v205 : BitVec 32 := Scalar.subi arg2 v204
  let c1_i32_151 : BitVec 32 := 1#32
  let v207 : BitVec 32 := Scalar.divsi v205 c1_i32_151
  let v208 : BitVec 32 := Scalar.muli v207 c1_i32_151
  let v209 : BitVec 32 := Scalar.addi v204 v208
  let c1_i32_153 : BitVec 32 := 1#32
  let arg8 : BitVec 32 := Scf.iv v209 c1_i32_153 k0_t4
  let v369 : Index := Scalar.indexCast arg8
  let c2_242 : Index := 2#32
  let c0_243 : Index := 0#32
  let c0_244 : Index := 0#32
  ![0, v369.toNat, 2, 0, 0]
def k0_off103 (i : grid0.Coords) (k0_t4 : Fin (k0_t4_loop i).trips) : Fin 5 → Nat :=
  let c0_247 : Index := 0#32
  let c0_248 : Index := 0#32
  let c3_249 : Index := 3#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let v205 : BitVec 32 := Scalar.subi arg2 v204
  let c1_i32_151 : BitVec 32 := 1#32
  let v207 : BitVec 32 := Scalar.divsi v205 c1_i32_151
  let v208 : BitVec 32 := Scalar.muli v207 c1_i32_151
  let v209 : BitVec 32 := Scalar.addi v204 v208
  let c1_i32_153 : BitVec 32 := 1#32
  let arg8 : BitVec 32 := Scf.iv v209 c1_i32_153 k0_t4
  let v381 : Index := Scalar.indexCast arg8
  let c0_250 : Index := 0#32
  ![0, 0, 3, v381.toNat, 0]
def k0_off104 (i : grid0.Coords) (k0_t4 : Fin (k0_t4_loop i).trips) : Fin 5 → Nat :=
  let c0_253 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let v205 : BitVec 32 := Scalar.subi arg2 v204
  let c1_i32_151 : BitVec 32 := 1#32
  let v207 : BitVec 32 := Scalar.divsi v205 c1_i32_151
  let v208 : BitVec 32 := Scalar.muli v207 c1_i32_151
  let v209 : BitVec 32 := Scalar.addi v204 v208
  let c1_i32_153 : BitVec 32 := 1#32
  let arg8 : BitVec 32 := Scf.iv v209 c1_i32_153 k0_t4
  let v396 : Index := Scalar.indexCast arg8
  let c3_254 : Index := 3#32
  let c0_255 : Index := 0#32
  let c0_256 : Index := 0#32
  ![0, v396.toNat, 3, 0, 0]
def k0_off105 (i : grid0.Coords) (k0_t4 : Fin (k0_t4_loop i).trips) : Fin 5 → Nat :=
  let c0_259 : Index := 0#32
  let c0_260 : Index := 0#32
  let c4_261 : Index := 4#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let v205 : BitVec 32 := Scalar.subi arg2 v204
  let c1_i32_151 : BitVec 32 := 1#32
  let v207 : BitVec 32 := Scalar.divsi v205 c1_i32_151
  let v208 : BitVec 32 := Scalar.muli v207 c1_i32_151
  let v209 : BitVec 32 := Scalar.addi v204 v208
  let c1_i32_153 : BitVec 32 := 1#32
  let arg8 : BitVec 32 := Scf.iv v209 c1_i32_153 k0_t4
  let v408 : Index := Scalar.indexCast arg8
  let c0_262 : Index := 0#32
  ![0, 0, 4, v408.toNat, 0]
def k0_off106 (i : grid0.Coords) (k0_t4 : Fin (k0_t4_loop i).trips) : Fin 5 → Nat :=
  let c0_265 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let v205 : BitVec 32 := Scalar.subi arg2 v204
  let c1_i32_151 : BitVec 32 := 1#32
  let v207 : BitVec 32 := Scalar.divsi v205 c1_i32_151
  let v208 : BitVec 32 := Scalar.muli v207 c1_i32_151
  let v209 : BitVec 32 := Scalar.addi v204 v208
  let c1_i32_153 : BitVec 32 := 1#32
  let arg8 : BitVec 32 := Scf.iv v209 c1_i32_153 k0_t4
  let v423 : Index := Scalar.indexCast arg8
  let c4_266 : Index := 4#32
  let c0_267 : Index := 0#32
  let c0_268 : Index := 0#32
  ![0, v423.toNat, 4, 0, 0]
def k0_off107 (i : grid0.Coords) (k0_t4 : Fin (k0_t4_loop i).trips) : Fin 5 → Nat :=
  let c0_271 : Index := 0#32
  let c0_272 : Index := 0#32
  let c5_273 : Index := 5#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let v205 : BitVec 32 := Scalar.subi arg2 v204
  let c1_i32_151 : BitVec 32 := 1#32
  let v207 : BitVec 32 := Scalar.divsi v205 c1_i32_151
  let v208 : BitVec 32 := Scalar.muli v207 c1_i32_151
  let v209 : BitVec 32 := Scalar.addi v204 v208
  let c1_i32_153 : BitVec 32 := 1#32
  let arg8 : BitVec 32 := Scf.iv v209 c1_i32_153 k0_t4
  let v435 : Index := Scalar.indexCast arg8
  let c0_274 : Index := 0#32
  ![0, 0, 5, v435.toNat, 0]
def k0_off108 (i : grid0.Coords) (k0_t4 : Fin (k0_t4_loop i).trips) : Fin 5 → Nat :=
  let c0_277 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let v205 : BitVec 32 := Scalar.subi arg2 v204
  let c1_i32_151 : BitVec 32 := 1#32
  let v207 : BitVec 32 := Scalar.divsi v205 c1_i32_151
  let v208 : BitVec 32 := Scalar.muli v207 c1_i32_151
  let v209 : BitVec 32 := Scalar.addi v204 v208
  let c1_i32_153 : BitVec 32 := 1#32
  let arg8 : BitVec 32 := Scf.iv v209 c1_i32_153 k0_t4
  let v450 : Index := Scalar.indexCast arg8
  let c5_278 : Index := 5#32
  let c0_279 : Index := 0#32
  let c0_280 : Index := 0#32
  ![0, v450.toNat, 5, 0, 0]
def k0_off109 (i : grid0.Coords) (k0_t4 : Fin (k0_t4_loop i).trips) : Fin 5 → Nat :=
  let c0_283 : Index := 0#32
  let c0_284 : Index := 0#32
  let c6_285 : Index := 6#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let v205 : BitVec 32 := Scalar.subi arg2 v204
  let c1_i32_151 : BitVec 32 := 1#32
  let v207 : BitVec 32 := Scalar.divsi v205 c1_i32_151
  let v208 : BitVec 32 := Scalar.muli v207 c1_i32_151
  let v209 : BitVec 32 := Scalar.addi v204 v208
  let c1_i32_153 : BitVec 32 := 1#32
  let arg8 : BitVec 32 := Scf.iv v209 c1_i32_153 k0_t4
  let v462 : Index := Scalar.indexCast arg8
  let c0_286 : Index := 0#32
  ![0, 0, 6, v462.toNat, 0]
def k0_off110 (i : grid0.Coords) (k0_t4 : Fin (k0_t4_loop i).trips) : Fin 5 → Nat :=
  let c0_289 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let v205 : BitVec 32 := Scalar.subi arg2 v204
  let c1_i32_151 : BitVec 32 := 1#32
  let v207 : BitVec 32 := Scalar.divsi v205 c1_i32_151
  let v208 : BitVec 32 := Scalar.muli v207 c1_i32_151
  let v209 : BitVec 32 := Scalar.addi v204 v208
  let c1_i32_153 : BitVec 32 := 1#32
  let arg8 : BitVec 32 := Scf.iv v209 c1_i32_153 k0_t4
  let v477 : Index := Scalar.indexCast arg8
  let c6_290 : Index := 6#32
  let c0_291 : Index := 0#32
  let c0_292 : Index := 0#32
  ![0, v477.toNat, 6, 0, 0]
def k0_off111 (i : grid0.Coords) (k0_t4 : Fin (k0_t4_loop i).trips) : Fin 5 → Nat :=
  let c0_295 : Index := 0#32
  let c0_296 : Index := 0#32
  let c7_297 : Index := 7#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let v205 : BitVec 32 := Scalar.subi arg2 v204
  let c1_i32_151 : BitVec 32 := 1#32
  let v207 : BitVec 32 := Scalar.divsi v205 c1_i32_151
  let v208 : BitVec 32 := Scalar.muli v207 c1_i32_151
  let v209 : BitVec 32 := Scalar.addi v204 v208
  let c1_i32_153 : BitVec 32 := 1#32
  let arg8 : BitVec 32 := Scf.iv v209 c1_i32_153 k0_t4
  let v489 : Index := Scalar.indexCast arg8
  let c0_298 : Index := 0#32
  ![0, 0, 7, v489.toNat, 0]
def k0_off112 (i : grid0.Coords) (k0_t4 : Fin (k0_t4_loop i).trips) : Fin 5 → Nat :=
  let c0_301 : Index := 0#32
  let arg2 : BitVec 32 := BitVec.ofNat 32 (i 2).val
  let c0_i32_144 : BitVec 32 := 0#32
  let v188 : BitVec 1 := Scalar.cmpi .sgt arg2 c0_i32_144
  let v189 : BitVec 32 := Scalar.extui v188
  let c0_i32_145 : BitVec 32 := 0#32
  let v190 : BitVec 1 := Scalar.cmpi .slt arg2 c0_i32_145
  let v191 : BitVec 32 := Scalar.extui v190
  let v192 : BitVec 32 := Scalar.subi v189 v191
  let c4_i32_143 : BitVec 32 := 4#32
  let c0_i32_146 : BitVec 32 := 0#32
  let v193 : BitVec 1 := Scalar.cmpi .sgt c4_i32_143 c0_i32_146
  let v194 : BitVec 32 := Scalar.extui v193
  let c0_i32_147 : BitVec 32 := 0#32
  let v195 : BitVec 1 := Scalar.cmpi .slt c4_i32_143 c0_i32_147
  let v196 : BitVec 32 := Scalar.extui v195
  let v197 : BitVec 32 := Scalar.subi v194 v196
  let v198 : BitVec 1 := Scalar.cmpi .ne v192 v197
  let v199 : BitVec 32 := Scalar.remsi arg2 c4_i32_143
  let c0_i32_148 : BitVec 32 := 0#32
  let v200 : BitVec 1 := Scalar.cmpi .ne v199 c0_i32_148
  let v201 : BitVec 1 := Scalar.andi v198 v200
  let v187 : BitVec 32 := Scalar.divsi arg2 c4_i32_143
  let c1_i32_149 : BitVec 32 := 1#32
  let v202 : BitVec 32 := Scalar.subi v187 c1_i32_149
  let v203 : BitVec 32 := Scalar.select v201 v202 v187
  let c4_i32_150 : BitVec 32 := 4#32
  let v204 : BitVec 32 := Scalar.muli v203 c4_i32_150
  let v205 : BitVec 32 := Scalar.subi arg2 v204
  let c1_i32_151 : BitVec 32 := 1#32
  let v207 : BitVec 32 := Scalar.divsi v205 c1_i32_151
  let v208 : BitVec 32 := Scalar.muli v207 c1_i32_151
  let v209 : BitVec 32 := Scalar.addi v204 v208
  let c1_i32_153 : BitVec 32 := 1#32
  let arg8 : BitVec 32 := Scf.iv v209 c1_i32_153 k0_t4
  let v504 : Index := Scalar.indexCast arg8
  let c7_302 : Index := 7#32
  let c0_303 : Index := 0#32
  let c0_304 : Index := 0#32
  ![0, v504.toNat, 7, 0, 0]
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x8x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x8x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S2x16x8x128x256 : Shape := ⟨5, ![2, 16, 8, 128, 256]⟩
abbrev S2x16x8x256x128 : Shape := ⟨5, ![2, 16, 8, 256, 128]⟩
abbrev S2x16x8x16x256 : Shape := ⟨5, ![2, 16, 8, 16, 256]⟩
abbrev S2x8x16x256x128 : Shape := ⟨5, ![2, 8, 16, 256, 128]⟩
abbrev S2x8x4096x128 : Shape := ⟨4, ![2, 8, 4096, 128]⟩
abbrev S2x8x16x256x16 : Shape := ⟨5, ![2, 8, 16, 256, 16]⟩
abbrev S2x8x4096x16 : Shape := ⟨4, ![2, 8, 4096, 16]⟩
abbrev S_ : Shape := ⟨0, ![]⟩
abbrev S2x8x4096x16x256 : Shape := ⟨5, ![2, 8, 4096, 16, 256]⟩
abbrev S2x8x4096x4096 : Shape := ⟨4, ![2, 8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S2x8x4096 : Shape := ⟨3, ![2, 8, 4096]⟩
abbrev S2x8x4096x1 : Shape := ⟨4, ![2, 8, 4096, 1]⟩
abbrev S2x4096x8x128 : Shape := ⟨4, ![2, 4096, 8, 128]⟩
abbrev S2x4096x1024 : Shape := ⟨3, ![2, 4096, 1024]⟩

abbrev nBuf : Space → Nat
  | .hbm => 88
  | .vmem => 0
  | .smem => 0
  | _ => 0

abbrev bufTy : (tb : Table) → Fin (tcTables nBuf tb) → BufTy
  | .hbm, ⟨0, _⟩ => ⟨S2x16x8x128x256, .bf16⟩
  | .hbm, ⟨1, _⟩ => ⟨S2x16x8x256x128, .bf16⟩
  | .hbm, ⟨2, _⟩ => ⟨S2x16x8x128x256, .bf16⟩
  | .hbm, ⟨3, _⟩ => ⟨S2x16x8x16x256, .f32⟩
  | .hbm, ⟨4, _⟩ => ⟨S2x16x8x128x256, .f32⟩
  | .hbm, ⟨5, _⟩ => ⟨S2x8x16x256x128, .f32⟩
  | .hbm, ⟨6, _⟩ => ⟨S2x8x4096x128, .f32⟩
  | .hbm, ⟨7, _⟩ => ⟨S2x16x8x256x128, .f32⟩
  | .hbm, ⟨8, _⟩ => ⟨S2x8x16x256x128, .f32⟩
  | .hbm, ⟨9, _⟩ => ⟨S2x8x4096x128, .f32⟩
  | .hbm, ⟨10, _⟩ => ⟨S2x16x8x128x256, .f32⟩
  | .hbm, ⟨11, _⟩ => ⟨S2x8x16x256x128, .f32⟩
  | .hbm, ⟨12, _⟩ => ⟨S2x8x4096x128, .f32⟩
  | .hbm, ⟨13, _⟩ => ⟨S2x8x16x256x16, .f32⟩
  | .hbm, ⟨14, _⟩ => ⟨S2x8x4096x16, .f32⟩
  | .hbm, ⟨15, _⟩ => ⟨S_, .f32⟩
  | .hbm, ⟨16, _⟩ => ⟨S2x8x4096x16, .f32⟩
  | .hbm, ⟨17, _⟩ => ⟨S2x8x4096x16, .i1⟩
  | .hbm, ⟨18, _⟩ => ⟨S2x8x4096x16x256, .i1⟩
  | .hbm, ⟨19, _⟩ => ⟨S2x8x4096x4096, .i1⟩
  | .hbm, ⟨20, _⟩ => ⟨S4096, .i32⟩
  | .hbm, ⟨21, _⟩ => ⟨S_, .i32⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S4096, .i1⟩
  | .hbm, ⟨29, _⟩ => ⟨S4096, .i32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096, .i32⟩
  | .hbm, ⟨39, _⟩ => ⟨S1x4096, .i32⟩
  | .hbm, ⟨40, _⟩ => ⟨S4096x1, .i32⟩
  | .hbm, ⟨41, _⟩ => ⟨S4096x4096, .i32⟩
  | .hbm, ⟨42, _⟩ => ⟨S4096x4096, .i32⟩
  | .hbm, ⟨43, _⟩ => ⟨S4096x4096, .i1⟩
  | .hbm, ⟨44, _⟩ => ⟨S1x4096, .i32⟩
  | .hbm, ⟨45, _⟩ => ⟨S4096x1, .i32⟩
  | .hbm, ⟨46, _⟩ => ⟨S4096x4096, .i32⟩
  | .hbm, ⟨47, _⟩ => ⟨S4096x4096, .i32⟩
  | .hbm, ⟨48, _⟩ => ⟨S4096x4096, .i1⟩
  | .hbm, ⟨49, _⟩ => ⟨S1x4096, .i32⟩
  | .hbm, ⟨50, _⟩ => ⟨S4096x1, .i32⟩
  | .hbm, ⟨51, _⟩ => ⟨S4096x4096, .i32⟩
  | .hbm, ⟨52, _⟩ => ⟨S4096x4096, .i32⟩
  | .hbm, ⟨53, _⟩ => ⟨S4096x4096, .i1⟩
  | .hbm, ⟨54, _⟩ => ⟨S4096x4096, .i1⟩
  | .hbm, ⟨55, _⟩ => ⟨S2x8x4096x4096, .f32⟩
  | .hbm, ⟨56, _⟩ => ⟨S_, .f32⟩
  | .hbm, ⟨57, _⟩ => ⟨S_, .f32⟩
  | .hbm, ⟨58, _⟩ => ⟨S2x8x4096x4096, .f32⟩
  | .hbm, ⟨59, _⟩ => ⟨S2x8x4096x4096, .f32⟩
  | .hbm, ⟨60, _⟩ => ⟨S1x1x4096x4096, .i1⟩
  | .hbm, ⟨61, _⟩ => ⟨S2x8x4096x4096, .i1⟩
  | .hbm, ⟨62, _⟩ => ⟨S2x8x4096x4096, .i1⟩
  | .hbm, ⟨63, _⟩ => ⟨S1x1x4096x4096, .i1⟩
  | .hbm, ⟨64, _⟩ => ⟨S2x8x4096x4096, .i1⟩
  | .hbm, ⟨65, _⟩ => ⟨S2x8x4096x4096, .i1⟩
  | .hbm, ⟨66, _⟩ => ⟨S_, .f32⟩
  | .hbm, ⟨67, _⟩ => ⟨S_, .f32⟩
  | .hbm, ⟨68, _⟩ => ⟨S2x8x4096x4096, .f32⟩
  | .hbm, ⟨69, _⟩ => ⟨S2x8x4096x4096, .f32⟩
  | .hbm, ⟨70, _⟩ => ⟨S_, .f32⟩
  | .hbm, ⟨71, _⟩ => ⟨S2x8x4096, .f32⟩
  | .hbm, ⟨72, _⟩ => ⟨S_, .f32⟩
  | .hbm, ⟨73, _⟩ => ⟨S2x8x4096, .f32⟩
  | .hbm, ⟨74, _⟩ => ⟨S2x8x4096, .f32⟩
  | .hbm, ⟨75, _⟩ => ⟨S2x8x4096x1, .f32⟩
  | .hbm, ⟨76, _⟩ => ⟨S2x8x4096x4096, .f32⟩
  | .hbm, ⟨77, _⟩ => ⟨S2x8x4096x4096, .f32⟩
  | .hbm, ⟨78, _⟩ => ⟨S2x8x4096x4096, .f32⟩
  | .hbm, ⟨79, _⟩ => ⟨S_, .f32⟩
  | .hbm, ⟨80, _⟩ => ⟨S2x8x4096, .f32⟩
  | .hbm, ⟨81, _⟩ => ⟨S2x8x4096x1, .f32⟩
  | .hbm, ⟨82, _⟩ => ⟨S2x8x4096x4096, .f32⟩
  | .hbm, ⟨83, _⟩ => ⟨S2x8x4096x4096, .f32⟩
  | .hbm, ⟨84, _⟩ => ⟨S2x8x4096x128, .f32⟩
  | .hbm, ⟨85, _⟩ => ⟨S2x4096x8x128, .f32⟩
  | .hbm, ⟨86, _⟩ => ⟨S2x4096x1024, .f32⟩
  | .hbm, ⟨87, _⟩ => ⟨S2x4096x1024, .bf16⟩
  | _, _ => ⟨S2x16x8x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_0 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_1 : Ref sig .tc := ⟨.hbm, 66, rfl⟩
abbrev main_call1_v0 : Ref sig .tc := ⟨.hbm, 67, rfl⟩
abbrev main_call1_v1 : Ref sig .tc := ⟨.hbm, 68, rfl⟩
abbrev main_v43 : Ref sig .tc := ⟨.hbm, 69, rfl⟩
abbrev main_cst_2 : Ref sig .tc := ⟨.hbm, 70, rfl⟩
abbrev main_v44 : Ref sig .tc := ⟨.hbm, 71, rfl⟩
abbrev main_cst_3 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_4 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩

abbrev nD : Nat := 1
abbrev τ : Topo := Topo.v7x

variable {F : FTy → Type} [FloatOps F]
-- ==== MlpKernel.lean ====
abbrev S8192x2048 : Shape := ⟨2, ![8192, 2048]⟩
abbrev S2048 : Shape := ⟨1, ![2048]⟩
abbrev S2048x8192 : Shape := ⟨2, ![2048, 8192]⟩
abbrev S1x2048 : Shape := ⟨2, ![1, 2048]⟩
abbrev S1024x2048 : Shape := ⟨2, ![1024, 2048]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩

abbrev nBuf : Space → Nat
  | .hbm => 8
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x8192, .bf16⟩
  | .hbm, ⟨3, _⟩ => ⟨S8192x2048, .bf16⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c7_i32 : BitVec 32 := 7#32
  let v4 : BitVec 1 := Scalar.cmpi .slt arg1 c7_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c7_i32_3 : BitVec 32 := 7#32
  let v8 : BitVec 1 := Scalar.cmpi .eq arg1 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpReferenceIdeal.lean ====
abbrev S8192x2048 : Shape := ⟨2, ![8192, 2048]⟩
abbrev S2048 : Shape := ⟨1, ![2048]⟩
abbrev S2048x8192 : Shape := ⟨2, ![2048, 8192]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x8192 : Shape := ⟨2, ![8192, 8192]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x8192, .bf16⟩
  | .hbm, ⟨3, _⟩ => ⟨S8192x2048, .bf16⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S2048x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== OutKernel.lean ====
abbrev S8192x1024 : Shape := ⟨2, ![8192, 1024]⟩
abbrev S2048x2048 : Shape := ⟨2, ![2048, 2048]⟩
abbrev S8192x2048 : Shape := ⟨2, ![8192, 2048]⟩
abbrev S2048 : Shape := ⟨1, ![2048]⟩
abbrev S1x2048 : Shape := ⟨2, ![1, 2048]⟩
abbrev S512x1024 : Shape := ⟨2, ![512, 1024]⟩
abbrev S1024x2048 : Shape := ⟨2, ![1024, 2048]⟩
abbrev S512x2048 : Shape := ⟨2, ![512, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .bf16⟩
  | .hbm, ⟨3, _⟩ => ⟨S8192x2048, .f32⟩
  | .hbm, ⟨4, _⟩ => ⟨S2048, .f32⟩
  | .hbm, ⟨5, _⟩ => ⟨S1x2048, .f32⟩
  | .hbm, ⟨6, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutReferenceIdeal.lean ====
abbrev S8192x1024 : Shape := ⟨2, ![8192, 1024]⟩
abbrev S2048x2048 : Shape := ⟨2, ![2048, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .bf16⟩
  | .hbm, ⟨3, _⟩ => ⟨S8192x2048, .f32⟩
  | .hbm, ⟨4, _⟩ => ⟨S2048, .f32⟩
  | .hbm, ⟨5, _⟩ => ⟨S8192x1024, .f32⟩
  | .hbm, ⟨6, _⟩ => ⟨S8192x1024, .f32⟩
  | .hbm, ⟨7, _⟩ => ⟨S8192x2048, .f32⟩
  | .hbm, ⟨8, _⟩ => ⟨S2048x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.Step.lean ====
module

public import proofs.«01_k».proof.Proof.Gen.KernelIdeal.Loops
public import Idealize.ShloMosaic.Lib.Pipeline.FrameBody

@[expose] public section

set_option maxRecDepth 16384

noncomputable section

/-! One head's step of the online softmax over a past key block, and the kernel's two loops as that step repeated for
each of the eight heads. -/

namespace Cert.Attn

open Idealize.ShloMosaic Idealize.SL.Sem Cert.KernelIdeal Cert.KernelIdeal.Gen

variable {F : FTy → Type} [FloatOps F]

/-- One head's running maximum, running sum and accumulator. -/
abbrev St (F : FTy → Type) := FVec F S1x256 .f32 × FVec F S1x256 .f32 × FVec F S128x256 .f32

/-- What the loops carry: the eight maxima, the eight sums, the eight accumulators. -/
abbrev Carry (F : FTy → Type) :=
  FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S128x256 .f32 × FVec F S128x256 .f32 × FVec F S128x256 .f32 × FVec F S128x256 .f32 × FVec F S128x256 .f32 × FVec F S128x256 .f32 × FVec F S128x256 .f32 × FVec F S128x256 .f32

/-- The heads' states laid out as the loops carry them. -/
def pack (f : Fin 8 → St F) : Carry F :=
  ((f 0).1, (f 1).1, (f 2).1, (f 3).1, (f 4).1, (f 5).1, (f 6).1, (f 7).1, (f 0).2.1, (f 1).2.1, (f 2).2.1, (f 3).2.1, (f 4).2.1, (f 5).2.1, (f 6).2.1, (f 7).2.1, (f 0).2.2, (f 1).2.2, (f 2).2.2, (f 3).2.2, (f 4).2.2, (f 5).2.2, (f 6).2.2, (f 7).2.2)

/-- Head `h`'s state out of the carried tuple. -/
def unpack (x : Carry F) : Fin 8 → St F :=
  ![(x.1, x.2.2.2.2.2.2.2.2.1, x.2.2.2.2.2.2.2.2.2.2.2.2.2.2.2.2.1), (x.2.1, x.2.2.2.2.2.2.2.2.2.1, x.2.2.2.2.2.2.2.2.2.2.2.2.2.2.2.2.2.1), (x.2.2.1, x.2.2.2.2.2.2.2.2.2.2.1, x.2.2.2.2.2.2.2.2.2.2.2.2.2.2.2.2.2.2.1), (x.2.2.2.1, x.2.2.2.2.2.2.2.2.2.2.2.1, x.2.2.2.2.2.2.2.2.2.2.2.2.2.2.2.2.2.2.2.1), (x.2.2.2.2.1, x.2.2.2.2.2.2.2.2.2.2.2.2.1, x.2.2.2.2.2.2.2.2.2.2.2.2.2.2.2.2.2.2.2.2.1), (x.2.2.2.2.2.1, x.2.2.2.2.2.2.2.2.2.2.2.2.2.1, x.2.2.2.2.2.2.2.2.2.2.2.2.2.2.2.2.2.2.2.2.2.1), (x.2.2.2.2.2.2.1, x.2.2.2.2.2.2.2.2.2.2.2.2.2.2.1, x.2.2.2.2.2.2.2.2.2.2.2.2.2.2.2.2.2.2.2.2.2.2.1), (x.2.2.2.2.2.2.2.1, x.2.2.2.2.2.2.2.2.2.2.2.2.2.2.2.1, x.2.2.2.2.2.2.2.2.2.2.2.2.2.2.2.2.2.2.2.2.2.2.2)]

theorem unpack_pack (f : Fin 8 → St F) : unpack (pack f) = f := by
  funext h; fin_cases h <;> rfl

/-- The bias row of one block. -/
def row (b : Vec F S1x1x1x1x256 .f32) : FVec F S1x256 .f32 := shapeCast S1x256 b shapeCasts_S1x1x1x1x256_S1x256

/-- The scores of one key block against the query block. -/
def score (q : FVec F S128x256 .bf16) (k : Vec F S1x1x1x256x128 .bf16) : FVec F S256x256 .f32 :=
  matmul dot_S256x128_S128x256_S256x256_1_0_0_1_n_n none (shapeCast S256x128 k shapeCasts_S1x1x1x256x128_S256x128) q
    (constant S256x256 .f32 0x00000000#32)

/-- The column maxima of a block of scores. -/
def colMax (s : FVec F S256x256 .f32) : FVec F S1x256 .f32 :=
  shapeCast S1x256 (multiReduction .maximumf [0] S256 s 0xFF800000#32 reduces_S256x256_S256 (.inl rfl) rfl)
    shapeCasts_S256_S1x256

/-- The column sums of a block of weights. -/
def colSum (p : FVec F S256x256 .f32) : FVec F S1x256 .f32 :=
  shapeCast S1x256 (multiReduction .add [0] S256 p 0x00000000#32 reduces_S256x256_S256 (.inl rfl) rfl)
    shapeCasts_S256_S1x256

/-- The values of one block times a block of weights. -/
def mix (v : Vec F S1x1x1x128x256 .bf16) (p : FVec F S256x256 .f32) : FVec F S128x256 .f32 :=
  matmul dot_S128x256_S256x256_S128x256_1_0_0_1_n_n none (shapeCast S128x256 v shapeCasts_S1x1x1x128x256_S128x256)
    (truncf .bf16 p bitsLt_bf16_f32) (constant S128x256 .f32 0x00000000#32)

/-- The running maximum after a block: raised where the block is selected. -/
def newMax (m : FVec F S1x256 .f32) (s : FVec F S256x256 .f32) (b : FVec F S1x256 .f32) : FVec F S1x256 .f32 :=
  select (cmpf .oeq b (broadcast S1x256 (Scalar.ofBits .f32 0x00000000#32))) (maximumf m (colMax s)) m

/-- A block's weights against the running maximum less the bias. -/
def past (s : FVec F S256x256 .f32) (m b : FVec F S1x256 .f32) : FVec F S256x256 .f32 :=
  exp2 (subf s (broadcastTo S256x256 (subf m b) broadcasts_S1x256_S256x256))

/-- One head's state after a past block, from the state before it. -/
def step (q : FVec F S128x256 .bf16) (k : Vec F S1x1x1x256x128 .bf16) (b : Vec F S1x1x1x1x256 .f32)
    (v : Vec F S1x1x1x128x256 .bf16) (x : St F) : St F :=
  (newMax x.1 (score q k) (row b),
   addf (mulf (exp2 (subf x.1 (newMax x.1 (score q k) (row b)))) x.2.1)
     (colSum (past (score q k) (newMax x.1 (score q k) (row b)) (row b))),
   addf (mulf (broadcastTo S128x256 (exp2 (subf x.1 (newMax x.1 (score q k) (row b)))) broadcasts_S1x256_S128x256) x.2.2)
     (mix v (past (score q k) (newMax x.1 (score q k) (row b)) (row b))))

/-- The own block's scores, masked to the keys at or before the query. -/
def ownScore (q : FVec F S128x256 .bf16) (k : Vec F S1x1x1x256x128 .bf16) : FVec F S256x256 .f32 :=
  select (cmpi .sle (iota .tc S256x256 32 [0] iota_S256x256_d0_w32) (iota .tc S256x256 32 [1] iota_S256x256_d1_w32))
    (score q k) (broadcast S256x256 (Scalar.ofBits .f32 0xFF800000#32))

/-- The own block's weights. -/
def ownWeight (q : FVec F S128x256 .bf16) (k : Vec F S1x1x1x256x128 .bf16) : FVec F S256x256 .f32 :=
  exp2 (subf (ownScore q k) (broadcastTo S256x256 (colMax (ownScore q k)) broadcasts_S1x256_S256x256))

/-- One head's state after its own block. -/
def own (q : FVec F S128x256 .bf16) (k : Vec F S1x1x1x256x128 .bf16) (v : Vec F S1x1x1x128x256 .bf16) : St F :=
  (colMax (ownScore q k), colSum (ownWeight q k), mix v (ownWeight q k))

/-! ## The tiles the loops read -/

/-- Key block `n` of head `h`. -/
def tileK (x : Vec F S1x16x8x256x128 .bf16) (n : ℕ) (h : Fin 8) : Vec F S1x1x1x256x128 .bf16 :=
  View.ld x (Rect.unit (s := S1x16x8x256x128) ![0, n % 16, (h : ℕ), 0, 0] S1x1x1x256x128.size (by
    intro a; fin_cases a <;> simp [Shape.size] <;> omega))

/-- Value block `n` of head `h`. -/
def tileV (x : Vec F S1x16x8x128x256 .bf16) (n : ℕ) (h : Fin 8) : Vec F S1x1x1x128x256 .bf16 :=
  View.ld x (Rect.unit (s := S1x16x8x128x256) ![0, n % 16, (h : ℕ), 0, 0] S1x1x1x128x256.size (by
    intro a; fin_cases a <;> simp [Shape.size] <;> omega))

/-- Bias row `n` of head `h`. -/
def tileB (x : Vec F S1x1x8x16x256 .f32) (n : ℕ) (h : Fin 8) : Vec F S1x1x1x1x256 .f32 :=
  View.ld x (Rect.unit (s := S1x1x8x16x256) ![0, 0, (h : ℕ), n % 16, 0] S1x1x1x1x256.size (by
    intro a; fin_cases a <;> simp [Shape.size] <;> omega))

end Cert.Attn

end
-- ==== Proof.Trips.lean ====
module

public import proofs.«01_k».proof.Proof.Step

@[expose] public section

set_option maxRecDepth 65536
set_option maxHeartbeats 4000000

noncomputable section

/-! The kernel's loops over past key blocks, as one step per block for each head: the first loop takes four blocks a
trip, the third takes the blocks left over, the second and fourth take none. -/

namespace Cert.Attn

open Idealize.ShloMosaic Idealize.SL.Sem Cert.KernelIdeal Cert.KernelIdeal.Gen

variable {F : FTy → Type} [FloatOps F]

/-! ## Trip counts and offsets, decided over the sixteen query blocks -/

/-- The grid point of three coordinates. -/
def pt (a : Fin 2) (b : Fin 1) (q : Fin 16) : grid0.Coords := fun d => match d with
  | 0 => a | 1 => b | 2 => q

theorem pt_eq (i : grid0.Coords) : ∃ a b q, i = pt a b q :=
  ⟨i 0, i 1, i 2, by funext d; fin_cases d <;> rfl⟩

theorem trips1 (i : grid0.Coords) : (k0_t1_loop i).trips = (i 2).val / 4 := by
  obtain ⟨a, b, q, rfl⟩ := pt_eq i; revert a b q; decide +kernel
theorem trips2 (i : grid0.Coords) : (k0_t2_loop i).trips = 0 := by
  obtain ⟨a, b, q, rfl⟩ := pt_eq i; revert a b q; decide +kernel
theorem trips3 (i : grid0.Coords) : (k0_t3_loop i).trips = (i 2).val % 4 := by
  obtain ⟨a, b, q, rfl⟩ := pt_eq i; revert a b q; decide +kernel
theorem trips4 (i : grid0.Coords) : (k0_t4_loop i).trips = 0 := by
  obtain ⟨a, b, q, rfl⟩ := pt_eq i; revert a b q; decide +kernel
theorem off1 (i : grid0.Coords) (k : Fin (k0_t1_loop i).trips) (r : Fin 4) :
    k0_off17 i k (BitVec.ofNat 32 r.val) 1 = 4 * k.val + r.val := by
  obtain ⟨a, b, q, rfl⟩ := pt_eq i; revert a b q k r; decide +kernel
theorem off3 (i : grid0.Coords) (k : Fin (k0_t3_loop i).trips) :
    k0_off65 i k 1 = 4 * ((i 2).val / 4) + k.val := by
  obtain ⟨a, b, q, rfl⟩ := pt_eq i; revert a b q k; decide +kernel
theorem off0 (i : grid0.Coords) : k0_off1 i 1 = (i 2).val := by
  obtain ⟨a, b, q, rfl⟩ := pt_eq i; revert a b q; decide +kernel

variable (𝒱 : Variants) (c : Dev nD) (bd : Option 𝒱.V) (i : grid0.Coords)
  (arg3 : Memref sig .tc .vmem S1x1x8x128x256 .bf16) (harg3 : arg3.IsWhole)
  (arg4 : Memref sig .tc .vmem S1x16x8x256x128 .bf16) (harg4 : arg4.IsWhole)
  (arg5 : Memref sig .tc .vmem S1x16x8x128x256 .bf16) (harg5 : arg5.IsWhole)
  (arg6 : Memref sig .tc .vmem S1x1x8x16x256 .f32) (harg6 : arg6.IsWhole)
  (arg7 : Memref sig .tc .vmem S1x256x1024 .bf16) (harg7 : arg7.IsWhole) (arg2 : BitVec 32)
  (v1 v3 v5 v7 v9 v11 v13 v15 : FVec F S128x256 .bf16)
  (X_arg4 : BufTy.Contents (Elt F) arg4.view.ty) (X_arg5 : BufTy.Contents (Elt F) arg5.view.ty)
  (X_arg6 : BufTy.Contents (Elt F) arg6.view.ty)

/-- A load of the keys at a block's offsets is that block's tile. -/
theorem readK (off : Fin 5 → ℕ) (hin : ∀ a, off a + S1x1x1x256x128.size a ≤ S1x16x8x256x128.size a) (n : ℕ) (h : Fin 8)
    (hoff : off = ![0, n, (h : ℕ), 0, 0]) :
    View.readAt (Elt F) arg4.view (Rect.unit (s := S1x16x8x256x128) off S1x1x1x256x128.size hin).toLoadRect X_arg4
      = tileK (arg4.view.read (Elt F) X_arg4) n h := by
  have hn : n < 16 := by subst hoff; have := hin 1; simp [Shape.size] at this; omega
  subst hoff; rw [View.readAt_eq_ld]; unfold tileK; congr 2; rw [Nat.mod_eq_of_lt hn]

/-- A load of the values at a block's offsets is that block's tile. -/
theorem readV (off : Fin 5 → ℕ) (hin : ∀ a, off a + S1x1x1x128x256.size a ≤ S1x16x8x128x256.size a) (n : ℕ) (h : Fin 8)
    (hoff : off = ![0, n, (h : ℕ), 0, 0]) :
    View.readAt (Elt F) arg5.view (Rect.unit (s := S1x16x8x128x256) off S1x1x1x128x256.size hin).toLoadRect X_arg5
      = tileV (arg5.view.read (Elt F) X_arg5) n h := by
  have hn : n < 16 := by subst hoff; have := hin 1; simp [Shape.size] at this; omega
  subst hoff; rw [View.readAt_eq_ld]; unfold tileV; congr 2; rw [Nat.mod_eq_of_lt hn]

/-- A load of the bias at a block's offsets is that block's row. -/
theorem readB (off : Fin 5 → ℕ) (hin : ∀ a, off a + S1x1x1x1x256.size a ≤ S1x1x8x16x256.size a) (n : ℕ) (h : Fin 8)
    (hoff : off = ![0, 0, (h : ℕ), n, 0]) :
    View.readAt (Elt F) arg6.view (Rect.unit (s := S1x1x8x16x256) off S1x1x1x1x256.size hin).toLoadRect X_arg6
      = tileB (arg6.view.read (Elt F) X_arg6) n h := by
  have hn : n < 16 := by subst hoff; have := hin 3; simp [Shape.size] at this; omega
  subst hoff; rw [View.readAt_eq_ld]; unfold tileB; congr 2; rw [Nat.mod_eq_of_lt hn]

/-- Head `h`'s query block among the eight the loops take. -/
def qsel (q0 q1 q2 q3 q4 q5 q6 q7 : FVec F S128x256 .bf16) : Fin 8 → FVec F S128x256 .bf16 :=
  ![q0, q1, q2, q3, q4, q5, q6, q7]

/-- One past block for head `h`. -/
def blockStep (q : Fin 8 → FVec F S128x256 .bf16) (x1 : Vec F S1x16x8x256x128 .bf16) (x2 : Vec F S1x16x8x128x256 .bf16)
    (x3 : Vec F S1x1x8x16x256 .f32) (h : Fin 8) (n : ℕ) (x : St F) : St F :=
  step (q h) (tileK x1 n h) (tileB x3 n h) (tileV x2 n h) x

/-- The first `n` past blocks, in order. -/
def blocks (q : Fin 8 → FVec F S128x256 .bf16) (x1 : Vec F S1x16x8x256x128 .bf16) (x2 : Vec F S1x16x8x128x256 .bf16)
    (x3 : Vec F S1x1x8x16x256 .f32) (h : Fin 8) (x : St F) : ℕ → St F
  | 0 => x
  | n + 1 => blockStep q x1 x2 x3 h n (blocks q x1 x2 x3 h x n)

/-- What the third loop's trip reads of the keys. -/
def rawK3 (k : Fin (k0_t3_loop i).trips) : Fin 8 → Vec F S1x1x1x256x128 .bf16 :=
  ![View.readAt (Elt F) arg4.view (Rect.unit (s := S1x16x8x256x128) (k0_off65 i k) S1x1x1x256x128.size (k0_off65_inb i k)).toLoadRect X_arg4, View.readAt (Elt F) arg4.view (Rect.unit (s := S1x16x8x256x128) (k0_off66 i k) S1x1x1x256x128.size (k0_off66_inb i k)).toLoadRect X_arg4, View.readAt (Elt F) arg4.view (Rect.unit (s := S1x16x8x256x128) (k0_off67 i k) S1x1x1x256x128.size (k0_off67_inb i k)).toLoadRect X_arg4, View.readAt (Elt F) arg4.view (Rect.unit (s := S1x16x8x256x128) (k0_off68 i k) S1x1x1x256x128.size (k0_off68_inb i k)).toLoadRect X_arg4, View.readAt (Elt F) arg4.view (Rect.unit (s := S1x16x8x256x128) (k0_off69 i k) S1x1x1x256x128.size (k0_off69_inb i k)).toLoadRect X_arg4, View.readAt (Elt F) arg4.view (Rect.unit (s := S1x16x8x256x128) (k0_off70 i k) S1x1x1x256x128.size (k0_off70_inb i k)).toLoadRect X_arg4, View.readAt (Elt F) arg4.view (Rect.unit (s := S1x16x8x256x128) (k0_off71 i k) S1x1x1x256x128.size (k0_off71_inb i k)).toLoadRect X_arg4, View.readAt (Elt F) arg4.view (Rect.unit (s := S1x16x8x256x128) (k0_off72 i k) S1x1x1x256x128.size (k0_off72_inb i k)).toLoadRect X_arg4]
def rawB3 (k : Fin (k0_t3_loop i).trips) : Fin 8 → Vec F S1x1x1x1x256 .f32 :=
  ![View.readAt (Elt F) arg6.view (Rect.unit (s := S1x1x8x16x256) (k0_off73 i k) S1x1x1x1x256.size (k0_off73_inb i k)).toLoadRect X_arg6, View.readAt (Elt F) arg6.view (Rect.unit (s := S1x1x8x16x256) (k0_off75 i k) S1x1x1x1x256.size (k0_off75_inb i k)).toLoadRect X_arg6, View.readAt (Elt F) arg6.view (Rect.unit (s := S1x1x8x16x256) (k0_off77 i k) S1x1x1x1x256.size (k0_off77_inb i k)).toLoadRect X_arg6, View.readAt (Elt F) arg6.view (Rect.unit (s := S1x1x8x16x256) (k0_off79 i k) S1x1x1x1x256.size (k0_off79_inb i k)).toLoadRect X_arg6, View.readAt (Elt F) arg6.view (Rect.unit (s := S1x1x8x16x256) (k0_off81 i k) S1x1x1x1x256.size (k0_off81_inb i k)).toLoadRect X_arg6, View.readAt (Elt F) arg6.view (Rect.unit (s := S1x1x8x16x256) (k0_off83 i k) S1x1x1x1x256.size (k0_off83_inb i k)).toLoadRect X_arg6, View.readAt (Elt F) arg6.view (Rect.unit (s := S1x1x8x16x256) (k0_off85 i k) S1x1x1x1x256.size (k0_off85_inb i k)).toLoadRect X_arg6, View.readAt (Elt F) arg6.view (Rect.unit (s := S1x1x8x16x256) (k0_off87 i k) S1x1x1x1x256.size (k0_off87_inb i k)).toLoadRect X_arg6]
def rawV3 (k : Fin (k0_t3_loop i).trips) : Fin 8 → Vec F S1x1x1x128x256 .bf16 :=
  ![View.readAt (Elt F) arg5.view (Rect.unit (s := S1x16x8x128x256) (k0_off74 i k) S1x1x1x128x256.size (k0_off74_inb i k)).toLoadRect X_arg5, View.readAt (Elt F) arg5.view (Rect.unit (s := S1x16x8x128x256) (k0_off76 i k) S1x1x1x128x256.size (k0_off76_inb i k)).toLoadRect X_arg5, View.readAt (Elt F) arg5.view (Rect.unit (s := S1x16x8x128x256) (k0_off78 i k) S1x1x1x128x256.size (k0_off78_inb i k)).toLoadRect X_arg5, View.readAt (Elt F) arg5.view (Rect.unit (s := S1x16x8x128x256) (k0_off80 i k) S1x1x1x128x256.size (k0_off80_inb i k)).toLoadRect X_arg5, View.readAt (Elt F) arg5.view (Rect.unit (s := S1x16x8x128x256) (k0_off82 i k) S1x1x1x128x256.size (k0_off82_inb i k)).toLoadRect X_arg5, View.readAt (Elt F) arg5.view (Rect.unit (s := S1x16x8x128x256) (k0_off84 i k) S1x1x1x128x256.size (k0_off84_inb i k)).toLoadRect X_arg5, View.readAt (Elt F) arg5.view (Rect.unit (s := S1x16x8x128x256) (k0_off86 i k) S1x1x1x128x256.size (k0_off86_inb i k)).toLoadRect X_arg5, View.readAt (Elt F) arg5.view (Rect.unit (s := S1x16x8x128x256) (k0_off88 i k) S1x1x1x128x256.size (k0_off88_inb i k)).toLoadRect X_arg5]

variable (v186_0 v186_1 v186_2 v186_3 v186_4 v186_5 v186_6 v186_7 v186_8 v186_9 v186_10 v186_11 v186_12 v186_13 v186_14 v186_15 : FVec F S1x256 .f32) (v186_16 v186_17 v186_18 v186_19 v186_20 v186_21 v186_22 v186_23 : FVec F S128x256 .f32)
  (c4_i32_143 v187 v192 v194 v196 v204 v209 : BitVec 32)

end Cert.Attn

end
-- ==== Proof.Trip1.lean ====
module

public import proofs.«01_k».proof.Proof.Trips

@[expose] public section

set_option maxRecDepth 65536
set_option maxHeartbeats 4000000

noncomputable section

namespace Cert.Attn

open Idealize.ShloMosaic Idealize.SL.Sem Cert.KernelIdeal Cert.KernelIdeal.Gen

variable {F : FTy → Type} [FloatOps F]

variable (𝒱 : Variants) (c : Dev nD) (bd : Option 𝒱.V) (i : grid0.Coords)
  (arg3 : Memref sig .tc .vmem S1x1x8x128x256 .bf16) (harg3 : arg3.IsWhole)
  (arg4 : Memref sig .tc .vmem S1x16x8x256x128 .bf16) (harg4 : arg4.IsWhole)
  (arg5 : Memref sig .tc .vmem S1x16x8x128x256 .bf16) (harg5 : arg5.IsWhole)
  (arg6 : Memref sig .tc .vmem S1x1x8x16x256 .f32) (harg6 : arg6.IsWhole)
  (arg7 : Memref sig .tc .vmem S1x256x1024 .bf16) (harg7 : arg7.IsWhole) (arg2 : BitVec 32)
  (v1 v3 v5 v7 v9 v11 v13 v15 : FVec F S128x256 .bf16)
  (X_arg4 : BufTy.Contents (Elt F) arg4.view.ty) (X_arg5 : BufTy.Contents (Elt F) arg5.view.ty)
  (X_arg6 : BufTy.Contents (Elt F) arg6.view.ty)

variable (v54 v59 v68 v73 v82 v87 v96 v101 v110 v115 v124 v129 v138 v143 v152 v157 : FVec F S1x256 .f32) (v64 v78 v92 v106 v120 v134 v148 : FVec F S128x256 .f32) (v155 : FVec F S256x256 .f32) (v184 : BitVec 32)

/-- What the first loop's trip reads of the keys, for its block `r`. -/
def rawK1 (k : Fin (k0_t1_loop i).trips) (r : Fin 4) : Fin 8 → Vec F S1x1x1x256x128 .bf16 :=
  ![View.readAt (Elt F) arg4.view (Rect.unit (s := S1x16x8x256x128) (k0_off17 i k (BitVec.ofNat 32 r.val)) S1x1x1x256x128.size (k0_off17_inb i k r)).toLoadRect X_arg4, View.readAt (Elt F) arg4.view (Rect.unit (s := S1x16x8x256x128) (k0_off18 i k (BitVec.ofNat 32 r.val)) S1x1x1x256x128.size (k0_off18_inb i k r)).toLoadRect X_arg4, View.readAt (Elt F) arg4.view (Rect.unit (s := S1x16x8x256x128) (k0_off19 i k (BitVec.ofNat 32 r.val)) S1x1x1x256x128.size (k0_off19_inb i k r)).toLoadRect X_arg4, View.readAt (Elt F) arg4.view (Rect.unit (s := S1x16x8x256x128) (k0_off20 i k (BitVec.ofNat 32 r.val)) S1x1x1x256x128.size (k0_off20_inb i k r)).toLoadRect X_arg4, View.readAt (Elt F) arg4.view (Rect.unit (s := S1x16x8x256x128) (k0_off21 i k (BitVec.ofNat 32 r.val)) S1x1x1x256x128.size (k0_off21_inb i k r)).toLoadRect X_arg4, View.readAt (Elt F) arg4.view (Rect.unit (s := S1x16x8x256x128) (k0_off22 i k (BitVec.ofNat 32 r.val)) S1x1x1x256x128.size (k0_off22_inb i k r)).toLoadRect X_arg4, View.readAt (Elt F) arg4.view (Rect.unit (s := S1x16x8x256x128) (k0_off23 i k (BitVec.ofNat 32 r.val)) S1x1x1x256x128.size (k0_off23_inb i k r)).toLoadRect X_arg4, View.readAt (Elt F) arg4.view (Rect.unit (s := S1x16x8x256x128) (k0_off24 i k (BitVec.ofNat 32 r.val)) S1x1x1x256x128.size (k0_off24_inb i k r)).toLoadRect X_arg4]
/-- What it reads of the bias. -/
def rawB1 (k : Fin (k0_t1_loop i).trips) (r : Fin 4) : Fin 8 → Vec F S1x1x1x1x256 .f32 :=
  ![View.readAt (Elt F) arg6.view (Rect.unit (s := S1x1x8x16x256) (k0_off25 i k (BitVec.ofNat 32 r.val)) S1x1x1x1x256.size (k0_off25_inb i k r)).toLoadRect X_arg6, View.readAt (Elt F) arg6.view (Rect.unit (s := S1x1x8x16x256) (k0_off27 i k (BitVec.ofNat 32 r.val)) S1x1x1x1x256.size (k0_off27_inb i k r)).toLoadRect X_arg6, View.readAt (Elt F) arg6.view (Rect.unit (s := S1x1x8x16x256) (k0_off29 i k (BitVec.ofNat 32 r.val)) S1x1x1x1x256.size (k0_off29_inb i k r)).toLoadRect X_arg6, View.readAt (Elt F) arg6.view (Rect.unit (s := S1x1x8x16x256) (k0_off31 i k (BitVec.ofNat 32 r.val)) S1x1x1x1x256.size (k0_off31_inb i k r)).toLoadRect X_arg6, View.readAt (Elt F) arg6.view (Rect.unit (s := S1x1x8x16x256) (k0_off33 i k (BitVec.ofNat 32 r.val)) S1x1x1x1x256.size (k0_off33_inb i k r)).toLoadRect X_arg6, View.readAt (Elt F) arg6.view (Rect.unit (s := S1x1x8x16x256) (k0_off35 i k (BitVec.ofNat 32 r.val)) S1x1x1x1x256.size (k0_off35_inb i k r)).toLoadRect X_arg6, View.readAt (Elt F) arg6.view (Rect.unit (s := S1x1x8x16x256) (k0_off37 i k (BitVec.ofNat 32 r.val)) S1x1x1x1x256.size (k0_off37_inb i k r)).toLoadRect X_arg6, View.readAt (Elt F) arg6.view (Rect.unit (s := S1x1x8x16x256) (k0_off39 i k (BitVec.ofNat 32 r.val)) S1x1x1x1x256.size (k0_off39_inb i k r)).toLoadRect X_arg6]
/-- What it reads of the values. -/
def rawV1 (k : Fin (k0_t1_loop i).trips) (r : Fin 4) : Fin 8 → Vec F S1x1x1x128x256 .bf16 :=
  ![View.readAt (Elt F) arg5.view (Rect.unit (s := S1x16x8x128x256) (k0_off26 i k (BitVec.ofNat 32 r.val)) S1x1x1x128x256.size (k0_off26_inb i k r)).toLoadRect X_arg5, View.readAt (Elt F) arg5.view (Rect.unit (s := S1x16x8x128x256) (k0_off28 i k (BitVec.ofNat 32 r.val)) S1x1x1x128x256.size (k0_off28_inb i k r)).toLoadRect X_arg5, View.readAt (Elt F) arg5.view (Rect.unit (s := S1x16x8x128x256) (k0_off30 i k (BitVec.ofNat 32 r.val)) S1x1x1x128x256.size (k0_off30_inb i k r)).toLoadRect X_arg5, View.readAt (Elt F) arg5.view (Rect.unit (s := S1x16x8x128x256) (k0_off32 i k (BitVec.ofNat 32 r.val)) S1x1x1x128x256.size (k0_off32_inb i k r)).toLoadRect X_arg5, View.readAt (Elt F) arg5.view (Rect.unit (s := S1x16x8x128x256) (k0_off34 i k (BitVec.ofNat 32 r.val)) S1x1x1x128x256.size (k0_off34_inb i k r)).toLoadRect X_arg5, View.readAt (Elt F) arg5.view (Rect.unit (s := S1x16x8x128x256) (k0_off36 i k (BitVec.ofNat 32 r.val)) S1x1x1x128x256.size (k0_off36_inb i k r)).toLoadRect X_arg5, View.readAt (Elt F) arg5.view (Rect.unit (s := S1x16x8x128x256) (k0_off38 i k (BitVec.ofNat 32 r.val)) S1x1x1x128x256.size (k0_off38_inb i k r)).toLoadRect X_arg5, View.readAt (Elt F) arg5.view (Rect.unit (s := S1x16x8x128x256) (k0_off40 i k (BitVec.ofNat 32 r.val)) S1x1x1x128x256.size (k0_off40_inb i k r)).toLoadRect X_arg5]

/-- One past block for head `h` from the tiles a trip of the first loop reads. -/
def rawStep1 (q : Fin 8 → FVec F S128x256 .bf16) (k : Fin (k0_t1_loop i).trips) (r : Fin 4) (h : Fin 8) (x : St F) : St F :=
  step (q h) (rawK1 i arg4 X_arg4 k r h) (rawB1 i arg6 X_arg6 k r h) (rawV1 i arg5 X_arg5 k r h) x

/-- The carried value within a trip, after its first block. -/
def mid1 (k : Fin (k0_t1_loop i).trips) (acc : Carry F) : Carry F :=
  (trip_k0_t1.sl.r_10 i arg4 arg6 v1 X_arg4 X_arg6 k acc, trip_k0_t1.sl.r_16 i arg4 arg6 v3 X_arg4 X_arg6 k acc, trip_k0_t1.sl.r_24 i arg4 arg6 v5 X_arg4 X_arg6 k acc, trip_k0_t1.sl.r_29 i arg4 arg6 v7 X_arg4 X_arg6 k acc, trip_k0_t1.sl.r_35 i arg4 arg6 v9 X_arg4 X_arg6 k acc, trip_k0_t1.sl.r_39 i arg4 arg6 v11 X_arg4 X_arg6 k acc, trip_k0_t1.sl.r_45 i arg4 arg6 v13 X_arg4 X_arg6 k acc, trip_k0_t1.sl.r_53 i arg4 arg6 v15 X_arg4 X_arg6 k acc, trip_k0_t1.sl.r_13 i arg4 arg6 v1 X_arg4 X_arg6 k acc, trip_k0_t1.sl.r_21 i arg4 arg6 v3 X_arg4 X_arg6 k acc, trip_k0_t1.sl.r_25 i arg4 arg6 v5 X_arg4 X_arg6 k acc, trip_k0_t1.sl.r_30 i arg4 arg6 v7 X_arg4 X_arg6 k acc, trip_k0_t1.sl.r_36 i arg4 arg6 v9 X_arg4 X_arg6 k acc, trip_k0_t1.sl.r_42 i arg4 arg6 v11 X_arg4 X_arg6 k acc, trip_k0_t1.sl.r_50 i arg4 arg6 v13 X_arg4 X_arg6 k acc, trip_k0_t1.sl.r_54 i arg4 arg6 v15 X_arg4 X_arg6 k acc, trip_k0_t1.sl.r_14 i arg4 arg5 arg6 v1 X_arg4 X_arg5 X_arg6 k acc, trip_k0_t1.sl.r_22 i arg4 arg5 arg6 v3 X_arg4 X_arg5 X_arg6 k acc, trip_k0_t1.sl.r_26 i arg4 arg5 arg6 v5 X_arg4 X_arg5 X_arg6 k acc, trip_k0_t1.sl.r_31 i arg4 arg5 arg6 v7 X_arg4 X_arg5 X_arg6 k acc, trip_k0_t1.sl.r_37 i arg4 arg5 arg6 v9 X_arg4 X_arg5 X_arg6 k acc, trip_k0_t1.sl.r_43 i arg4 arg5 arg6 v11 X_arg4 X_arg5 X_arg6 k acc, trip_k0_t1.sl.r_51 i arg4 arg5 arg6 v13 X_arg4 X_arg5 X_arg6 k acc, trip_k0_t1.sl.r_55 i arg4 arg5 arg6 v15 X_arg4 X_arg5 X_arg6 k acc)

/-- The first block of a trip is one step for each head. -/
theorem mid1_eq (k : Fin (k0_t1_loop i).trips) (acc : Carry F) : mid1 i arg4 arg5 arg6 v1 v3 v5 v7 v9 v11 v13 v15 X_arg4 X_arg5 X_arg6 k acc
    = pack fun h => rawStep1 i arg4 arg5 arg6 X_arg4 X_arg5 X_arg6 (qsel v1 v3 v5 v7 v9 v11 v13 v15) k 0 h (unpack acc h) := by
  rfl

/-- The carried value within a trip, after its second block. -/
def mid2 (k : Fin (k0_t1_loop i).trips) (acc : Carry F) : Carry F :=
  (trip_k0_t1.sl.r_58 i arg4 arg6 v1 X_arg4 X_arg6 k acc, trip_k0_t1.sl.r_64 i arg4 arg6 v3 X_arg4 X_arg6 k acc, trip_k0_t1.sl.r_68 i arg4 arg6 v5 X_arg4 X_arg6 k acc, trip_k0_t1.sl.r_74 i arg4 arg6 v7 X_arg4 X_arg6 k acc, trip_k0_t1.sl.r_82 i arg4 arg6 v9 X_arg4 X_arg6 k acc, trip_k0_t1.sl.r_87 i arg4 arg6 v11 X_arg4 X_arg6 k acc, trip_k0_t1.sl.r_93 i arg4 arg6 v13 X_arg4 X_arg6 k acc, trip_k0_t1.sl.r_97 i arg4 arg6 v15 X_arg4 X_arg6 k acc, trip_k0_t1.sl.r_59 i arg4 arg6 v1 X_arg4 X_arg6 k acc, trip_k0_t1.sl.r_65 i arg4 arg6 v3 X_arg4 X_arg6 k acc, trip_k0_t1.sl.r_71 i arg4 arg6 v5 X_arg4 X_arg6 k acc, trip_k0_t1.sl.r_79 i arg4 arg6 v7 X_arg4 X_arg6 k acc, trip_k0_t1.sl.r_83 i arg4 arg6 v9 X_arg4 X_arg6 k acc, trip_k0_t1.sl.r_88 i arg4 arg6 v11 X_arg4 X_arg6 k acc, trip_k0_t1.sl.r_94 i arg4 arg6 v13 X_arg4 X_arg6 k acc, trip_k0_t1.sl.r_100 i arg4 arg6 v15 X_arg4 X_arg6 k acc, trip_k0_t1.sl.r_60 i arg4 arg5 arg6 v1 X_arg4 X_arg5 X_arg6 k acc, trip_k0_t1.sl.r_66 i arg4 arg5 arg6 v3 X_arg4 X_arg5 X_arg6 k acc, trip_k0_t1.sl.r_72 i arg4 arg5 arg6 v5 X_arg4 X_arg5 X_arg6 k acc, trip_k0_t1.sl.r_80 i arg4 arg5 arg6 v7 X_arg4 X_arg5 X_arg6 k acc, trip_k0_t1.sl.r_84 i arg4 arg5 arg6 v9 X_arg4 X_arg5 X_arg6 k acc, trip_k0_t1.sl.r_89 i arg4 arg5 arg6 v11 X_arg4 X_arg5 X_arg6 k acc, trip_k0_t1.sl.r_95 i arg4 arg5 arg6 v13 X_arg4 X_arg5 X_arg6 k acc, trip_k0_t1.sl.r_101 i arg4 arg5 arg6 v15 X_arg4 X_arg5 X_arg6 k acc)

/-- The second block of a trip is one step for each head. -/
theorem mid2_eq (k : Fin (k0_t1_loop i).trips) (acc : Carry F) : mid2 i arg4 arg5 arg6 v1 v3 v5 v7 v9 v11 v13 v15 X_arg4 X_arg5 X_arg6 k acc
    = pack fun h => rawStep1 i arg4 arg5 arg6 X_arg4 X_arg5 X_arg6 (qsel v1 v3 v5 v7 v9 v11 v13 v15) k 1 h (unpack (mid1 i arg4 arg5 arg6 v1 v3 v5 v7 v9 v11 v13 v15 X_arg4 X_arg5 X_arg6 k acc) h) := by
  rfl

/-- The carried value within a trip, after its third block. -/
def mid3 (k : Fin (k0_t1_loop i).trips) (acc : Carry F) : Carry F :=
  (trip_k0_t1.sl.r_103 i arg4 arg6 v1 X_arg4 X_arg6 k acc, trip_k0_t1.sl.r_111 i arg4 arg6 v3 X_arg4 X_arg6 k acc, trip_k0_t1.sl.r_116 i arg4 arg6 v5 X_arg4 X_arg6 k acc, trip_k0_t1.sl.r_122 i arg4 arg6 v7 X_arg4 X_arg6 k acc, trip_k0_t1.sl.r_126 i arg4 arg6 v9 X_arg4 X_arg6 k acc, trip_k0_t1.sl.r_132 i arg4 arg6 v11 X_arg4 X_arg6 k acc, trip_k0_t1.sl.r_140 i arg4 arg6 v13 X_arg4 X_arg6 k acc, trip_k0_t1.sl.r_145 i arg4 arg6 v15 X_arg4 X_arg6 k acc, trip_k0_t1.sl.r_108 i arg4 arg6 v1 X_arg4 X_arg6 k acc, trip_k0_t1.sl.r_112 i arg4 arg6 v3 X_arg4 X_arg6 k acc, trip_k0_t1.sl.r_117 i arg4 arg6 v5 X_arg4 X_arg6 k acc, trip_k0_t1.sl.r_123 i arg4 arg6 v7 X_arg4 X_arg6 k acc, trip_k0_t1.sl.r_129 i arg4 arg6 v9 X_arg4 X_arg6 k acc, trip_k0_t1.sl.r_137 i arg4 arg6 v11 X_arg4 X_arg6 k acc, trip_k0_t1.sl.r_141 i arg4 arg6 v13 X_arg4 X_arg6 k acc, trip_k0_t1.sl.r_146 i arg4 arg6 v15 X_arg4 X_arg6 k acc, trip_k0_t1.sl.r_109 i arg4 arg5 arg6 v1 X_arg4 X_arg5 X_arg6 k acc, trip_k0_t1.sl.r_113 i arg4 arg5 arg6 v3 X_arg4 X_arg5 X_arg6 k acc, trip_k0_t1.sl.r_118 i arg4 arg5 arg6 v5 X_arg4 X_arg5 X_arg6 k acc, trip_k0_t1.sl.r_124 i arg4 arg5 arg6 v7 X_arg4 X_arg5 X_arg6 k acc, trip_k0_t1.sl.r_130 i arg4 arg5 arg6 v9 X_arg4 X_arg5 X_arg6 k acc, trip_k0_t1.sl.r_138 i arg4 arg5 arg6 v11 X_arg4 X_arg5 X_arg6 k acc, trip_k0_t1.sl.r_142 i arg4 arg5 arg6 v13 X_arg4 X_arg5 X_arg6 k acc, trip_k0_t1.sl.r_147 i arg4 arg5 arg6 v15 X_arg4 X_arg5 X_arg6 k acc)

/-- The third block of a trip is one step for each head. -/
theorem mid3_eq (k : Fin (k0_t1_loop i).trips) (acc : Carry F) : mid3 i arg4 arg5 arg6 v1 v3 v5 v7 v9 v11 v13 v15 X_arg4 X_arg5 X_arg6 k acc
    = pack fun h => rawStep1 i arg4 arg5 arg6 X_arg4 X_arg5 X_arg6 (qsel v1 v3 v5 v7 v9 v11 v13 v15) k 2 h (unpack (mid2 i arg4 arg5 arg6 v1 v3 v5 v7 v9 v11 v13 v15 X_arg4 X_arg5 X_arg6 k acc) h) := by
  rfl

/-- A trip of the first loop is four steps for each head. -/
theorem trip1_raw (k : Fin (k0_t1_loop i).trips) (acc : Carry F) :
    tripR_k0_t1 𝒱 c bd i arg3 harg3 arg4 harg4 arg5 harg5 arg6 harg6 arg7 harg7 arg2 v1 v3 v5 v7 v9 v11 v13 v15 v54 v59 v64 v68 v73 v78 v82 v87 v92 v96 v101 v106 v110 v115 v120 v124 v129 v134 v138 v143 v148 v152 v155 v157 X_arg4 X_arg5 X_arg6 k acc
      = pack fun h => rawStep1 i arg4 arg5 arg6 X_arg4 X_arg5 X_arg6 (qsel v1 v3 v5 v7 v9 v11 v13 v15) k 3 h
          (rawStep1 i arg4 arg5 arg6 X_arg4 X_arg5 X_arg6 (qsel v1 v3 v5 v7 v9 v11 v13 v15) k 2 h
            (rawStep1 i arg4 arg5 arg6 X_arg4 X_arg5 X_arg6 (qsel v1 v3 v5 v7 v9 v11 v13 v15) k 1 h
              (rawStep1 i arg4 arg5 arg6 X_arg4 X_arg5 X_arg6 (qsel v1 v3 v5 v7 v9 v11 v13 v15) k 0 h (unpack acc h)))) := by
  have e : tripR_k0_t1 𝒱 c bd i arg3 harg3 arg4 harg4 arg5 harg5 arg6 harg6 arg7 harg7 arg2 v1 v3 v5 v7 v9 v11 v13 v15 v54 v59 v64 v68 v73 v78 v82 v87 v92 v96 v101 v106 v110 v115 v120 v124 v129 v134 v138 v143 v148 v152 v155 v157 X_arg4 X_arg5 X_arg6 k acc
      = pack fun h => rawStep1 i arg4 arg5 arg6 X_arg4 X_arg5 X_arg6 (qsel v1 v3 v5 v7 v9 v11 v13 v15) k 3 h (unpack (mid3 i arg4 arg5 arg6 v1 v3 v5 v7 v9 v11 v13 v15 X_arg4 X_arg5 X_arg6 k acc) h) := by
    unfold tripR_k0_t1 trip_k0_t1; rfl
  rw [e, mid3_eq, mid2_eq, mid1_eq]
  simp only [unpack_pack]

end Cert.Attn

end
-- ==== Proof.Trip3.lean ====
module

public import proofs.«01_k».proof.Proof.Trips

@[expose] public section

set_option maxRecDepth 65536
set_option maxHeartbeats 4000000

noncomputable section

namespace Cert.Attn

open Idealize.ShloMosaic Idealize.SL.Sem Cert.KernelIdeal Cert.KernelIdeal.Gen

variable {F : FTy → Type} [FloatOps F]

variable (𝒱 : Variants) (c : Dev nD) (bd : Option 𝒱.V) (i : grid0.Coords)
  (arg3 : Memref sig .tc .vmem S1x1x8x128x256 .bf16) (harg3 : arg3.IsWhole)
  (arg4 : Memref sig .tc .vmem S1x16x8x256x128 .bf16) (harg4 : arg4.IsWhole)
  (arg5 : Memref sig .tc .vmem S1x16x8x128x256 .bf16) (harg5 : arg5.IsWhole)
  (arg6 : Memref sig .tc .vmem S1x1x8x16x256 .f32) (harg6 : arg6.IsWhole)
  (arg7 : Memref sig .tc .vmem S1x256x1024 .bf16) (harg7 : arg7.IsWhole) (arg2 : BitVec 32)
  (v1 v3 v5 v7 v9 v11 v13 v15 : FVec F S128x256 .bf16)
  (X_arg4 : BufTy.Contents (Elt F) arg4.view.ty) (X_arg5 : BufTy.Contents (Elt F) arg5.view.ty)
  (X_arg6 : BufTy.Contents (Elt F) arg6.view.ty)

variable (v186_0 v186_1 v186_2 v186_3 v186_4 v186_5 v186_6 v186_7 v186_8 v186_9 v186_10 v186_11 v186_12 v186_13 v186_14 v186_15 : FVec F S1x256 .f32) (v186_16 v186_17 v186_18 v186_19 v186_20 v186_21 v186_22 v186_23 : FVec F S128x256 .f32)
  (c4_i32_143 v187 v192 v194 v196 v204 v209 : BitVec 32)

theorem trip3_raw (k : Fin (k0_t3_loop i).trips) (acc : Carry F) :
    tripR_k0_t3 𝒱 c bd i arg3 harg3 arg4 harg4 arg5 harg5 arg6 harg6 arg7 harg7 arg2 v1 v3 v5 v7 v9 v11 v13 v15 v186_0 v186_1 v186_2 v186_3 v186_4 v186_5 v186_6 v186_7 v186_8 v186_9 v186_10 v186_11 v186_12 v186_13 v186_14 v186_15 v186_16 v186_17 v186_18 v186_19 v186_20 v186_21 v186_22 v186_23 c4_i32_143 v187 v192 v194 v196 v204 X_arg4 X_arg5 X_arg6 k acc
      = pack fun h => step (qsel v1 v3 v5 v7 v9 v11 v13 v15 h) (rawK3 i arg4 X_arg4 k h) (rawB3 i arg6 X_arg6 k h)
          (rawV3 i arg5 X_arg5 k h) (unpack acc h) := by
  unfold tripR_k0_t3 trip_k0_t3; rfl

end Cert.Attn

end
-- ==== Proof.Loop.lean ====
module

public import proofs.«01_k».proof.Proof.Trip1
public import proofs.«01_k».proof.Proof.Trip3

@[expose] public section

set_option maxRecDepth 65536
set_option maxHeartbeats 4000000

noncomputable section

namespace Cert.Attn

open Idealize.ShloMosaic Idealize.SL.Sem Cert.KernelIdeal Cert.KernelIdeal.Gen

variable {F : FTy → Type} [FloatOps F]

variable (𝒱 : Variants) (c : Dev nD) (bd : Option 𝒱.V) (i : grid0.Coords)
  (arg3 : Memref sig .tc .vmem S1x1x8x128x256 .bf16) (harg3 : arg3.IsWhole)
  (arg4 : Memref sig .tc .vmem S1x16x8x256x128 .bf16) (harg4 : arg4.IsWhole)
  (arg5 : Memref sig .tc .vmem S1x16x8x128x256 .bf16) (harg5 : arg5.IsWhole)
  (arg6 : Memref sig .tc .vmem S1x1x8x16x256 .f32) (harg6 : arg6.IsWhole)
  (arg7 : Memref sig .tc .vmem S1x256x1024 .bf16) (harg7 : arg7.IsWhole) (arg2 : BitVec 32)
  (v1 v3 v5 v7 v9 v11 v13 v15 : FVec F S128x256 .bf16)
  (X_arg4 : BufTy.Contents (Elt F) arg4.view.ty) (X_arg5 : BufTy.Contents (Elt F) arg5.view.ty)
  (X_arg6 : BufTy.Contents (Elt F) arg6.view.ty)

variable (v54 v59 v68 v73 v82 v87 v96 v101 v110 v115 v124 v129 v138 v143 v152 v157 : FVec F S1x256 .f32) (v64 v78 v92 v106 v120 v134 v148 : FVec F S128x256 .f32) (v155 : FVec F S256x256 .f32) (v184 : BitVec 32)

variable (v186_0 v186_1 v186_2 v186_3 v186_4 v186_5 v186_6 v186_7 v186_8 v186_9 v186_10 v186_11 v186_12 v186_13 v186_14 v186_15 : FVec F S1x256 .f32) (v186_16 v186_17 v186_18 v186_19 v186_20 v186_21 v186_22 v186_23 : FVec F S128x256 .f32)
  (c4_i32_143 v187 v192 v194 v196 v204 v209 : BitVec 32)

/-! ## The tiles a trip reads -/

theorem rawK3_eq (k : Fin (k0_t3_loop i).trips) (h : Fin 8) : rawK3 i arg4 X_arg4 k h
    = tileK (arg4.view.read (Elt F) X_arg4) (4 * ((i 2).val / 4) + k.val) h := by
  rw [← off3 i k]; fin_cases h <;> exact readK arg4 X_arg4 _ _ _ _ rfl

theorem rawV3_eq (k : Fin (k0_t3_loop i).trips) (h : Fin 8) : rawV3 i arg5 X_arg5 k h
    = tileV (arg5.view.read (Elt F) X_arg5) (4 * ((i 2).val / 4) + k.val) h := by
  rw [← off3 i k]; fin_cases h <;> exact readV arg5 X_arg5 _ _ _ _ rfl

theorem rawB3_eq (k : Fin (k0_t3_loop i).trips) (h : Fin 8) : rawB3 i arg6 X_arg6 k h
    = tileB (arg6.view.read (Elt F) X_arg6) (4 * ((i 2).val / 4) + k.val) h := by
  rw [← off3 i k]; fin_cases h <;> exact readB arg6 X_arg6 _ _ _ _ rfl

theorem rawK1_eq (k : Fin (k0_t1_loop i).trips) (r : Fin 4) (h : Fin 8) : rawK1 i arg4 X_arg4 k r h
    = tileK (arg4.view.read (Elt F) X_arg4) (4 * k.val + r.val) h := by
  rw [← off1 i k r]; fin_cases h <;> exact readK arg4 X_arg4 _ _ _ _ rfl

theorem rawV1_eq (k : Fin (k0_t1_loop i).trips) (r : Fin 4) (h : Fin 8) : rawV1 i arg5 X_arg5 k r h
    = tileV (arg5.view.read (Elt F) X_arg5) (4 * k.val + r.val) h := by
  rw [← off1 i k r]; fin_cases h <;> exact readV arg5 X_arg5 _ _ _ _ rfl

theorem rawB1_eq (k : Fin (k0_t1_loop i).trips) (r : Fin 4) (h : Fin 8) : rawB1 i arg6 X_arg6 k r h
    = tileB (arg6.view.read (Elt F) X_arg6) (4 * k.val + r.val) h := by
  rw [← off1 i k r]; fin_cases h <;> exact readB arg6 X_arg6 _ _ _ _ rfl

theorem rawStep1_eq (q : Fin 8 → FVec F S128x256 .bf16) (k : Fin (k0_t1_loop i).trips) (r : Fin 4) (h : Fin 8) (x : St F) :
    rawStep1 i arg4 arg5 arg6 X_arg4 X_arg5 X_arg6 q k r h x
      = blockStep q (arg4.view.read (Elt F) X_arg4) (arg5.view.read (Elt F) X_arg5) (arg6.view.read (Elt F) X_arg6) h (4 * k.val + r.val) x := by
  unfold rawStep1 blockStep; rw [rawK1_eq, rawB1_eq, rawV1_eq]

/-! ## The loops -/

/-- The first loop: before trip `n`, the first `4 * n` blocks. -/
theorem loop1 (y : Fin 8 → St F) (init : Carry F) (hinit : init = pack y) (n : ℕ) (hn : n ≤ (k0_t1_loop i).trips) :
    st_k0_t1 𝒱 c bd i arg3 harg3 arg4 harg4 arg5 harg5 arg6 harg6 arg7 harg7 arg2 v1 v3 v5 v7 v9 v11 v13 v15 v54 v59 v64 v68 v73 v78 v82 v87 v92 v96 v101 v106 v110 v115 v120 v124 v129 v134 v138 v143 v148 v152 v155 v157 X_arg4 X_arg5 X_arg6 init n
      = pack fun h => blocks (qsel v1 v3 v5 v7 v9 v11 v13 v15) (arg4.view.read (Elt F) X_arg4) (arg5.view.read (Elt F) X_arg5) (arg6.view.read (Elt F) X_arg6) h (y h) (4 * n) := by
  subst hinit
  induction n with
  | zero => rfl
  | succ n ih =>
    refine (st_k0_t1_succ 𝒱 c bd i arg3 harg3 arg4 harg4 arg5 harg5 arg6 harg6 arg7 harg7 arg2 v1 v3 v5 v7 v9 v11 v13 v15 v54 v59 v64 v68 v73 v78 v82 v87 v92 v96 v101 v106 v110 v115 v120 v124 v129 v134 v138 v143 v148 v152 v155 v157 X_arg4 X_arg5 X_arg6 (pack y) ⟨n, hn⟩).trans ?_
    rw [trip1_raw, ih (Nat.le_of_succ_le hn), unpack_pack]
    congr 1; funext h
    simp only [rawStep1_eq]
    rfl

/-- The second loop takes no trip. -/
theorem loop2 (init : Carry F) : st_k0_t2 𝒱 c bd i arg3 harg3 arg4 harg4 arg5 harg5 arg6 harg6 arg7 harg7 arg2 v1 v3 v5 v7 v9 v11 v13 v15 v54 v59 v64 v68 v73 v78 v82 v87 v92 v96 v101 v106 v110 v115 v120 v124 v129 v134 v138 v143 v148 v152 v155 v157 v184 X_arg4 X_arg5 X_arg6 init (k0_t2_loop i).trips = init := by
  rw [trips2]; rfl

/-- The third loop: from the blocks in whole groups of four, one block a trip. -/
theorem loop3 (y : Fin 8 → St F) (init : Carry F)
    (hinit : init = pack fun h => blocks (qsel v1 v3 v5 v7 v9 v11 v13 v15) (arg4.view.read (Elt F) X_arg4) (arg5.view.read (Elt F) X_arg5) (arg6.view.read (Elt F) X_arg6) h (y h) (4 * ((i 2).val / 4)))
    (n : ℕ) (hn : n ≤ (k0_t3_loop i).trips) :
    st_k0_t3 𝒱 c bd i arg3 harg3 arg4 harg4 arg5 harg5 arg6 harg6 arg7 harg7 arg2 v1 v3 v5 v7 v9 v11 v13 v15 v186_0 v186_1 v186_2 v186_3 v186_4 v186_5 v186_6 v186_7 v186_8 v186_9 v186_10 v186_11 v186_12 v186_13 v186_14 v186_15 v186_16 v186_17 v186_18 v186_19 v186_20 v186_21 v186_22 v186_23 c4_i32_143 v187 v192 v194 v196 v204 X_arg4 X_arg5 X_arg6 init n
      = pack fun h => blocks (qsel v1 v3 v5 v7 v9 v11 v13 v15) (arg4.view.read (Elt F) X_arg4) (arg5.view.read (Elt F) X_arg5) (arg6.view.read (Elt F) X_arg6) h (y h) (4 * ((i 2).val / 4) + n) := by
  subst hinit
  induction n with
  | zero => rfl
  | succ n ih =>
    refine (st_k0_t3_succ 𝒱 c bd i arg3 harg3 arg4 harg4 arg5 harg5 arg6 harg6 arg7 harg7 arg2 v1 v3 v5 v7 v9 v11 v13 v15 v186_0 v186_1 v186_2 v186_3 v186_4 v186_5 v186_6 v186_7 v186_8 v186_9 v186_10 v186_11 v186_12 v186_13 v186_14 v186_15 v186_16 v186_17 v186_18 v186_19 v186_20 v186_21 v186_22 v186_23 c4_i32_143 v187 v192 v194 v196 v204 X_arg4 X_arg5 X_arg6 _ ⟨n, hn⟩).trans ?_
    rw [trip3_raw, ih (Nat.le_of_succ_le hn), unpack_pack]
    congr 1; funext h
    rw [rawK3_eq, rawB3_eq, rawV3_eq]
    rfl

/-- The fourth loop takes no trip. -/
theorem loop4 (init : Carry F) : st_k0_t4 𝒱 c bd i arg3 harg3 arg4 harg4 arg5 harg5 arg6 harg6 arg7 harg7 arg2 v1 v3 v5 v7 v9 v11 v13 v15 v186_0 v186_1 v186_2 v186_3 v186_4 v186_5 v186_6 v186_7 v186_8 v186_9 v186_10 v186_11 v186_12 v186_13 v186_14 v186_15 v186_16 v186_17 v186_18 v186_19 v186_20 v186_21 v186_22 v186_23 c4_i32_143 v187 v192 v194 v196 v209 X_arg4 X_arg5 X_arg6 init (k0_t4_loop i).trips = init := by
  rw [trips4]; rfl

end Cert.Attn

end
-- ==== Proof.Start.lean ====
module

public import proofs.«01_k».proof.Proof.Loop
public import proofs.«01_k».proof.Proof.Gen.KernelIdeal.Value

@[expose] public section

set_option maxRecDepth 65536
set_option maxHeartbeats 200000

noncomputable section

/-! What one grid point stores: for each head the quotient of the accumulator by the sum, after the own block and every past one. -/

namespace Cert.Attn

open Idealize.ShloMosaic Idealize.SL.Sem Cert.KernelIdeal Cert.KernelIdeal.Gen

variable {F : FTy → Type} [FloatOps F]

/-- Head `h`'s query tile. -/
def tileQ (x : Vec F S1x1x8x128x256 .bf16) (h : Fin 8) : Vec F S1x1x1x128x256 .bf16 :=
  View.ld x (Rect.unit (s := S1x1x8x128x256) ![0, 0, (h : ℕ), 0, 0] S1x1x1x128x256.size (by
    intro a; fin_cases a <;> simp [Shape.size] <;> omega))

/-- Head `h`'s queries. -/
def qOf (x : Vec F S1x1x8x128x256 .bf16) (h : Fin 8) : FVec F S128x256 .bf16 :=
  shapeCast S128x256 (tileQ x h) shapeCasts_S1x1x1x128x256_S128x256

/-- What is stored of a head's final state. -/
def headOut (s : St F) : FVec F S1x256x128 .bf16 :=
  shapeCast S1x256x128 (truncf .bf16 (transpose S256x128 [1, 0] (divf s.2.2 (broadcastTo S128x256 s.2.1 broadcasts_S1x256_S128x256))
    transposes_S128x256_p1_0_S256x128) bitsLt_bf16_f32) shapeCasts_S256x128_S1x256x128

/-- A head's state after its own block and all past ones. -/
def fin (x0 : Vec F S1x1x8x128x256 .bf16) (x1 : Vec F S1x16x8x256x128 .bf16) (x2 : Vec F S1x16x8x128x256 .bf16)
    (x3 : Vec F S1x1x8x16x256 .f32) (qb : ℕ) (h : Fin 8) : St F :=
  blocks (qOf x0) x1 x2 x3 h (own (qOf x0 h) (tileK x1 qb h) (tileV x2 qb h)) qb

variable (c : Dev nD) (i : grid0.Coords)
  (arg3 : Memref sig .tc .vmem S1x1x8x128x256 .bf16) (harg3 : arg3.IsWhole)
  (arg4 : Memref sig .tc .vmem S1x16x8x256x128 .bf16) (harg4 : arg4.IsWhole)
  (arg5 : Memref sig .tc .vmem S1x16x8x128x256 .bf16) (harg5 : arg5.IsWhole)
  (arg6 : Memref sig .tc .vmem S1x1x8x16x256 .f32) (harg6 : arg6.IsWhole)
  (arg7 : Memref sig .tc .vmem S1x256x1024 .bf16) (harg7 : arg7.IsWhole)
  (x0 : Vec F S1x1x8x128x256 .bf16) (x1 : Vec F S1x16x8x256x128 .bf16) (x2 : Vec F S1x16x8x128x256 .bf16)
  (x3 : Vec F S1x1x8x16x256 .f32)

/-- The heads' queries as the body reads them. -/
def rawQ : Fin 8 → FVec F S128x256 .bf16 := qsel (kernelRun0_A.sl.r c arg3 harg3 x0) (kernelRun0_A.sl.r_1 c arg3 harg3 x0) (kernelRun0_A.sl.r_2 c arg3 harg3 x0) (kernelRun0_A.sl.r_3 c arg3 harg3 x0) (kernelRun0_A.sl.r_4 c arg3 harg3 x0) (kernelRun0_A.sl.r_5 c arg3 harg3 x0) (kernelRun0_A.sl.r_6 c arg3 harg3 x0) (kernelRun0_A.sl.r_7 c arg3 harg3 x0)

theorem rawQ_eq : rawQ c arg3 harg3 x0 = qOf x0 := by
  have e : rawQ c arg3 harg3 x0 = qOf (arg3.view.read (Elt F) (harg3.unread x0)) := by
    funext h; fin_cases h <;> rfl
  rw [e, harg3.read_unread]

/-- The own key blocks as the body reads them. -/
def rawK0 : Fin 8 → Vec F S1x1x1x256x128 .bf16 :=
  ![View.readAt (Elt F) arg4.view (Rect.unit (s := S1x16x8x256x128) (k0_off1 i) S1x1x1x256x128.size (k0_off1_inb i)).toLoadRect (harg4.unread x1), View.readAt (Elt F) arg4.view (Rect.unit (s := S1x16x8x256x128) (k0_off2 i) S1x1x1x256x128.size (k0_off2_inb i)).toLoadRect (harg4.unread x1), View.readAt (Elt F) arg4.view (Rect.unit (s := S1x16x8x256x128) (k0_off3 i) S1x1x1x256x128.size (k0_off3_inb i)).toLoadRect (harg4.unread x1), View.readAt (Elt F) arg4.view (Rect.unit (s := S1x16x8x256x128) (k0_off4 i) S1x1x1x256x128.size (k0_off4_inb i)).toLoadRect (harg4.unread x1), View.readAt (Elt F) arg4.view (Rect.unit (s := S1x16x8x256x128) (k0_off5 i) S1x1x1x256x128.size (k0_off5_inb i)).toLoadRect (harg4.unread x1), View.readAt (Elt F) arg4.view (Rect.unit (s := S1x16x8x256x128) (k0_off6 i) S1x1x1x256x128.size (k0_off6_inb i)).toLoadRect (harg4.unread x1), View.readAt (Elt F) arg4.view (Rect.unit (s := S1x16x8x256x128) (k0_off7 i) S1x1x1x256x128.size (k0_off7_inb i)).toLoadRect (harg4.unread x1), View.readAt (Elt F) arg4.view (Rect.unit (s := S1x16x8x256x128) (k0_off8 i) S1x1x1x256x128.size (k0_off8_inb i)).toLoadRect (harg4.unread x1)]
/-- The own value blocks as the body reads them. -/
def rawV0 : Fin 8 → Vec F S1x1x1x128x256 .bf16 :=
  ![View.readAt (Elt F) arg5.view (Rect.unit (s := S1x16x8x128x256) (k0_off9 i) S1x1x1x128x256.size (k0_off9_inb i)).toLoadRect (harg5.unread x2), View.readAt (Elt F) arg5.view (Rect.unit (s := S1x16x8x128x256) (k0_off10 i) S1x1x1x128x256.size (k0_off10_inb i)).toLoadRect (harg5.unread x2), View.readAt (Elt F) arg5.view (Rect.unit (s := S1x16x8x128x256) (k0_off11 i) S1x1x1x128x256.size (k0_off11_inb i)).toLoadRect (harg5.unread x2), View.readAt (Elt F) arg5.view (Rect.unit (s := S1x16x8x128x256) (k0_off12 i) S1x1x1x128x256.size (k0_off12_inb i)).toLoadRect (harg5.unread x2), View.readAt (Elt F) arg5.view (Rect.unit (s := S1x16x8x128x256) (k0_off13 i) S1x1x1x128x256.size (k0_off13_inb i)).toLoadRect (harg5.unread x2), View.readAt (Elt F) arg5.view (Rect.unit (s := S1x16x8x128x256) (k0_off14 i) S1x1x1x128x256.size (k0_off14_inb i)).toLoadRect (harg5.unread x2), View.readAt (Elt F) arg5.view (Rect.unit (s := S1x16x8x128x256) (k0_off15 i) S1x1x1x128x256.size (k0_off15_inb i)).toLoadRect (harg5.unread x2), View.readAt (Elt F) arg5.view (Rect.unit (s := S1x16x8x128x256) (k0_off16 i) S1x1x1x128x256.size (k0_off16_inb i)).toLoadRect (harg5.unread x2)]

theorem rawK0_eq (h : Fin 8) : rawK0 i arg4 harg4 x1 h = tileK x1 (i 2).val h := by
  have e : rawK0 i arg4 harg4 x1 h = tileK (arg4.view.read (Elt F) (harg4.unread x1)) (i 2).val h := by
    rw [← off0 i]; fin_cases h <;> exact readK arg4 _ _ _ _ _ rfl
  rw [e, harg4.read_unread]

theorem rawV0_eq (h : Fin 8) : rawV0 i arg5 harg5 x2 h = tileV x2 (i 2).val h := by
  have e : rawV0 i arg5 harg5 x2 h = tileV (arg5.view.read (Elt F) (harg5.unread x2)) (i 2).val h := by
    rw [← off0 i]; fin_cases h <;> exact readV arg5 _ _ _ _ _ rfl
  rw [e, harg5.read_unread]

/-- What the loops start from: each head's own block. -/
def start : Carry F :=
  (kernelRun0_A.sl.r_16 c i arg3 harg3 arg4 harg4 x0 x1, kernelRun0_A.sl.r_19 c i arg3 harg3 arg4 harg4 x0 x1, kernelRun0_A.sl.r_22 c i arg3 harg3 arg4 harg4 x0 x1, kernelRun0_A.sl.r_25 c i arg3 harg3 arg4 harg4 x0 x1, kernelRun0_A.sl.r_28 c i arg3 harg3 arg4 harg4 x0 x1, kernelRun0_A.sl.r_33 c i arg3 harg3 arg4 harg4 x0 x1, kernelRun0_A.sl.r_36 c i arg3 harg3 arg4 harg4 x0 x1, kernelRun0_A.sl.r_39 c i arg3 harg3 arg4 harg4 x0 x1, kernelRun0_A.sl.r_17 c i arg3 harg3 arg4 harg4 x0 x1, kernelRun0_A.sl.r_20 c i arg3 harg3 arg4 harg4 x0 x1, kernelRun0_A.sl.r_23 c i arg3 harg3 arg4 harg4 x0 x1, kernelRun0_A.sl.r_26 c i arg3 harg3 arg4 harg4 x0 x1, kernelRun0_A.sl.r_30 c i arg3 harg3 arg4 harg4 x0 x1, kernelRun0_A.sl.r_34 c i arg3 harg3 arg4 harg4 x0 x1, kernelRun0_A.sl.r_37 c i arg3 harg3 arg4 harg4 x0 x1, kernelRun0_A.sl.r_41 c i arg3 harg3 arg4 harg4 x0 x1, kernelRun0_A.sl.r_18 c i arg3 harg3 arg4 harg4 arg5 harg5 x0 x1 x2, kernelRun0_A.sl.r_21 c i arg3 harg3 arg4 harg4 arg5 harg5 x0 x1 x2, kernelRun0_A.sl.r_24 c i arg3 harg3 arg4 harg4 arg5 harg5 x0 x1 x2, kernelRun0_A.sl.r_27 c i arg3 harg3 arg4 harg4 arg5 harg5 x0 x1 x2, kernelRun0_A.sl.r_32 c i arg3 harg3 arg4 harg4 arg5 harg5 x0 x1 x2, kernelRun0_A.sl.r_35 c i arg3 harg3 arg4 harg4 arg5 harg5 x0 x1 x2, kernelRun0_A.sl.r_38 c i arg3 harg3 arg4 harg4 arg5 harg5 x0 x1 x2, k0_pay675 (kernelRun0_A.sl.r_40 c i arg3 harg3 arg4 harg4 x0 x1) (View.readAt (Elt F) arg5.view (Rect.unit (s := S1x16x8x128x256) (k0_off16 i) S1x1x1x128x256.size (k0_off16_inb i)).toLoadRect (harg5.unread x2)))

/-- The own blocks' maxima, head by head. -/
theorem start_max :
    kernelRun0_A.sl.r_16 c i arg3 harg3 arg4 harg4 x0 x1 = colMax (ownScore (rawQ c arg3 harg3 x0 0) (rawK0 i arg4 harg4 x1 0))
    ∧ kernelRun0_A.sl.r_19 c i arg3 harg3 arg4 harg4 x0 x1 = colMax (ownScore (rawQ c arg3 harg3 x0 1) (rawK0 i arg4 harg4 x1 1))
    ∧ kernelRun0_A.sl.r_22 c i arg3 harg3 arg4 harg4 x0 x1 = colMax (ownScore (rawQ c arg3 harg3 x0 2) (rawK0 i arg4 harg4 x1 2))
    ∧ kernelRun0_A.sl.r_25 c i arg3 harg3 arg4 harg4 x0 x1 = colMax (ownScore (rawQ c arg3 harg3 x0 3) (rawK0 i arg4 harg4 x1 3))
    ∧ kernelRun0_A.sl.r_28 c i arg3 harg3 arg4 harg4 x0 x1 = colMax (ownScore (rawQ c arg3 harg3 x0 4) (rawK0 i arg4 harg4 x1 4))
    ∧ kernelRun0_A.sl.r_33 c i arg3 harg3 arg4 harg4 x0 x1 = colMax (ownScore (rawQ c arg3 harg3 x0 5) (rawK0 i arg4 harg4 x1 5))
    ∧ kernelRun0_A.sl.r_36 c i arg3 harg3 arg4 harg4 x0 x1 = colMax (ownScore (rawQ c arg3 harg3 x0 6) (rawK0 i arg4 harg4 x1 6))
    ∧ kernelRun0_A.sl.r_39 c i arg3 harg3 arg4 harg4 x0 x1 = colMax (ownScore (rawQ c arg3 harg3 x0 7) (rawK0 i arg4 harg4 x1 7)) :=
  ⟨rfl, rfl, rfl, rfl, rfl, rfl, rfl, rfl⟩

theorem pair_eq {α β : Type} {a a' : α} {b b' : β} (h : a = a') (k : b = b') : (a, b) = (a', b') := by rw [h, k]

theorem start_eq : start c i arg3 harg3 arg4 harg4 arg5 harg5 x0 x1 x2
    = pack fun h => own (qOf x0 h) (tileK x1 (i 2).val h) (tileV x2 (i 2).val h) := by
  have e : start c i arg3 harg3 arg4 harg4 arg5 harg5 x0 x1 x2
      = pack fun h => own (rawQ c arg3 harg3 x0 h) (rawK0 i arg4 harg4 x1 h) (rawV0 i arg5 harg5 x2 h) := by
    obtain ⟨a1, a2, a3, a4, a5, a6, a7, a8⟩ := start_max c i arg3 harg3 arg4 harg4 x0 x1
    unfold start; dsimp only [pack, own]
    exact pair_eq a1 (pair_eq a2 (pair_eq a3 (pair_eq a4 (pair_eq a5 (pair_eq a6 (pair_eq a7 (pair_eq a8 (pair_eq rfl (pair_eq rfl (pair_eq rfl (pair_eq rfl (pair_eq rfl (pair_eq rfl (pair_eq rfl (pair_eq rfl (pair_eq rfl (pair_eq rfl (pair_eq rfl (pair_eq rfl (pair_eq rfl (pair_eq rfl (pair_eq rfl rfl))))))))))))))))))))))
  rw [e]; simp only [rawQ_eq, rawK0_eq, rawV0_eq]

end Cert.Attn

end
-- ==== Proof.Mid.lean ====
module

public import proofs.«01_k».proof.Proof.Start

@[expose] public section

set_option maxRecDepth 65536
set_option maxHeartbeats 200000

noncomputable section

/-! The state the loops of one grid point end in. -/

namespace Cert.Attn

open Idealize.ShloMosaic Idealize.SL.Sem Cert.KernelIdeal Cert.KernelIdeal.Gen

variable {F : FTy → Type} [FloatOps F]

variable (c : Dev nD) (i : grid0.Coords)
  (arg3 : Memref sig .tc .vmem S1x1x8x128x256 .bf16) (harg3 : arg3.IsWhole)
  (arg4 : Memref sig .tc .vmem S1x16x8x256x128 .bf16) (harg4 : arg4.IsWhole)
  (arg5 : Memref sig .tc .vmem S1x16x8x128x256 .bf16) (harg5 : arg5.IsWhole)
  (arg6 : Memref sig .tc .vmem S1x1x8x16x256 .f32) (harg6 : arg6.IsWhole)
  (arg7 : Memref sig .tc .vmem S1x256x1024 .bf16) (harg7 : arg7.IsWhole)
  (x0 : Vec F S1x1x8x128x256 .bf16) (x1 : Vec F S1x16x8x256x128 .bf16) (x2 : Vec F S1x16x8x128x256 .bf16)
  (x3 : Vec F S1x1x8x16x256 .f32)

/-- The state after the groups of four blocks. -/
def afterA : Carry F :=
  st_k0_t1 Variants.none c none i arg3 harg3 arg4 harg4 arg5 harg5 arg6 harg6 arg7 harg7 (BitVec.ofNat 32 ↑(i 2)) (kernelRun0_A.sl.r c arg3 harg3 x0) (kernelRun0_A.sl.r_1 c arg3 harg3 x0) (kernelRun0_A.sl.r_2 c arg3 harg3 x0) (kernelRun0_A.sl.r_3 c arg3 harg3 x0) (kernelRun0_A.sl.r_4 c arg3 harg3 x0) (kernelRun0_A.sl.r_5 c arg3 harg3 x0) (kernelRun0_A.sl.r_6 c arg3 harg3 x0) (kernelRun0_A.sl.r_7 c arg3 harg3 x0) (kernelRun0_A.sl.r_16 c i arg3 harg3 arg4 harg4 x0 x1) (kernelRun0_A.sl.r_17 c i arg3 harg3 arg4 harg4 x0 x1) (kernelRun0_A.sl.r_18 c i arg3 harg3 arg4 harg4 arg5 harg5 x0 x1 x2) (kernelRun0_A.sl.r_19 c i arg3 harg3 arg4 harg4 x0 x1) (kernelRun0_A.sl.r_20 c i arg3 harg3 arg4 harg4 x0 x1) (kernelRun0_A.sl.r_21 c i arg3 harg3 arg4 harg4 arg5 harg5 x0 x1 x2) (kernelRun0_A.sl.r_22 c i arg3 harg3 arg4 harg4 x0 x1) (kernelRun0_A.sl.r_23 c i arg3 harg3 arg4 harg4 x0 x1) (kernelRun0_A.sl.r_24 c i arg3 harg3 arg4 harg4 arg5 harg5 x0 x1 x2) (kernelRun0_A.sl.r_25 c i arg3 harg3 arg4 harg4 x0 x1) (kernelRun0_A.sl.r_26 c i arg3 harg3 arg4 harg4 x0 x1) (kernelRun0_A.sl.r_27 c i arg3 harg3 arg4 harg4 arg5 harg5 x0 x1 x2) (kernelRun0_A.sl.r_28 c i arg3 harg3 arg4 harg4 x0 x1) (kernelRun0_A.sl.r_30 c i arg3 harg3 arg4 harg4 x0 x1) (kernelRun0_A.sl.r_32 c i arg3 harg3 arg4 harg4 arg5 harg5 x0 x1 x2) (kernelRun0_A.sl.r_33 c i arg3 harg3 arg4 harg4 x0 x1) (kernelRun0_A.sl.r_34 c i arg3 harg3 arg4 harg4 x0 x1) (kernelRun0_A.sl.r_35 c i arg3 harg3 arg4 harg4 arg5 harg5 x0 x1 x2) (kernelRun0_A.sl.r_36 c i arg3 harg3 arg4 harg4 x0 x1) (kernelRun0_A.sl.r_37 c i arg3 harg3 arg4 harg4 x0 x1) (kernelRun0_A.sl.r_38 c i arg3 harg3 arg4 harg4 arg5 harg5 x0 x1 x2) (kernelRun0_A.sl.r_39 c i arg3 harg3 arg4 harg4 x0 x1) (kernelRun0_A.sl.r_40 c i arg3 harg3 arg4 harg4 x0 x1) (kernelRun0_A.sl.r_41 c i arg3 harg3 arg4 harg4 x0 x1) (harg4.unread x1) (harg5.unread x2) (harg6.unread x3)
    (kernelRun0_A.sl.r_16 c i arg3 harg3 arg4 harg4 x0 x1, kernelRun0_A.sl.r_19 c i arg3 harg3 arg4 harg4 x0 x1, kernelRun0_A.sl.r_22 c i arg3 harg3 arg4 harg4 x0 x1, kernelRun0_A.sl.r_25 c i arg3 harg3 arg4 harg4 x0 x1, kernelRun0_A.sl.r_28 c i arg3 harg3 arg4 harg4 x0 x1, kernelRun0_A.sl.r_33 c i arg3 harg3 arg4 harg4 x0 x1, kernelRun0_A.sl.r_36 c i arg3 harg3 arg4 harg4 x0 x1, kernelRun0_A.sl.r_39 c i arg3 harg3 arg4 harg4 x0 x1, kernelRun0_A.sl.r_17 c i arg3 harg3 arg4 harg4 x0 x1, kernelRun0_A.sl.r_20 c i arg3 harg3 arg4 harg4 x0 x1, kernelRun0_A.sl.r_23 c i arg3 harg3 arg4 harg4 x0 x1, kernelRun0_A.sl.r_26 c i arg3 harg3 arg4 harg4 x0 x1, kernelRun0_A.sl.r_30 c i arg3 harg3 arg4 harg4 x0 x1, kernelRun0_A.sl.r_34 c i arg3 harg3 arg4 harg4 x0 x1, kernelRun0_A.sl.r_37 c i arg3 harg3 arg4 harg4 x0 x1, kernelRun0_A.sl.r_41 c i arg3 harg3 arg4 harg4 x0 x1, kernelRun0_A.sl.r_18 c i arg3 harg3 arg4 harg4 arg5 harg5 x0 x1 x2, kernelRun0_A.sl.r_21 c i arg3 harg3 arg4 harg4 arg5 harg5 x0 x1 x2, kernelRun0_A.sl.r_24 c i arg3 harg3 arg4 harg4 arg5 harg5 x0 x1 x2, kernelRun0_A.sl.r_27 c i arg3 harg3 arg4 harg4 arg5 harg5 x0 x1 x2, kernelRun0_A.sl.r_32 c i arg3 harg3 arg4 harg4 arg5 harg5 x0 x1 x2, kernelRun0_A.sl.r_35 c i arg3 harg3 arg4 harg4 arg5 harg5 x0 x1 x2, kernelRun0_A.sl.r_38 c i arg3 harg3 arg4 harg4 arg5 harg5 x0 x1 x2, k0_pay675 (kernelRun0_A.sl.r_40 c i arg3 harg3 arg4 harg4 x0 x1) (View.readAt (Elt F) arg5.view (Rect.unit (s := S1x16x8x128x256) (k0_off16 i) S1x1x1x128x256.size (k0_off16_inb i)).toLoadRect (harg5.unread x2)))
    (Scf.trips (k0_t1_loop i).lb (k0_t1_loop i).ub (k0_t1_loop i).st)

/-- The state after the second loop. -/
def afterB : Carry F :=
  st_k0_t2 Variants.none c none i arg3 harg3 arg4 harg4 arg5 harg5 arg6 harg6 arg7 harg7 (BitVec.ofNat 32 ↑(i 2)) (kernelRun0_A.sl.r c arg3 harg3 x0) (kernelRun0_A.sl.r_1 c arg3 harg3 x0) (kernelRun0_A.sl.r_2 c arg3 harg3 x0) (kernelRun0_A.sl.r_3 c arg3 harg3 x0) (kernelRun0_A.sl.r_4 c arg3 harg3 x0) (kernelRun0_A.sl.r_5 c arg3 harg3 x0) (kernelRun0_A.sl.r_6 c arg3 harg3 x0) (kernelRun0_A.sl.r_7 c arg3 harg3 x0) (kernelRun0_A.sl.r_16 c i arg3 harg3 arg4 harg4 x0 x1) (kernelRun0_A.sl.r_17 c i arg3 harg3 arg4 harg4 x0 x1) (kernelRun0_A.sl.r_18 c i arg3 harg3 arg4 harg4 arg5 harg5 x0 x1 x2) (kernelRun0_A.sl.r_19 c i arg3 harg3 arg4 harg4 x0 x1) (kernelRun0_A.sl.r_20 c i arg3 harg3 arg4 harg4 x0 x1) (kernelRun0_A.sl.r_21 c i arg3 harg3 arg4 harg4 arg5 harg5 x0 x1 x2) (kernelRun0_A.sl.r_22 c i arg3 harg3 arg4 harg4 x0 x1) (kernelRun0_A.sl.r_23 c i arg3 harg3 arg4 harg4 x0 x1) (kernelRun0_A.sl.r_24 c i arg3 harg3 arg4 harg4 arg5 harg5 x0 x1 x2) (kernelRun0_A.sl.r_25 c i arg3 harg3 arg4 harg4 x0 x1) (kernelRun0_A.sl.r_26 c i arg3 harg3 arg4 harg4 x0 x1) (kernelRun0_A.sl.r_27 c i arg3 harg3 arg4 harg4 arg5 harg5 x0 x1 x2) (kernelRun0_A.sl.r_28 c i arg3 harg3 arg4 harg4 x0 x1) (kernelRun0_A.sl.r_30 c i arg3 harg3 arg4 harg4 x0 x1) (kernelRun0_A.sl.r_32 c i arg3 harg3 arg4 harg4 arg5 harg5 x0 x1 x2) (kernelRun0_A.sl.r_33 c i arg3 harg3 arg4 harg4 x0 x1) (kernelRun0_A.sl.r_34 c i arg3 harg3 arg4 harg4 x0 x1) (kernelRun0_A.sl.r_35 c i arg3 harg3 arg4 harg4 arg5 harg5 x0 x1 x2) (kernelRun0_A.sl.r_36 c i arg3 harg3 arg4 harg4 x0 x1) (kernelRun0_A.sl.r_37 c i arg3 harg3 arg4 harg4 x0 x1) (kernelRun0_A.sl.r_38 c i arg3 harg3 arg4 harg4 arg5 harg5 x0 x1 x2) (kernelRun0_A.sl.r_39 c i arg3 harg3 arg4 harg4 x0 x1) (kernelRun0_A.sl.r_40 c i arg3 harg3 arg4 harg4 x0 x1) (kernelRun0_A.sl.r_41 c i arg3 harg3 arg4 harg4 x0 x1) (kernelRun0_A.sl.v184 i) (harg4.unread x1) (harg5.unread x2) (harg6.unread x3)
    ((afterA c i arg3 harg3 arg4 harg4 arg5 harg5 arg6 harg6 arg7 harg7 x0 x1 x2 x3).1, (afterA c i arg3 harg3 arg4 harg4 arg5 harg5 arg6 harg6 arg7 harg7 x0 x1 x2 x3).2.1, (afterA c i arg3 harg3 arg4 harg4 arg5 harg5 arg6 harg6 arg7 harg7 x0 x1 x2 x3).2.2.1, (afterA c i arg3 harg3 arg4 harg4 arg5 harg5 arg6 harg6 arg7 harg7 x0 x1 x2 x3).2.2.2.1, (afterA c i arg3 harg3 arg4 harg4 arg5 harg5 arg6 harg6 arg7 harg7 x0 x1 x2 x3).2.2.2.2.1, (afterA c i arg3 harg3 arg4 harg4 arg5 harg5 arg6 harg6 arg7 harg7 x0 x1 x2 x3).2.2.2.2.2.1, (afterA c i arg3 harg3 arg4 harg4 arg5 harg5 arg6 harg6 arg7 harg7 x0 x1 x2 x3).2.2.2.2.2.2.1, (afterA c i arg3 harg3 arg4 harg4 arg5 harg5 arg6 harg6 arg7 harg7 x0 x1 x2 x3).2.2.2.2.2.2.2.1, (afterA c i arg3 harg3 arg4 harg4 arg5 harg5 arg6 harg6 arg7 harg7 x0 x1 x2 x3).2.2.2.2.2.2.2.2.1, (afterA c i arg3 harg3 arg4 harg4 arg5 harg5 arg6 harg6 arg7 harg7 x0 x1 x2 x3).2.2.2.2.2.2.2.2.2.1, (afterA c i arg3 harg3 arg4 harg4 arg5 harg5 arg6 harg6 arg7 harg7 x0 x1 x2 x3).2.2.2.2.2.2.2.2.2.2.1, (afterA c i arg3 harg3 arg4 harg4 arg5 harg5 arg6 harg6 arg7 harg7 x0 x1 x2 x3).2.2.2.2.2.2.2.2.2.2.2.1, (afterA c i arg3 harg3 arg4 harg4 arg5 harg5 arg6 harg6 arg7 harg7 x0 x1 x2 x3).2.2.2.2.2.2.2.2.2.2.2.2.1, (afterA c i arg3 harg3 arg4 harg4 arg5 harg5 arg6 harg6 arg7 harg7 x0 x1 x2 x3).2.2.2.2.2.2.2.2.2.2.2.2.2.1, (afterA c i arg3 harg3 arg4 harg4 arg5 harg5 arg6 harg6 arg7 harg7 x0 x1 x2 x3).2.2.2.2.2.2.2.2.2.2.2.2.2.2.1, (afterA c i arg3 harg3 arg4 harg4 arg5 harg5 arg6 harg6 arg7 harg7 x0 x1 x2 x3).2.2.2.2.2.2.2.2.2.2.2.2.2.2.2.1, (afterA c i arg3 harg3 arg4 harg4 arg5 harg5 arg6 harg6 arg7 harg7 x0 x1 x2 x3).2.2.2.2.2.2.2.2.2.2.2.2.2.2.2.2.1, (afterA c i arg3 harg3 arg4 harg4 arg5 harg5 arg6 harg6 arg7 harg7 x0 x1 x2 x3).2.2.2.2.2.2.2.2.2.2.2.2.2.2.2.2.2.1, (afterA c i arg3 harg3 arg4 harg4 arg5 harg5 arg6 harg6 arg7 harg7 x0 x1 x2 x3).2.2.2.2.2.2.2.2.2.2.2.2.2.2.2.2.2.2.1, (afterA c i arg3 harg3 arg4 harg4 arg5 harg5 arg6 harg6 arg7 harg7 x0 x1 x2 x3).2.2.2.2.2.2.2.2.2.2.2.2.2.2.2.2.2.2.2.1, (afterA c i arg3 harg3 arg4 harg4 arg5 harg5 arg6 harg6 arg7 harg7 x0 x1 x2 x3).2.2.2.2.2.2.2.2.2.2.2.2.2.2.2.2.2.2.2.2.1, (afterA c i arg3 harg3 arg4 harg4 arg5 harg5 arg6 harg6 arg7 harg7 x0 x1 x2 x3).2.2.2.2.2.2.2.2.2.2.2.2.2.2.2.2.2.2.2.2.2.1, (afterA c i arg3 harg3 arg4 harg4 arg5 harg5 arg6 harg6 arg7 harg7 x0 x1 x2 x3).2.2.2.2.2.2.2.2.2.2.2.2.2.2.2.2.2.2.2.2.2.2.1, (afterA c i arg3 harg3 arg4 harg4 arg5 harg5 arg6 harg6 arg7 harg7 x0 x1 x2 x3).2.2.2.2.2.2.2.2.2.2.2.2.2.2.2.2.2.2.2.2.2.2.2)
    (Scf.trips (k0_t2_loop i).lb (k0_t2_loop i).ub (k0_t2_loop i).st)

/-- A state is the tuple of its parts. -/
theorem parts (x : Carry F) : (x.1, x.2.1, x.2.2.1, x.2.2.2.1, x.2.2.2.2.1, x.2.2.2.2.2.1, x.2.2.2.2.2.2.1, x.2.2.2.2.2.2.2.1, x.2.2.2.2.2.2.2.2.1, x.2.2.2.2.2.2.2.2.2.1, x.2.2.2.2.2.2.2.2.2.2.1, x.2.2.2.2.2.2.2.2.2.2.2.1, x.2.2.2.2.2.2.2.2.2.2.2.2.1, x.2.2.2.2.2.2.2.2.2.2.2.2.2.1, x.2.2.2.2.2.2.2.2.2.2.2.2.2.2.1, x.2.2.2.2.2.2.2.2.2.2.2.2.2.2.2.1, x.2.2.2.2.2.2.2.2.2.2.2.2.2.2.2.2.1, x.2.2.2.2.2.2.2.2.2.2.2.2.2.2.2.2.2.1, x.2.2.2.2.2.2.2.2.2.2.2.2.2.2.2.2.2.2.1, x.2.2.2.2.2.2.2.2.2.2.2.2.2.2.2.2.2.2.2.1, x.2.2.2.2.2.2.2.2.2.2.2.2.2.2.2.2.2.2.2.2.1, x.2.2.2.2.2.2.2.2.2.2.2.2.2.2.2.2.2.2.2.2.2.1, x.2.2.2.2.2.2.2.2.2.2.2.2.2.2.2.2.2.2.2.2.2.2.1, x.2.2.2.2.2.2.2.2.2.2.2.2.2.2.2.2.2.2.2.2.2.2.2) = x := rfl

/-- The state between the two pairs of loops, part by part. -/
theorem middle_parts :
    kernelRun0_A.sl.r_42 c i arg3 harg3 arg4 harg4 arg5 harg5 arg6 harg6 arg7 harg7 x0 x1 x2 x3 = (afterB c i arg3 harg3 arg4 harg4 arg5 harg5 arg6 harg6 arg7 harg7 x0 x1 x2 x3).1
    ∧ kernelRun0_A.sl.r_43 c i arg3 harg3 arg4 harg4 arg5 harg5 arg6 harg6 arg7 harg7 x0 x1 x2 x3 = (afterB c i arg3 harg3 arg4 harg4 arg5 harg5 arg6 harg6 arg7 harg7 x0 x1 x2 x3).2.1
    ∧ kernelRun0_A.sl.r_44 c i arg3 harg3 arg4 harg4 arg5 harg5 arg6 harg6 arg7 harg7 x0 x1 x2 x3 = (afterB c i arg3 harg3 arg4 harg4 arg5 harg5 arg6 harg6 arg7 harg7 x0 x1 x2 x3).2.2.1
    ∧ kernelRun0_A.sl.r_45 c i arg3 harg3 arg4 harg4 arg5 harg5 arg6 harg6 arg7 harg7 x0 x1 x2 x3 = (afterB c i arg3 harg3 arg4 harg4 arg5 harg5 arg6 harg6 arg7 harg7 x0 x1 x2 x3).2.2.2.1
    ∧ kernelRun0_A.sl.r_46 c i arg3 harg3 arg4 harg4 arg5 harg5 arg6 harg6 arg7 harg7 x0 x1 x2 x3 = (afterB c i arg3 harg3 arg4 harg4 arg5 harg5 arg6 harg6 arg7 harg7 x0 x1 x2 x3).2.2.2.2.1
    ∧ kernelRun0_A.sl.r_47 c i arg3 harg3 arg4 harg4 arg5 harg5 arg6 harg6 arg7 harg7 x0 x1 x2 x3 = (afterB c i arg3 harg3 arg4 harg4 arg5 harg5 arg6 harg6 arg7 harg7 x0 x1 x2 x3).2.2.2.2.2.1
    ∧ kernelRun0_A.sl.r_48 c i arg3 harg3 arg4 harg4 arg5 harg5 arg6 harg6 arg7 harg7 x0 x1 x2 x3 = (afterB c i arg3 harg3 arg4 harg4 arg5 harg5 arg6 harg6 arg7 harg7 x0 x1 x2 x3).2.2.2.2.2.2.1
    ∧ kernelRun0_A.sl.r_49 c i arg3 harg3 arg4 harg4 arg5 harg5 arg6 harg6 arg7 harg7 x0 x1 x2 x3 = (afterB c i arg3 harg3 arg4 harg4 arg5 harg5 arg6 harg6 arg7 harg7 x0 x1 x2 x3).2.2.2.2.2.2.2.1
    ∧ kernelRun0_A.sl.r_50 c i arg3 harg3 arg4 harg4 arg5 harg5 arg6 harg6 arg7 harg7 x0 x1 x2 x3 = (afterB c i arg3 harg3 arg4 harg4 arg5 harg5 arg6 harg6 arg7 harg7 x0 x1 x2 x3).2.2.2.2.2.2.2.2.1
    ∧ kernelRun0_A.sl.r_51 c i arg3 harg3 arg4 harg4 arg5 harg5 arg6 harg6 arg7 harg7 x0 x1 x2 x3 = (afterB c i arg3 harg3 arg4 harg4 arg5 harg5 arg6 harg6 arg7 harg7 x0 x1 x2 x3).2.2.2.2.2.2.2.2.2.1
    ∧ kernelRun0_A.sl.r_52 c i arg3 harg3 arg4 harg4 arg5 harg5 arg6 harg6 arg7 harg7 x0 x1 x2 x3 = (afterB c i arg3 harg3 arg4 harg4 arg5 harg5 arg6 harg6 arg7 harg7 x0 x1 x2 x3).2.2.2.2.2.2.2.2.2.2.1
    ∧ kernelRun0_A.sl.r_53 c i arg3 harg3 arg4 harg4 arg5 harg5 arg6 harg6 arg7 harg7 x0 x1 x2 x3 = (afterB c i arg3 harg3 arg4 harg4 arg5 harg5 arg6 harg6 arg7 harg7 x0 x1 x2 x3).2.2.2.2.2.2.2.2.2.2.2.1
    ∧ kernelRun0_A.sl.r_54 c i arg3 harg3 arg4 harg4 arg5 harg5 arg6 harg6 arg7 harg7 x0 x1 x2 x3 = (afterB c i arg3 harg3 arg4 harg4 arg5 harg5 arg6 harg6 arg7 harg7 x0 x1 x2 x3).2.2.2.2.2.2.2.2.2.2.2.2.1
    ∧ kernelRun0_A.sl.r_55 c i arg3 harg3 arg4 harg4 arg5 harg5 arg6 harg6 arg7 harg7 x0 x1 x2 x3 = (afterB c i arg3 harg3 arg4 harg4 arg5 harg5 arg6 harg6 arg7 harg7 x0 x1 x2 x3).2.2.2.2.2.2.2.2.2.2.2.2.2.1
    ∧ kernelRun0_A.sl.r_56 c i arg3 harg3 arg4 harg4 arg5 harg5 arg6 harg6 arg7 harg7 x0 x1 x2 x3 = (afterB c i arg3 harg3 arg4 harg4 arg5 harg5 arg6 harg6 arg7 harg7 x0 x1 x2 x3).2.2.2.2.2.2.2.2.2.2.2.2.2.2.1
    ∧ kernelRun0_A.sl.r_57 c i arg3 harg3 arg4 harg4 arg5 harg5 arg6 harg6 arg7 harg7 x0 x1 x2 x3 = (afterB c i arg3 harg3 arg4 harg4 arg5 harg5 arg6 harg6 arg7 harg7 x0 x1 x2 x3).2.2.2.2.2.2.2.2.2.2.2.2.2.2.2.1
    ∧ kernelRun0_A.sl.r_58 c i arg3 harg3 arg4 harg4 arg5 harg5 arg6 harg6 arg7 harg7 x0 x1 x2 x3 = (afterB c i arg3 harg3 arg4 harg4 arg5 harg5 arg6 harg6 arg7 harg7 x0 x1 x2 x3).2.2.2.2.2.2.2.2.2.2.2.2.2.2.2.2.1
    ∧ kernelRun0_A.sl.r_59 c i arg3 harg3 arg4 harg4 arg5 harg5 arg6 harg6 arg7 harg7 x0 x1 x2 x3 = (afterB c i arg3 harg3 arg4 harg4 arg5 harg5 arg6 harg6 arg7 harg7 x0 x1 x2 x3).2.2.2.2.2.2.2.2.2.2.2.2.2.2.2.2.2.1
    ∧ kernelRun0_A.sl.r_60 c i arg3 harg3 arg4 harg4 arg5 harg5 arg6 harg6 arg7 harg7 x0 x1 x2 x3 = (afterB c i arg3 harg3 arg4 harg4 arg5 harg5 arg6 harg6 arg7 harg7 x0 x1 x2 x3).2.2.2.2.2.2.2.2.2.2.2.2.2.2.2.2.2.2.1
    ∧ kernelRun0_A.sl.r_61 c i arg3 harg3 arg4 harg4 arg5 harg5 arg6 harg6 arg7 harg7 x0 x1 x2 x3 = (afterB c i arg3 harg3 arg4 harg4 arg5 harg5 arg6 harg6 arg7 harg7 x0 x1 x2 x3).2.2.2.2.2.2.2.2.2.2.2.2.2.2.2.2.2.2.2.1
    ∧ kernelRun0_A.sl.r_62 c i arg3 harg3 arg4 harg4 arg5 harg5 arg6 harg6 arg7 harg7 x0 x1 x2 x3 = (afterB c i arg3 harg3 arg4 harg4 arg5 harg5 arg6 harg6 arg7 harg7 x0 x1 x2 x3).2.2.2.2.2.2.2.2.2.2.2.2.2.2.2.2.2.2.2.2.1
    ∧ kernelRun0_A.sl.r_63 c i arg3 harg3 arg4 harg4 arg5 harg5 arg6 harg6 arg7 harg7 x0 x1 x2 x3 = (afterB c i arg3 harg3 arg4 harg4 arg5 harg5 arg6 harg6 arg7 harg7 x0 x1 x2 x3).2.2.2.2.2.2.2.2.2.2.2.2.2.2.2.2.2.2.2.2.2.1
    ∧ kernelRun0_A.sl.r_64 c i arg3 harg3 arg4 harg4 arg5 harg5 arg6 harg6 arg7 harg7 x0 x1 x2 x3 = (afterB c i arg3 harg3 arg4 harg4 arg5 harg5 arg6 harg6 arg7 harg7 x0 x1 x2 x3).2.2.2.2.2.2.2.2.2.2.2.2.2.2.2.2.2.2.2.2.2.2.1
    ∧ kernelRun0_A.sl.r_65 c i arg3 harg3 arg4 harg4 arg5 harg5 arg6 harg6 arg7 harg7 x0 x1 x2 x3 = (afterB c i arg3 harg3 arg4 harg4 arg5 harg5 arg6 harg6 arg7 harg7 x0 x1 x2 x3).2.2.2.2.2.2.2.2.2.2.2.2.2.2.2.2.2.2.2.2.2.2.2 := by
  refine ⟨?_, ?_, ?_, ?_, ?_, ?_, ?_, ?_, ?_, ?_, ?_, ?_, ?_, ?_, ?_, ?_, ?_, ?_, ?_, ?_, ?_, ?_, ?_, ?_⟩
  · unfold kernelRun0_A.sl.r_42 afterB afterA; with_reducible rfl
  · unfold kernelRun0_A.sl.r_43 afterB afterA; with_reducible rfl
  · unfold kernelRun0_A.sl.r_44 afterB afterA; with_reducible rfl
  · unfold kernelRun0_A.sl.r_45 afterB afterA; with_reducible rfl
  · unfold kernelRun0_A.sl.r_46 afterB afterA; with_reducible rfl
  · unfold kernelRun0_A.sl.r_47 afterB afterA; with_reducible rfl
  · unfold kernelRun0_A.sl.r_48 afterB afterA; with_reducible rfl
  · unfold kernelRun0_A.sl.r_49 afterB afterA; with_reducible rfl
  · unfold kernelRun0_A.sl.r_50 afterB afterA; with_reducible rfl
  · unfold kernelRun0_A.sl.r_51 afterB afterA; with_reducible rfl
  · unfold kernelRun0_A.sl.r_52 afterB afterA; with_reducible rfl
  · unfold kernelRun0_A.sl.r_53 afterB afterA; with_reducible rfl
  · unfold kernelRun0_A.sl.r_54 afterB afterA; with_reducible rfl
  · unfold kernelRun0_A.sl.r_55 afterB afterA; with_reducible rfl
  · unfold kernelRun0_A.sl.r_56 afterB afterA; with_reducible rfl
  · unfold kernelRun0_A.sl.r_57 afterB afterA; with_reducible rfl
  · unfold kernelRun0_A.sl.r_58 afterB afterA; with_reducible rfl
  · unfold kernelRun0_A.sl.r_59 afterB afterA; with_reducible rfl
  · unfold kernelRun0_A.sl.r_60 afterB afterA; with_reducible rfl
  · unfold kernelRun0_A.sl.r_61 afterB afterA; with_reducible rfl
  · unfold kernelRun0_A.sl.r_62 afterB afterA; with_reducible rfl
  · unfold kernelRun0_A.sl.r_63 afterB afterA; with_reducible rfl
  · unfold kernelRun0_A.sl.r_64 afterB afterA; with_reducible rfl
  · unfold kernelRun0_A.sl.r_65 afterB afterA; with_reducible rfl

end Cert.Attn

end
-- ==== Proof.Last.lean ====
module

public import proofs.«01_k».proof.Proof.Mid

@[expose] public section

set_option maxRecDepth 65536
set_option maxHeartbeats 200000

noncomputable section

/-! The state the loops of one grid point end in. -/

namespace Cert.Attn

open Idealize.ShloMosaic Idealize.SL.Sem Cert.KernelIdeal Cert.KernelIdeal.Gen

variable {F : FTy → Type} [FloatOps F]

variable (c : Dev nD) (i : grid0.Coords)
  (arg3 : Memref sig .tc .vmem S1x1x8x128x256 .bf16) (harg3 : arg3.IsWhole)
  (arg4 : Memref sig .tc .vmem S1x16x8x256x128 .bf16) (harg4 : arg4.IsWhole)
  (arg5 : Memref sig .tc .vmem S1x16x8x128x256 .bf16) (harg5 : arg5.IsWhole)
  (arg6 : Memref sig .tc .vmem S1x1x8x16x256 .f32) (harg6 : arg6.IsWhole)
  (arg7 : Memref sig .tc .vmem S1x256x1024 .bf16) (harg7 : arg7.IsWhole)
  (x0 : Vec F S1x1x8x128x256 .bf16) (x1 : Vec F S1x16x8x256x128 .bf16) (x2 : Vec F S1x16x8x128x256 .bf16)
  (x3 : Vec F S1x1x8x16x256 .f32)

theorem afterA_eq : afterA c i arg3 harg3 arg4 harg4 arg5 harg5 arg6 harg6 arg7 harg7 x0 x1 x2 x3 = pack fun h => blocks (qOf x0) x1 x2 x3 h (own (qOf x0 h) (tileK x1 (i 2).val h) (tileV x2 (i 2).val h)) (4 * ((i 2).val / 4)) := by
  unfold afterA
  refine (loop1 (y := fun h => own (qOf x0 h) (tileK x1 (i 2).val h) (tileV x2 (i 2).val h)) (hinit := start_eq c i arg3 harg3 arg4 harg4 arg5 harg5 x0 x1 x2) (n := (k0_t1_loop i).trips) (hn := le_rfl) ..).trans ?_
  rw [harg4.read_unread, harg5.read_unread, harg6.read_unread, trips1]
  congr 1; funext h
  exact congrArg (fun q => blocks q x1 x2 x3 h (own (qOf x0 h) (tileK x1 (i 2).val h) (tileV x2 (i 2).val h)) _) (rawQ_eq c arg3 harg3 x0)

theorem afterB_eq : afterB c i arg3 harg3 arg4 harg4 arg5 harg5 arg6 harg6 arg7 harg7 x0 x1 x2 x3 = afterA c i arg3 harg3 arg4 harg4 arg5 harg5 arg6 harg6 arg7 harg7 x0 x1 x2 x3 := by
  unfold afterB
  exact (loop2 ..).trans (parts _)

/-- The state between the two pairs of loops: the blocks in whole groups of four. -/
def middle : Carry F :=
  (kernelRun0_A.sl.r_42 c i arg3 harg3 arg4 harg4 arg5 harg5 arg6 harg6 arg7 harg7 x0 x1 x2 x3, kernelRun0_A.sl.r_43 c i arg3 harg3 arg4 harg4 arg5 harg5 arg6 harg6 arg7 harg7 x0 x1 x2 x3, kernelRun0_A.sl.r_44 c i arg3 harg3 arg4 harg4 arg5 harg5 arg6 harg6 arg7 harg7 x0 x1 x2 x3, kernelRun0_A.sl.r_45 c i arg3 harg3 arg4 harg4 arg5 harg5 arg6 harg6 arg7 harg7 x0 x1 x2 x3, kernelRun0_A.sl.r_46 c i arg3 harg3 arg4 harg4 arg5 harg5 arg6 harg6 arg7 harg7 x0 x1 x2 x3, kernelRun0_A.sl.r_47 c i arg3 harg3 arg4 harg4 arg5 harg5 arg6 harg6 arg7 harg7 x0 x1 x2 x3, kernelRun0_A.sl.r_48 c i arg3 harg3 arg4 harg4 arg5 harg5 arg6 harg6 arg7 harg7 x0 x1 x2 x3, kernelRun0_A.sl.r_49 c i arg3 harg3 arg4 harg4 arg5 harg5 arg6 harg6 arg7 harg7 x0 x1 x2 x3, kernelRun0_A.sl.r_50 c i arg3 harg3 arg4 harg4 arg5 harg5 arg6 harg6 arg7 harg7 x0 x1 x2 x3, kernelRun0_A.sl.r_51 c i arg3 harg3 arg4 harg4 arg5 harg5 arg6 harg6 arg7 harg7 x0 x1 x2 x3, kernelRun0_A.sl.r_52 c i arg3 harg3 arg4 harg4 arg5 harg5 arg6 harg6 arg7 harg7 x0 x1 x2 x3, kernelRun0_A.sl.r_53 c i arg3 harg3 arg4 harg4 arg5 harg5 arg6 harg6 arg7 harg7 x0 x1 x2 x3, kernelRun0_A.sl.r_54 c i arg3 harg3 arg4 harg4 arg5 harg5 arg6 harg6 arg7 harg7 x0 x1 x2 x3, kernelRun0_A.sl.r_55 c i arg3 harg3 arg4 harg4 arg5 harg5 arg6 harg6 arg7 harg7 x0 x1 x2 x3, kernelRun0_A.sl.r_56 c i arg3 harg3 arg4 harg4 arg5 harg5 arg6 harg6 arg7 harg7 x0 x1 x2 x3, kernelRun0_A.sl.r_57 c i arg3 harg3 arg4 harg4 arg5 harg5 arg6 harg6 arg7 harg7 x0 x1 x2 x3, kernelRun0_A.sl.r_58 c i arg3 harg3 arg4 harg4 arg5 harg5 arg6 harg6 arg7 harg7 x0 x1 x2 x3, kernelRun0_A.sl.r_59 c i arg3 harg3 arg4 harg4 arg5 harg5 arg6 harg6 arg7 harg7 x0 x1 x2 x3, kernelRun0_A.sl.r_60 c i arg3 harg3 arg4 harg4 arg5 harg5 arg6 harg6 arg7 harg7 x0 x1 x2 x3, kernelRun0_A.sl.r_61 c i arg3 harg3 arg4 harg4 arg5 harg5 arg6 harg6 arg7 harg7 x0 x1 x2 x3, kernelRun0_A.sl.r_62 c i arg3 harg3 arg4 harg4 arg5 harg5 arg6 harg6 arg7 harg7 x0 x1 x2 x3, kernelRun0_A.sl.r_63 c i arg3 harg3 arg4 harg4 arg5 harg5 arg6 harg6 arg7 harg7 x0 x1 x2 x3, kernelRun0_A.sl.r_64 c i arg3 harg3 arg4 harg4 arg5 harg5 arg6 harg6 arg7 harg7 x0 x1 x2 x3, kernelRun0_A.sl.r_65 c i arg3 harg3 arg4 harg4 arg5 harg5 arg6 harg6 arg7 harg7 x0 x1 x2 x3)

theorem middle_eq : middle c i arg3 harg3 arg4 harg4 arg5 harg5 arg6 harg6 arg7 harg7 x0 x1 x2 x3 = pack fun h => blocks (qOf x0) x1 x2 x3 h (own (qOf x0 h) (tileK x1 (i 2).val h) (tileV x2 (i 2).val h)) (4 * ((i 2).val / 4)) := by
  obtain ⟨a0, a1, a2, a3, a4, a5, a6, a7, a8, a9, a10, a11, a12, a13, a14, a15, a16, a17, a18, a19, a20, a21, a22, a23⟩ := middle_parts c i arg3 harg3 arg4 harg4 arg5 harg5 arg6 harg6 arg7 harg7 x0 x1 x2 x3
  refine Eq.trans ?_ ((parts _).trans ((afterB_eq c i arg3 harg3 arg4 harg4 arg5 harg5 arg6 harg6 arg7 harg7 x0 x1 x2 x3).trans (afterA_eq c i arg3 harg3 arg4 harg4 arg5 harg5 arg6 harg6 arg7 harg7 x0 x1 x2 x3)))
  unfold middle
  rw [a0, a1, a2, a3, a4, a5, a6, a7, a8, a9, a10, a11, a12, a13, a14, a15, a16, a17, a18, a19, a20, a21, a22, a23]

/-- The state after the third loop: all past blocks. -/
def afterC : Carry F :=
  st_k0_t3 Variants.none c none i arg3 harg3 arg4 harg4 arg5 harg5 arg6 harg6 arg7 harg7 (BitVec.ofNat 32 ↑(i 2)) (kernelRun0_A.sl.r c arg3 harg3 x0) (kernelRun0_A.sl.r_1 c arg3 harg3 x0) (kernelRun0_A.sl.r_2 c arg3 harg3 x0) (kernelRun0_A.sl.r_3 c arg3 harg3 x0) (kernelRun0_A.sl.r_4 c arg3 harg3 x0) (kernelRun0_A.sl.r_5 c arg3 harg3 x0) (kernelRun0_A.sl.r_6 c arg3 harg3 x0) (kernelRun0_A.sl.r_7 c arg3 harg3 x0) (kernelRun0_A.sl.r_42 c i arg3 harg3 arg4 harg4 arg5 harg5 arg6 harg6 arg7 harg7 x0 x1 x2 x3) (kernelRun0_A.sl.r_43 c i arg3 harg3 arg4 harg4 arg5 harg5 arg6 harg6 arg7 harg7 x0 x1 x2 x3) (kernelRun0_A.sl.r_44 c i arg3 harg3 arg4 harg4 arg5 harg5 arg6 harg6 arg7 harg7 x0 x1 x2 x3) (kernelRun0_A.sl.r_45 c i arg3 harg3 arg4 harg4 arg5 harg5 arg6 harg6 arg7 harg7 x0 x1 x2 x3) (kernelRun0_A.sl.r_46 c i arg3 harg3 arg4 harg4 arg5 harg5 arg6 harg6 arg7 harg7 x0 x1 x2 x3) (kernelRun0_A.sl.r_47 c i arg3 harg3 arg4 harg4 arg5 harg5 arg6 harg6 arg7 harg7 x0 x1 x2 x3) (kernelRun0_A.sl.r_48 c i arg3 harg3 arg4 harg4 arg5 harg5 arg6 harg6 arg7 harg7 x0 x1 x2 x3) (kernelRun0_A.sl.r_49 c i arg3 harg3 arg4 harg4 arg5 harg5 arg6 harg6 arg7 harg7 x0 x1 x2 x3) (kernelRun0_A.sl.r_50 c i arg3 harg3 arg4 harg4 arg5 harg5 arg6 harg6 arg7 harg7 x0 x1 x2 x3) (kernelRun0_A.sl.r_51 c i arg3 harg3 arg4 harg4 arg5 harg5 arg6 harg6 arg7 harg7 x0 x1 x2 x3) (kernelRun0_A.sl.r_52 c i arg3 harg3 arg4 harg4 arg5 harg5 arg6 harg6 arg7 harg7 x0 x1 x2 x3) (kernelRun0_A.sl.r_53 c i arg3 harg3 arg4 harg4 arg5 harg5 arg6 harg6 arg7 harg7 x0 x1 x2 x3) (kernelRun0_A.sl.r_54 c i arg3 harg3 arg4 harg4 arg5 harg5 arg6 harg6 arg7 harg7 x0 x1 x2 x3) (kernelRun0_A.sl.r_55 c i arg3 harg3 arg4 harg4 arg5 harg5 arg6 harg6 arg7 harg7 x0 x1 x2 x3) (kernelRun0_A.sl.r_56 c i arg3 harg3 arg4 harg4 arg5 harg5 arg6 harg6 arg7 harg7 x0 x1 x2 x3) (kernelRun0_A.sl.r_57 c i arg3 harg3 arg4 harg4 arg5 harg5 arg6 harg6 arg7 harg7 x0 x1 x2 x3) (kernelRun0_A.sl.r_58 c i arg3 harg3 arg4 harg4 arg5 harg5 arg6 harg6 arg7 harg7 x0 x1 x2 x3) (kernelRun0_A.sl.r_59 c i arg3 harg3 arg4 harg4 arg5 harg5 arg6 harg6 arg7 harg7 x0 x1 x2 x3) (kernelRun0_A.sl.r_60 c i arg3 harg3 arg4 harg4 arg5 harg5 arg6 harg6 arg7 harg7 x0 x1 x2 x3) (kernelRun0_A.sl.r_61 c i arg3 harg3 arg4 harg4 arg5 harg5 arg6 harg6 arg7 harg7 x0 x1 x2 x3) (kernelRun0_A.sl.r_62 c i arg3 harg3 arg4 harg4 arg5 harg5 arg6 harg6 arg7 harg7 x0 x1 x2 x3) (kernelRun0_A.sl.r_63 c i arg3 harg3 arg4 harg4 arg5 harg5 arg6 harg6 arg7 harg7 x0 x1 x2 x3) (kernelRun0_A.sl.r_64 c i arg3 harg3 arg4 harg4 arg5 harg5 arg6 harg6 arg7 harg7 x0 x1 x2 x3) (kernelRun0_A.sl.r_65 c i arg3 harg3 arg4 harg4 arg5 harg5 arg6 harg6 arg7 harg7 x0 x1 x2 x3) (4#32) (kernelRun0_A.sl.v187 i) (kernelRun0_A.sl.v192 i) (1#32) (0#32) (kernelRun0_A.sl.v204 i) (harg4.unread x1) (harg5.unread x2) (harg6.unread x3)
    (kernelRun0_A.sl.r_42 c i arg3 harg3 arg4 harg4 arg5 harg5 arg6 harg6 arg7 harg7 x0 x1 x2 x3, kernelRun0_A.sl.r_43 c i arg3 harg3 arg4 harg4 arg5 harg5 arg6 harg6 arg7 harg7 x0 x1 x2 x3, kernelRun0_A.sl.r_44 c i arg3 harg3 arg4 harg4 arg5 harg5 arg6 harg6 arg7 harg7 x0 x1 x2 x3, kernelRun0_A.sl.r_45 c i arg3 harg3 arg4 harg4 arg5 harg5 arg6 harg6 arg7 harg7 x0 x1 x2 x3, kernelRun0_A.sl.r_46 c i arg3 harg3 arg4 harg4 arg5 harg5 arg6 harg6 arg7 harg7 x0 x1 x2 x3, kernelRun0_A.sl.r_47 c i arg3 harg3 arg4 harg4 arg5 harg5 arg6 harg6 arg7 harg7 x0 x1 x2 x3, kernelRun0_A.sl.r_48 c i arg3 harg3 arg4 harg4 arg5 harg5 arg6 harg6 arg7 harg7 x0 x1 x2 x3, kernelRun0_A.sl.r_49 c i arg3 harg3 arg4 harg4 arg5 harg5 arg6 harg6 arg7 harg7 x0 x1 x2 x3, kernelRun0_A.sl.r_50 c i arg3 harg3 arg4 harg4 arg5 harg5 arg6 harg6 arg7 harg7 x0 x1 x2 x3, kernelRun0_A.sl.r_51 c i arg3 harg3 arg4 harg4 arg5 harg5 arg6 harg6 arg7 harg7 x0 x1 x2 x3, kernelRun0_A.sl.r_52 c i arg3 harg3 arg4 harg4 arg5 harg5 arg6 harg6 arg7 harg7 x0 x1 x2 x3, kernelRun0_A.sl.r_53 c i arg3 harg3 arg4 harg4 arg5 harg5 arg6 harg6 arg7 harg7 x0 x1 x2 x3, kernelRun0_A.sl.r_54 c i arg3 harg3 arg4 harg4 arg5 harg5 arg6 harg6 arg7 harg7 x0 x1 x2 x3, kernelRun0_A.sl.r_55 c i arg3 harg3 arg4 harg4 arg5 harg5 arg6 harg6 arg7 harg7 x0 x1 x2 x3, kernelRun0_A.sl.r_56 c i arg3 harg3 arg4 harg4 arg5 harg5 arg6 harg6 arg7 harg7 x0 x1 x2 x3, kernelRun0_A.sl.r_57 c i arg3 harg3 arg4 harg4 arg5 harg5 arg6 harg6 arg7 harg7 x0 x1 x2 x3, kernelRun0_A.sl.r_58 c i arg3 harg3 arg4 harg4 arg5 harg5 arg6 harg6 arg7 harg7 x0 x1 x2 x3, kernelRun0_A.sl.r_59 c i arg3 harg3 arg4 harg4 arg5 harg5 arg6 harg6 arg7 harg7 x0 x1 x2 x3, kernelRun0_A.sl.r_60 c i arg3 harg3 arg4 harg4 arg5 harg5 arg6 harg6 arg7 harg7 x0 x1 x2 x3, kernelRun0_A.sl.r_61 c i arg3 harg3 arg4 harg4 arg5 harg5 arg6 harg6 arg7 harg7 x0 x1 x2 x3, kernelRun0_A.sl.r_62 c i arg3 harg3 arg4 harg4 arg5 harg5 arg6 harg6 arg7 harg7 x0 x1 x2 x3, kernelRun0_A.sl.r_63 c i arg3 harg3 arg4 harg4 arg5 harg5 arg6 harg6 arg7 harg7 x0 x1 x2 x3, kernelRun0_A.sl.r_64 c i arg3 harg3 arg4 harg4 arg5 harg5 arg6 harg6 arg7 harg7 x0 x1 x2 x3, kernelRun0_A.sl.r_65 c i arg3 harg3 arg4 harg4 arg5 harg5 arg6 harg6 arg7 harg7 x0 x1 x2 x3)
    (Scf.trips (k0_t3_loop i).lb (k0_t3_loop i).ub (k0_t3_loop i).st)

/-- The last state the loops reach. -/
def last : Carry F :=
  st_k0_t4 Variants.none c none i arg3 harg3 arg4 harg4 arg5 harg5 arg6 harg6 arg7 harg7 (BitVec.ofNat 32 ↑(i 2)) (kernelRun0_A.sl.r c arg3 harg3 x0) (kernelRun0_A.sl.r_1 c arg3 harg3 x0) (kernelRun0_A.sl.r_2 c arg3 harg3 x0) (kernelRun0_A.sl.r_3 c arg3 harg3 x0) (kernelRun0_A.sl.r_4 c arg3 harg3 x0) (kernelRun0_A.sl.r_5 c arg3 harg3 x0) (kernelRun0_A.sl.r_6 c arg3 harg3 x0) (kernelRun0_A.sl.r_7 c arg3 harg3 x0) (kernelRun0_A.sl.r_42 c i arg3 harg3 arg4 harg4 arg5 harg5 arg6 harg6 arg7 harg7 x0 x1 x2 x3) (kernelRun0_A.sl.r_43 c i arg3 harg3 arg4 harg4 arg5 harg5 arg6 harg6 arg7 harg7 x0 x1 x2 x3) (kernelRun0_A.sl.r_44 c i arg3 harg3 arg4 harg4 arg5 harg5 arg6 harg6 arg7 harg7 x0 x1 x2 x3) (kernelRun0_A.sl.r_45 c i arg3 harg3 arg4 harg4 arg5 harg5 arg6 harg6 arg7 harg7 x0 x1 x2 x3) (kernelRun0_A.sl.r_46 c i arg3 harg3 arg4 harg4 arg5 harg5 arg6 harg6 arg7 harg7 x0 x1 x2 x3) (kernelRun0_A.sl.r_47 c i arg3 harg3 arg4 harg4 arg5 harg5 arg6 harg6 arg7 harg7 x0 x1 x2 x3) (kernelRun0_A.sl.r_48 c i arg3 harg3 arg4 harg4 arg5 harg5 arg6 harg6 arg7 harg7 x0 x1 x2 x3) (kernelRun0_A.sl.r_49 c i arg3 harg3 arg4 harg4 arg5 harg5 arg6 harg6 arg7 harg7 x0 x1 x2 x3) (kernelRun0_A.sl.r_50 c i arg3 harg3 arg4 harg4 arg5 harg5 arg6 harg6 arg7 harg7 x0 x1 x2 x3) (kernelRun0_A.sl.r_51 c i arg3 harg3 arg4 harg4 arg5 harg5 arg6 harg6 arg7 harg7 x0 x1 x2 x3) (kernelRun0_A.sl.r_52 c i arg3 harg3 arg4 harg4 arg5 harg5 arg6 harg6 arg7 harg7 x0 x1 x2 x3) (kernelRun0_A.sl.r_53 c i arg3 harg3 arg4 harg4 arg5 harg5 arg6 harg6 arg7 harg7 x0 x1 x2 x3) (kernelRun0_A.sl.r_54 c i arg3 harg3 arg4 harg4 arg5 harg5 arg6 harg6 arg7 harg7 x0 x1 x2 x3) (kernelRun0_A.sl.r_55 c i arg3 harg3 arg4 harg4 arg5 harg5 arg6 harg6 arg7 harg7 x0 x1 x2 x3) (kernelRun0_A.sl.r_56 c i arg3 harg3 arg4 harg4 arg5 harg5 arg6 harg6 arg7 harg7 x0 x1 x2 x3) (kernelRun0_A.sl.r_57 c i arg3 harg3 arg4 harg4 arg5 harg5 arg6 harg6 arg7 harg7 x0 x1 x2 x3) (kernelRun0_A.sl.r_58 c i arg3 harg3 arg4 harg4 arg5 harg5 arg6 harg6 arg7 harg7 x0 x1 x2 x3) (kernelRun0_A.sl.r_59 c i arg3 harg3 arg4 harg4 arg5 harg5 arg6 harg6 arg7 harg7 x0 x1 x2 x3) (kernelRun0_A.sl.r_60 c i arg3 harg3 arg4 harg4 arg5 harg5 arg6 harg6 arg7 harg7 x0 x1 x2 x3) (kernelRun0_A.sl.r_61 c i arg3 harg3 arg4 harg4 arg5 harg5 arg6 harg6 arg7 harg7 x0 x1 x2 x3) (kernelRun0_A.sl.r_62 c i arg3 harg3 arg4 harg4 arg5 harg5 arg6 harg6 arg7 harg7 x0 x1 x2 x3) (kernelRun0_A.sl.r_63 c i arg3 harg3 arg4 harg4 arg5 harg5 arg6 harg6 arg7 harg7 x0 x1 x2 x3) (kernelRun0_A.sl.r_64 c i arg3 harg3 arg4 harg4 arg5 harg5 arg6 harg6 arg7 harg7 x0 x1 x2 x3) (kernelRun0_A.sl.r_65 c i arg3 harg3 arg4 harg4 arg5 harg5 arg6 harg6 arg7 harg7 x0 x1 x2 x3) (4#32) (kernelRun0_A.sl.v187 i) (kernelRun0_A.sl.v192 i) (1#32) (0#32) (kernelRun0_A.sl.v209 i) (harg4.unread x1) (harg5.unread x2) (harg6.unread x3)
    ((afterC c i arg3 harg3 arg4 harg4 arg5 harg5 arg6 harg6 arg7 harg7 x0 x1 x2 x3).1, (afterC c i arg3 harg3 arg4 harg4 arg5 harg5 arg6 harg6 arg7 harg7 x0 x1 x2 x3).2.1, (afterC c i arg3 harg3 arg4 harg4 arg5 harg5 arg6 harg6 arg7 harg7 x0 x1 x2 x3).2.2.1, (afterC c i arg3 harg3 arg4 harg4 arg5 harg5 arg6 harg6 arg7 harg7 x0 x1 x2 x3).2.2.2.1, (afterC c i arg3 harg3 arg4 harg4 arg5 harg5 arg6 harg6 arg7 harg7 x0 x1 x2 x3).2.2.2.2.1, (afterC c i arg3 harg3 arg4 harg4 arg5 harg5 arg6 harg6 arg7 harg7 x0 x1 x2 x3).2.2.2.2.2.1, (afterC c i arg3 harg3 arg4 harg4 arg5 harg5 arg6 harg6 arg7 harg7 x0 x1 x2 x3).2.2.2.2.2.2.1, (afterC c i arg3 harg3 arg4 harg4 arg5 harg5 arg6 harg6 arg7 harg7 x0 x1 x2 x3).2.2.2.2.2.2.2.1, (afterC c i arg3 harg3 arg4 harg4 arg5 harg5 arg6 harg6 arg7 harg7 x0 x1 x2 x3).2.2.2.2.2.2.2.2.1, (afterC c i arg3 harg3 arg4 harg4 arg5 harg5 arg6 harg6 arg7 harg7 x0 x1 x2 x3).2.2.2.2.2.2.2.2.2.1, (afterC c i arg3 harg3 arg4 harg4 arg5 harg5 arg6 harg6 arg7 harg7 x0 x1 x2 x3).2.2.2.2.2.2.2.2.2.2.1, (afterC c i arg3 harg3 arg4 harg4 arg5 harg5 arg6 harg6 arg7 harg7 x0 x1 x2 x3).2.2.2.2.2.2.2.2.2.2.2.1, (afterC c i arg3 harg3 arg4 harg4 arg5 harg5 arg6 harg6 arg7 harg7 x0 x1 x2 x3).2.2.2.2.2.2.2.2.2.2.2.2.1, (afterC c i arg3 harg3 arg4 harg4 arg5 harg5 arg6 harg6 arg7 harg7 x0 x1 x2 x3).2.2.2.2.2.2.2.2.2.2.2.2.2.1, (afterC c i arg3 harg3 arg4 harg4 arg5 harg5 arg6 harg6 arg7 harg7 x0 x1 x2 x3).2.2.2.2.2.2.2.2.2.2.2.2.2.2.1, (afterC c i arg3 harg3 arg4 harg4 arg5 harg5 arg6 harg6 arg7 harg7 x0 x1 x2 x3).2.2.2.2.2.2.2.2.2.2.2.2.2.2.2.1, (afterC c i arg3 harg3 arg4 harg4 arg5 harg5 arg6 harg6 arg7 harg7 x0 x1 x2 x3).2.2.2.2.2.2.2.2.2.2.2.2.2.2.2.2.1, (afterC c i arg3 harg3 arg4 harg4 arg5 harg5 arg6 harg6 arg7 harg7 x0 x1 x2 x3).2.2.2.2.2.2.2.2.2.2.2.2.2.2.2.2.2.1, (afterC c i arg3 harg3 arg4 harg4 arg5 harg5 arg6 harg6 arg7 harg7 x0 x1 x2 x3).2.2.2.2.2.2.2.2.2.2.2.2.2.2.2.2.2.2.1, (afterC c i arg3 harg3 arg4 harg4 arg5 harg5 arg6 harg6 arg7 harg7 x0 x1 x2 x3).2.2.2.2.2.2.2.2.2.2.2.2.2.2.2.2.2.2.2.1, (afterC c i arg3 harg3 arg4 harg4 arg5 harg5 arg6 harg6 arg7 harg7 x0 x1 x2 x3).2.2.2.2.2.2.2.2.2.2.2.2.2.2.2.2.2.2.2.2.1, (afterC c i arg3 harg3 arg4 harg4 arg5 harg5 arg6 harg6 arg7 harg7 x0 x1 x2 x3).2.2.2.2.2.2.2.2.2.2.2.2.2.2.2.2.2.2.2.2.2.1, (afterC c i arg3 harg3 arg4 harg4 arg5 harg5 arg6 harg6 arg7 harg7 x0 x1 x2 x3).2.2.2.2.2.2.2.2.2.2.2.2.2.2.2.2.2.2.2.2.2.2.1, (afterC c i arg3 harg3 arg4 harg4 arg5 harg5 arg6 harg6 arg7 harg7 x0 x1 x2 x3).2.2.2.2.2.2.2.2.2.2.2.2.2.2.2.2.2.2.2.2.2.2.2)
    (Scf.trips (k0_t4_loop i).lb (k0_t4_loop i).ub (k0_t4_loop i).st)

theorem afterC_eq : afterC c i arg3 harg3 arg4 harg4 arg5 harg5 arg6 harg6 arg7 harg7 x0 x1 x2 x3 = pack (fin x0 x1 x2 x3 (i 2).val) := by
  unfold afterC
  refine (loop3 (y := fun h => own (qOf x0 h) (tileK x1 (i 2).val h) (tileV x2 (i 2).val h)) (hinit := (middle_eq c i arg3 harg3 arg4 harg4 arg5 harg5 arg6 harg6 arg7 harg7 x0 x1 x2 x3).trans ?_) (n := (k0_t3_loop i).trips) (hn := le_rfl) ..).trans ?_
  · rw [harg4.read_unread, harg5.read_unread, harg6.read_unread]
    congr 1; funext h
    exact congrArg (fun q => blocks q x1 x2 x3 h (own (qOf x0 h) (tileK x1 (i 2).val h) (tileV x2 (i 2).val h)) _) (rawQ_eq c arg3 harg3 x0).symm
  · rw [harg4.read_unread, harg5.read_unread, harg6.read_unread, trips3, Nat.div_add_mod]
    congr 1; funext h
    exact congrArg (fun q => blocks q x1 x2 x3 h (own (qOf x0 h) (tileK x1 (i 2).val h) (tileV x2 (i 2).val h)) _) (rawQ_eq c arg3 harg3 x0)

theorem last_eq : last c i arg3 harg3 arg4 harg4 arg5 harg5 arg6 harg6 arg7 harg7 x0 x1 x2 x3 = pack (fin x0 x1 x2 x3 (i 2).val) := by
  unfold last
  exact ((loop4 ..).trans (parts _)).trans (afterC_eq c i arg3 harg3 arg4 harg4 arg5 harg5 arg6 harg6 arg7 harg7 x0 x1 x2 x3)

end Cert.Attn

end
-- ==== Proof.Stores.lean ====
module

public import proofs.«01_k».proof.Proof.Last

@[expose] public section

set_option maxRecDepth 65536
set_option maxHeartbeats 200000

noncomputable section

/-! What one grid point stores: for each head the quotient of the accumulator by the sum. -/

namespace Cert.Attn

open Idealize.ShloMosaic Idealize.SL.Sem Cert.KernelIdeal Cert.KernelIdeal.Gen

variable {F : FTy → Type} [FloatOps F]

variable (c : Dev nD) (i : grid0.Coords)
  (arg3 : Memref sig .tc .vmem S1x1x8x128x256 .bf16) (harg3 : arg3.IsWhole)
  (arg4 : Memref sig .tc .vmem S1x16x8x256x128 .bf16) (harg4 : arg4.IsWhole)
  (arg5 : Memref sig .tc .vmem S1x16x8x128x256 .bf16) (harg5 : arg5.IsWhole)
  (arg6 : Memref sig .tc .vmem S1x1x8x16x256 .f32) (harg6 : arg6.IsWhole)
  (arg7 : Memref sig .tc .vmem S1x256x1024 .bf16) (harg7 : arg7.IsWhole)
  (x0 : Vec F S1x1x8x128x256 .bf16) (x1 : Vec F S1x16x8x256x128 .bf16) (x2 : Vec F S1x16x8x128x256 .bf16)
  (x3 : Vec F S1x1x8x16x256 .f32)

/-- What the stores write, head by head, from the state the loops end in. -/
def stores (Y : Carry F) : List (View.Piece (Elt F) S1x256x1024 .bf16) :=
  [⟨Rect.unit (s := S1x256x1024) ![0, 0, 896] S1x256x128.size inb_S1x256x1024_S1x256x128_0_0_896, headOut (unpack Y 7)⟩,
   ⟨Rect.unit (s := S1x256x1024) ![0, 0, 768] S1x256x128.size inb_S1x256x1024_S1x256x128_0_0_768, headOut (unpack Y 6)⟩,
   ⟨Rect.unit (s := S1x256x1024) ![0, 0, 640] S1x256x128.size inb_S1x256x1024_S1x256x128_0_0_640, headOut (unpack Y 5)⟩,
   ⟨Rect.unit (s := S1x256x1024) ![0, 0, 512] S1x256x128.size inb_S1x256x1024_S1x256x128_0_0_512, headOut (unpack Y 4)⟩,
   ⟨Rect.unit (s := S1x256x1024) ![0, 0, 384] S1x256x128.size inb_S1x256x1024_S1x256x128_0_0_384, headOut (unpack Y 3)⟩,
   ⟨Rect.unit (s := S1x256x1024) ![0, 0, 256] S1x256x128.size inb_S1x256x1024_S1x256x128_0_0_256, headOut (unpack Y 2)⟩,
   ⟨Rect.unit (s := S1x256x1024) ![0, 0, 128] S1x256x128.size inb_S1x256x1024_S1x256x128_0_0_128, headOut (unpack Y 1)⟩,
   ⟨Rect.unit (s := S1x256x1024) ![0, 0, 0] S1x256x128.size inb_S1x256x1024_S1x256x128_0_0_0, headOut (unpack Y 0)⟩]

/-- The same stores, in the body's own words. -/
def rawStores (Y : Carry F) : List (View.Piece (Elt F) S1x256x1024 .bf16) :=
  [⟨Rect.unit (s := S1x256x1024) ![0, 0, 896] ![1, 256, 128] inb_S1x256x1024_S1x256x128_0_0_896, k0_pay5 (Y.2.2.2.2.2.2.2.2.2.2.2.2.2.2.2.1) (Y.2.2.2.2.2.2.2.2.2.2.2.2.2.2.2.2.2.2.2.2.2.2.2)⟩,
   ⟨Rect.unit (s := S1x256x1024) ![0, 0, 768] ![1, 256, 128] inb_S1x256x1024_S1x256x128_0_0_768, k0_pay4 (Y.2.2.2.2.2.2.2.2.2.2.2.2.2.2.1) (Y.2.2.2.2.2.2.2.2.2.2.2.2.2.2.2.2.2.2.2.2.2.2.1)⟩,
   ⟨Rect.unit (s := S1x256x1024) ![0, 0, 640] ![1, 256, 128] inb_S1x256x1024_S1x256x128_0_0_640, k0_pay3 (Y.2.2.2.2.2.2.2.2.2.2.2.2.2.1) (Y.2.2.2.2.2.2.2.2.2.2.2.2.2.2.2.2.2.2.2.2.2.1)⟩,
   ⟨Rect.unit (s := S1x256x1024) ![0, 0, 512] ![1, 256, 128] inb_S1x256x1024_S1x256x128_0_0_512, k0_pay2 (Y.2.2.2.2.2.2.2.2.2.2.2.2.1) (Y.2.2.2.2.2.2.2.2.2.2.2.2.2.2.2.2.2.2.2.2.1)⟩,
   ⟨Rect.unit (s := S1x256x1024) ![0, 0, 384] ![1, 256, 128] inb_S1x256x1024_S1x256x128_0_0_384, k0_pay1 (k0_pay693 (Y.2.2.2.2.2.2.2.2.2.2.2.1) (Y.2.2.2.2.2.2.2.2.2.2.2.2.2.2.2.2.2.2.2.1))⟩,
   ⟨Rect.unit (s := S1x256x1024) ![0, 0, 256] S1x256x128.size inb_S1x256x1024_S1x256x128_0_0_256, k0_pay692 (Y.2.2.2.2.2.2.2.2.2.2.1) (Y.2.2.2.2.2.2.2.2.2.2.2.2.2.2.2.2.2.2.1)⟩,
   ⟨Rect.unit (s := S1x256x1024) ![0, 0, 128] S1x256x128.size inb_S1x256x1024_S1x256x128_0_0_128, k0_pay691 (Y.2.2.2.2.2.2.2.2.2.1) (Y.2.2.2.2.2.2.2.2.2.2.2.2.2.2.2.2.2.1)⟩,
   ⟨Rect.unit (s := S1x256x1024) ![0, 0, 0] S1x256x128.size inb_S1x256x1024_S1x256x128_0_0_0, k0_pay690 (Y.2.2.2.2.2.2.2.2.1) (Y.2.2.2.2.2.2.2.2.2.2.2.2.2.2.2.2.1)⟩]

theorem rawStores_eq (Y : Carry F) : rawStores Y = stores Y := rfl

/-- The parts of the last state the stores use by name. -/
theorem last_parts :
    kernelRun0_A.sl.r_66 c i arg3 harg3 arg4 harg4 arg5 harg5 arg6 harg6 arg7 harg7 x0 x1 x2 x3 = (last c i arg3 harg3 arg4 harg4 arg5 harg5 arg6 harg6 arg7 harg7 x0 x1 x2 x3).2.2.2.2.2.2.2.2.2.2.2.2.1
    ∧ kernelRun0_A.sl.r_67 c i arg3 harg3 arg4 harg4 arg5 harg5 arg6 harg6 arg7 harg7 x0 x1 x2 x3 = (last c i arg3 harg3 arg4 harg4 arg5 harg5 arg6 harg6 arg7 harg7 x0 x1 x2 x3).2.2.2.2.2.2.2.2.2.2.2.2.2.1
    ∧ kernelRun0_A.sl.r_68 c i arg3 harg3 arg4 harg4 arg5 harg5 arg6 harg6 arg7 harg7 x0 x1 x2 x3 = (last c i arg3 harg3 arg4 harg4 arg5 harg5 arg6 harg6 arg7 harg7 x0 x1 x2 x3).2.2.2.2.2.2.2.2.2.2.2.2.2.2.1
    ∧ kernelRun0_A.sl.r_69 c i arg3 harg3 arg4 harg4 arg5 harg5 arg6 harg6 arg7 harg7 x0 x1 x2 x3 = (last c i arg3 harg3 arg4 harg4 arg5 harg5 arg6 harg6 arg7 harg7 x0 x1 x2 x3).2.2.2.2.2.2.2.2.2.2.2.2.2.2.2.1
    ∧ kernelRun0_A.sl.r_70 c i arg3 harg3 arg4 harg4 arg5 harg5 arg6 harg6 arg7 harg7 x0 x1 x2 x3 = (last c i arg3 harg3 arg4 harg4 arg5 harg5 arg6 harg6 arg7 harg7 x0 x1 x2 x3).2.2.2.2.2.2.2.2.2.2.2.2.2.2.2.2.2.2.2.2.1
    ∧ kernelRun0_A.sl.r_71 c i arg3 harg3 arg4 harg4 arg5 harg5 arg6 harg6 arg7 harg7 x0 x1 x2 x3 = (last c i arg3 harg3 arg4 harg4 arg5 harg5 arg6 harg6 arg7 harg7 x0 x1 x2 x3).2.2.2.2.2.2.2.2.2.2.2.2.2.2.2.2.2.2.2.2.2.1
    ∧ kernelRun0_A.sl.r_72 c i arg3 harg3 arg4 harg4 arg5 harg5 arg6 harg6 arg7 harg7 x0 x1 x2 x3 = (last c i arg3 harg3 arg4 harg4 arg5 harg5 arg6 harg6 arg7 harg7 x0 x1 x2 x3).2.2.2.2.2.2.2.2.2.2.2.2.2.2.2.2.2.2.2.2.2.2.1
    ∧ kernelRun0_A.sl.r_73 c i arg3 harg3 arg4 harg4 arg5 harg5 arg6 harg6 arg7 harg7 x0 x1 x2 x3 = (last c i arg3 harg3 arg4 harg4 arg5 harg5 arg6 harg6 arg7 harg7 x0 x1 x2 x3).2.2.2.2.2.2.2.2.2.2.2.2.2.2.2.2.2.2.2.2.2.2.2
    ∧ kernelRun0_A.sl.r_74 c i arg3 harg3 arg4 harg4 arg5 harg5 arg6 harg6 arg7 harg7 x0 x1 x2 x3 = k0_pay693 ((last c i arg3 harg3 arg4 harg4 arg5 harg5 arg6 harg6 arg7 harg7 x0 x1 x2 x3).2.2.2.2.2.2.2.2.2.2.2.1) ((last c i arg3 harg3 arg4 harg4 arg5 harg5 arg6 harg6 arg7 harg7 x0 x1 x2 x3).2.2.2.2.2.2.2.2.2.2.2.2.2.2.2.2.2.2.2.1) := by
  refine ⟨?_, ?_, ?_, ?_, ?_, ?_, ?_, ?_, ?_⟩
  · unfold kernelRun0_A.sl.r_66 last afterC; with_reducible rfl
  · unfold kernelRun0_A.sl.r_67 last afterC; with_reducible rfl
  · unfold kernelRun0_A.sl.r_68 last afterC; with_reducible rfl
  · unfold kernelRun0_A.sl.r_69 last afterC; with_reducible rfl
  · unfold kernelRun0_A.sl.r_70 last afterC; with_reducible rfl
  · unfold kernelRun0_A.sl.r_71 last afterC; with_reducible rfl
  · unfold kernelRun0_A.sl.r_72 last afterC; with_reducible rfl
  · unfold kernelRun0_A.sl.r_73 last afterC; with_reducible rfl
  · unfold kernelRun0_A.sl.r_74 last afterC; with_reducible rfl

/-- A grid point's stores. -/
theorem run_stores : (kernelRun0_A c i arg3 harg3 arg4 harg4 arg5 harg5 arg6 harg6 arg7 harg7 x0 x1 x2 x3).1 = stores (pack (fin x0 x1 x2 x3 (i 2).val)) := by
  rw [← last_eq c i arg3 harg3 arg4 harg4 arg5 harg5 arg6 harg6 arg7 harg7 x0 x1 x2 x3, ← rawStores_eq]
  obtain ⟨h1, h2, h3, h4, h5, h6, h7, h8, h9⟩ := last_parts c i arg3 harg3 arg4 harg4 arg5 harg5 arg6 harg6 arg7 harg7 x0 x1 x2 x3
  unfold kernelRun0_A rawStores
  dsimp only
  rw [h1, h2, h3, h4, h5, h6, h7, h8, h9]
  unfold last afterC
  with_reducible rfl

end Cert.Attn

end
-- ==== Proof.Words.lean ====
module

public import Idealize.ShloMosaic.Lib.Pointwise
public import Idealize.ShloMosaic.Lib.WordCmp

@[expose] public section

noncomputable section

/-! Masks of 32-bit words read as propositions, and the two infinite constants. -/

namespace Cert.Attn

open Idealize.ShloMosaic Idealize.ShloMosaic.WordCmp

theorem ofBits_bot : Ideal.ofBits .f32 0xFF800000#32 = ⊥ := by
  show Ideal.ieee 8 23 0xFF800000#32 = ⊥
  unfold Ideal.ieee
  rw [if_pos (by decide), if_pos (by decide), if_pos (by decide)]

theorem ofBits_top : Ideal.ofBits .f32 0x7F800000#32 = ⊤ := by
  show Ideal.ieee 8 23 0x7F800000#32 = ⊤
  unfold Ideal.ieee
  rw [if_pos (by decide), if_pos (by decide), if_neg (by decide)]

theorem toNat_small {a : ℕ} (ha : a < 2 ^ 31) : (BitVec.ofNat 32 a).toNat = a := by
  rw [BitVec.toNat_ofNat]; omega

theorem sle_word {a b : ℕ} (ha : a < 2 ^ 31) (hb : b < 2 ^ 31) :
    IntOp.cmpi .sle (BitVec.ofNat 32 a) (BitVec.ofNat 32 b) = BitVec.ofBool (decide (a ≤ b)) := by
  rw [cmpi_sle_of_lt (by rw [toNat_small ha]; omega) (by rw [toNat_small hb]; omega), toNat_small ha, toNat_small hb]

theorem slt_word {a b : ℕ} (ha : a < 2 ^ 31) (hb : b < 2 ^ 31) :
    IntOp.cmpi .slt (BitVec.ofNat 32 a) (BitVec.ofNat 32 b) = BitVec.ofBool (decide (a < b)) := by
  rw [cmpi_slt_of_lt (by rw [toNat_small ha]; omega) (by rw [toNat_small hb]; omega), toNat_small ha, toNat_small hb]

theorem eq_word {a b : ℕ} (ha : a < 2 ^ 31) (hb : b < 2 ^ 31) :
    IntOp.cmpi .eq (BitVec.ofNat 32 a) (BitVec.ofNat 32 b) = BitVec.ofBool (decide (a = b)) := by
  rw [cmpi_eq_eq_toNat, toNat_small ha, toNat_small hb]

theorem select_ofBool {α : Type} (p : Prop) [Decidable p] (a b : α) :
    Scalar.select (BitVec.ofBool (decide p)) a b = if p then a else b := by
  by_cases h : p <;> simp [h, Scalar.select]

end Cert.Attn

end
-- ==== Proof.Apply.lean ====
module

public import proofs.«01_k».proof.Proof.Step
public import proofs.«01_k».proof.Proof.Words
public import Idealize.ShloMosaic.Lib.Pointwise

@[expose] public section

set_option maxRecDepth 16384

noncomputable section

/-! The operations of one head's step, read at an index over the extended reals. -/

namespace Cert.Attn

open Idealize.ShloMosaic Idealize.SL.Sem Cert.KernelIdeal Cert.KernelIdeal.Gen

variable (r c : Fin 256) (d : Fin 128)

theorem row_apply (b : Vec Ideal S1x1x1x1x256 .f32) : row b (ix2 0 r) = b (ix5 0 0 0 0 r) := by
  pointwise [row]

theorem score_apply (q : FVec Ideal S128x256 .bf16) (k : Vec Ideal S1x1x1x256x128 .bf16) :
    score q k (ix2 c r) = ∑ e : Fin 128, k (ix5 0 0 0 c e) * q (ix2 e r) := by
  pointwise [score]

theorem colMax_apply (s : FVec Ideal S256x256 .f32) :
    colMax s (ix2 0 r) = Finset.univ.fold max ⊥ fun k : Fin 256 => s (ix2 k r) := by
  pointwise [colMax]
  rw [ofBits_bot]

theorem colSum_apply (s : FVec Ideal S256x256 .f32) : colSum s (ix2 0 r) = ∑ k : Fin 256, s (ix2 k r) := by
  pointwise [colSum]

theorem mix_apply (v : Vec Ideal S1x1x1x128x256 .bf16) (p : FVec Ideal S256x256 .f32) :
    mix v p (ix2 d r) = ∑ k : Fin 256, v (ix5 0 0 0 d k) * p (ix2 k r) := by
  pointwise [mix]

theorem newMax_apply (m : FVec Ideal S1x256 .f32) (s : FVec Ideal S256x256 .f32) (b : FVec Ideal S1x256 .f32) :
    newMax m s b (ix2 0 r) = if b (ix2 0 r) = 0 then max (m (ix2 0 r)) (colMax s (ix2 0 r)) else m (ix2 0 r) := by
  pointwise [newMax]

theorem past_apply (s : FVec Ideal S256x256 .f32) (m b : FVec Ideal S1x256 .f32) :
    past s m b (ix2 c r) = Ideal.exp2 (s (ix2 c r) - (m (ix2 0 r) - b (ix2 0 r))) := by
  pointwise [past]
  rfl

theorem ownScore_apply (q : FVec Ideal S128x256 .bf16) (k : Vec Ideal S1x1x1x256x128 .bf16) :
    ownScore q k (ix2 c r) = if c.val ≤ r.val then score q k (ix2 c r) else ⊥ := by
  pointwise [ownScore]
  rw [sle_word (by omega) (by omega), select_ofBool, ofBits_bot]

theorem ownWeight_apply (q : FVec Ideal S128x256 .bf16) (k : Vec Ideal S1x1x1x256x128 .bf16) :
    ownWeight q k (ix2 c r) = Ideal.exp2 (ownScore q k (ix2 c r) - colMax (ownScore q k) (ix2 0 r)) := by
  pointwise [ownWeight]
  rfl

end Cert.Attn

end
-- ==== Proof.Softmax.lean ====
/-
  The arithmetic of one query against its keys, over the extended reals: a running softmax in base two (a maximum,
  a weight and a weighted value, rescaled when the maximum grows) reaches the quotient `(∑ 2^s v) / (∑ 2^s)` over
  the keys seen, and the softmax in base `e` of the scores times `ln 2` is the same quotient. The values `v` are any
  extended reals; the scores are real.
-/
module

public import Idealize.ShloMosaic.PureOps.Ideal

@[expose] public section

noncomputable section

namespace Cert.Attn

open Idealize.ShloMosaic

/-- The weight of a key: `2^s` if the query sees it, else nothing. -/
def wt (vis : Prop) [Decidable vis] (s : ℝ) : ℝ := if vis then Real.rpow 2 s else 0

theorem wt_nonneg (vis : Prop) [Decidable vis] (s : ℝ) : 0 ≤ wt vis s := by
  unfold wt; split_ifs
  · exact (Real.rpow_pos_of_pos (by norm_num) s).le
  · exact le_rfl

theorem coe_mul_add {r : ℝ} (hr : 0 ≤ r) (x y : EReal) : (r : EReal) * (x + y) = r * x + r * y :=
  EReal.left_distrib_of_nonneg_of_ne_top (by exact_mod_cast hr) (EReal.coe_ne_top r) x y

theorem coe_mul_sum {ι : Type*} (t : Finset ι) {r : ℝ} (hr : 0 ≤ r) (f : ι → EReal) :
    (r : EReal) * ∑ i ∈ t, f i = ∑ i ∈ t, (r : EReal) * f i := by
  classical
  induction t using Finset.induction_on with
  | empty => simp
  | insert a t ha ih => rw [Finset.sum_insert ha, Finset.sum_insert ha, coe_mul_add hr, ih]

theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The greatest of finitely many scores, some real and none above every real, is real and bounds them. -/
theorem fold_max_real {n : ℕ} (f : Fin n → EReal) (hf : ∀ k, f k ≠ ⊤) (k0 : Fin n) (h0 : f k0 ≠ ⊥) :
    ∃ μ : ℝ, Finset.univ.fold max ⊥ f = (μ : EReal) := by
  have e : Finset.univ.fold max ⊥ f = Finset.univ.sup f := rfl
  rw [e]
  have h1 : Finset.univ.sup f ≠ ⊤ := by
    refine ne_of_lt ((Finset.sup_lt_iff (by exact bot_lt_top)).2 fun k _ => lt_of_le_of_ne le_top (hf k))
  have h2 : Finset.univ.sup f ≠ ⊥ := fun h =>
    h0 (le_bot_iff.1 (h ▸ Finset.le_sup (f := f) (Finset.mem_univ k0)))
  exact ⟨_, (EReal.coe_toReal h1 h2).symm⟩

theorem exp2_sub_coe (s μ : ℝ) :
    Ideal.exp2 ((s : EReal) - (μ : EReal)) = ((Real.rpow 2 (-μ) * Real.rpow 2 s : ℝ) : EReal) := by
  rw [← EReal.coe_sub, Ideal.exp2_coe]
  congr 1
  rw [Real.rpow_eq_pow, Real.rpow_eq_pow, Real.rpow_eq_pow, ← Real.rpow_add (by norm_num)]
  congr 1; ring

theorem exp2_ite_sub (vis : Prop) [Decidable vis] (s μ : ℝ) :
    Ideal.exp2 ((if vis then (s : EReal) else ⊥) - (μ : EReal)) = ((Real.rpow 2 (-μ) * wt vis s : ℝ) : EReal) := by
  unfold wt
  split_ifs
  · exact exp2_sub_coe s μ
  · rw [EReal.bot_sub]; simp

theorem pow_neg_nonneg (μ : ℝ) : 0 ≤ Real.rpow 2 (-μ) := (Real.rpow_pos_of_pos (by norm_num) _).le

/-- The running state: the maximum is real, the weight and the weighted value are the sums over the keys seen,
    scaled by `2^(-maximum)`. -/
def Inv (m l a : EReal) (W : ℝ) (N : EReal) : Prop :=
  ∃ μ : ℝ, m = (μ : EReal) ∧ l = ((Real.rpow 2 (-μ) * W : ℝ) : EReal) ∧ a = ((Real.rpow 2 (-μ) : ℝ) : EReal) * N

theorem sum_scaled {n : ℕ} (vis : Fin n → Prop) [∀ k, Decidable (vis k)] (s : Fin n → ℝ) (v : Fin n → EReal) (c : ℝ) (hc : 0 ≤ c) :
    ∑ k, v k * ((c * wt (vis k) (s k) : ℝ) : EReal) = (c : EReal) * ∑ k, ((wt (vis k) (s k) : ℝ) : EReal) * v k := by
  rw [coe_mul_sum _ hc]
  refine Finset.sum_congr rfl fun k _ => ?_
  rw [EReal.coe_mul, mul_comm (v k), mul_assoc]

/-- The state after the query's own block, of which it sees the keys `vis`. -/
theorem inv_own {n : ℕ} (vis : Fin n → Prop) [∀ k, Decidable (vis k)] (s : Fin n → ℝ) (v : Fin n → EReal) (k0 : Fin n) (h0 : vis k0)
    (m : EReal) (hm : m = Finset.univ.fold max ⊥ fun k => if vis k then (s k : EReal) else ⊥) :
    Inv m (∑ k, Ideal.exp2 ((if vis k then (s k : EReal) else ⊥) - m))
      (∑ k, v k * Ideal.exp2 ((if vis k then (s k : EReal) else ⊥) - m))
      (∑ k, wt (vis k) (s k)) (∑ k, ((wt (vis k) (s k) : ℝ) : EReal) * v k) := by
  obtain ⟨μ, hμ⟩ := fold_max_real (fun k => if vis k then (s k : EReal) else ⊥)
    (fun k => by split_ifs <;> simp) k0 (by simp [h0])
  rw [hμ] at hm
  subst hm
  refine ⟨μ, rfl, ?_, ?_⟩
  · simp only [exp2_ite_sub]
    rw [Finset.mul_sum, coe_sum]
  · simp only [exp2_ite_sub]
    exact sum_scaled vis s v _ (pow_neg_nonneg μ)

theorem wt_false {vis : Prop} [Decidable vis] (h : ¬ vis) (s : ℝ) : wt vis s = 0 := if_neg h
theorem wt_true {vis : Prop} [Decidable vis] (h : vis) (s : ℝ) : wt vis s = Real.rpow 2 s := if_pos h

/-- The state after one more block, whose bias is zero (the query takes the block) or minus infinity (it does not). -/
theorem inv_step {n : ℕ} (s : Fin n → ℝ) (v : Fin n → EReal) (b : EReal) (hb : b = 0 ∨ b = ⊥) (k0 : Fin n)
    {m l a : EReal} {W : ℝ} {N : EReal} (h : Inv m l a W N) (m' : EReal)
    (hm : m' = if b = 0 then max m (Finset.univ.fold max ⊥ fun k => (s k : EReal)) else m) :
    Inv m' (Ideal.exp2 (m - m') * l + ∑ k, Ideal.exp2 ((s k : EReal) - (m' - b)))
      (Ideal.exp2 (m - m') * a + ∑ k, v k * Ideal.exp2 ((s k : EReal) - (m' - b)))
      (W + ∑ k, wt (b = 0) (s k)) (N + ∑ k, ((wt (b = 0) (s k) : ℝ) : EReal) * v k) := by
  obtain ⟨μ, rfl, rfl, rfl⟩ := h
  rcases hb with rfl | rfl
  · obtain ⟨σ, hσ⟩ := fold_max_real (fun k => (s k : EReal)) (fun k => by simp) k0 (by simp)
    rw [if_pos rfl, hσ, show max (μ : EReal) (σ : EReal) = ((max μ σ : ℝ) : EReal) from (EReal.coe_strictMono.monotone.map_max).symm] at hm
    generalize max μ σ = μ' at hm
    subst hm
    have key : Real.rpow 2 (-μ') * Real.rpow 2 μ * Real.rpow 2 (-μ) = Real.rpow 2 (-μ') := by
      rw [mul_assoc, Real.rpow_eq_pow 2 μ, Real.rpow_eq_pow 2 (-μ), ← Real.rpow_add (by norm_num)]; simp
    simp only [sub_zero, wt_true (rfl : (0 : EReal) = 0), exp2_sub_coe]
    refine ⟨μ', rfl, ?_, ?_⟩
    · rw [← coe_sum, ← EReal.coe_mul, ← EReal.coe_add, ← Finset.mul_sum, ← mul_assoc, key, mul_add]
      simp only [wt_true trivial]
    · rw [coe_mul_add (pow_neg_nonneg μ'), ← mul_assoc, ← EReal.coe_mul, key]
      congr 1
      have := sum_scaled (fun _ : Fin n => True) s v (Real.rpow 2 (-μ')) (pow_neg_nonneg μ')
      simpa only [wt_true trivial] using this
  · rw [if_neg (by simp)] at hm
    subst hm
    have e1 : Ideal.exp2 ((μ : EReal) - (μ : EReal)) = 1 := by
      rw [← EReal.coe_sub, sub_self, Ideal.exp2_coe]; simp
    have e2 : ∀ k, Ideal.exp2 ((s k : EReal) - ((μ : EReal) - ⊥)) = 0 := fun k => by
      rw [EReal.sub_bot (EReal.coe_ne_bot μ), EReal.sub_top]; rfl
    have hw : ∀ k, wt ((⊥ : EReal) = 0) (s k) = 0 := fun k => wt_false (by simp) _
    simp only [e1, e2, hw, one_mul, mul_zero, Finset.sum_const_zero, add_zero, EReal.coe_zero, zero_mul]
    exact ⟨μ, rfl, rfl, rfl⟩

/-- What the state gives at the end. -/
theorem inv_div {m l a : EReal} {W : ℝ} {N : EReal} (h : Inv m l a W N) (hW : W ≠ 0) :
    Ideal.div a l = ((1 / W : ℝ) : EReal) * N := by
  obtain ⟨μ, rfl, rfl, rfl⟩ := h
  have hp : Real.rpow 2 (-μ) ≠ 0 := (Real.rpow_pos_of_pos (by norm_num) _).ne'
  rw [Ideal.div_coe (mul_ne_zero hp hW), mul_right_comm, ← EReal.coe_mul]
  congr 2
  field_simp

/-- The softmax in base `e` of the scores times `ln 2`, masked by minus infinity, applied to the values. -/
theorem softmax_eq {n : ℕ} (vis : Fin n → Prop) [∀ k, Decidable (vis k)] (s : Fin n → ℝ) (v : Fin n → EReal) (k0 : Fin n) (h0 : vis k0)
    (x : Fin n → EReal) (hx : ∀ k, x k = if vis k then (s k : EReal) * ((Real.log 2 : ℝ) : EReal) else ⊥) (M : EReal)
    (hM : M = Finset.univ.fold max ⊥ x) :
    ∑ k, Ideal.div (Ideal.exp (x k - M)) (∑ k', Ideal.exp (x k' - M)) * v k
      = ((1 / ∑ k, wt (vis k) (s k) : ℝ) : EReal) * ∑ k, ((wt (vis k) (s k) : ℝ) : EReal) * v k := by
  obtain ⟨μ, hμ⟩ := fold_max_real x
    (fun k => by
      rw [hx]; split_ifs
      · rw [← EReal.coe_mul]; exact EReal.coe_ne_top _
      · simp) k0 (by rw [hx, if_pos h0, ← EReal.coe_mul]; exact EReal.coe_ne_bot _)
  rw [hμ] at hM
  subst hM
  have he : ∀ k, Ideal.exp (x k - (μ : EReal)) = ((Real.exp (-μ) * wt (vis k) (s k) : ℝ) : EReal) := fun k => by
    rw [hx]; unfold wt
    split_ifs
    · rw [← EReal.coe_mul, ← EReal.coe_sub, Ideal.exp_coe]
      congr 1
      rw [Real.rpow_eq_pow, Real.rpow_def_of_pos (by norm_num), ← Real.exp_add]
      congr 1; ring
    · rw [EReal.bot_sub]; simp
  have hpos : 0 < ∑ k, wt (vis k) (s k) :=
    Finset.sum_pos' (fun k _ => wt_nonneg _ _) ⟨k0, Finset.mem_univ _, by
      rw [wt_true h0]; exact Real.rpow_pos_of_pos (by norm_num) _⟩
  have hc : Real.exp (-μ) ≠ 0 := (Real.exp_pos _).ne'
  simp only [he]
  rw [← coe_sum, ← Finset.mul_sum, coe_mul_sum _ (by positivity)]
  refine Finset.sum_congr rfl fun k _ => ?_
  rw [Ideal.div_coe (mul_ne_zero hc hpos.ne'), ← EReal.coe_mul, ← mul_assoc, ← EReal.coe_mul]
  congr 2
  field_simp

end Cert.Attn

end
-- ==== Proof.Head.lean ====
module

public import proofs.«01_k».proof.Proof.Apply
public import proofs.«01_k».proof.Proof.Trips
public import proofs.«01_k».proof.Proof.Softmax

@[expose] public section

set_option maxRecDepth 16384

noncomputable section

/-! One head of the kernel at one query and one output column: the online softmax's invariant after each past block, and
the quotient it ends in. -/

namespace Cert.Attn

open Idealize.ShloMosaic Idealize.SL.Sem Cert.KernelIdeal Cert.KernelIdeal.Gen

theorem tileK_apply (x : Vec Ideal S1x16x8x256x128 .bf16) (n : ℕ) (hn : n < 16) (h : Fin 8) (c : Fin 256) (e : Fin 128) :
    tileK x n h (ix5 0 0 0 c e) = x (ix5 0 ⟨n, hn⟩ h c e) := by
  unfold tileK View.ld; congr 1; funext a; apply Fin.ext
  have := Nat.mod_eq_of_lt hn
  fin_cases a <;> simp [Rect.unit, Rect.emb, LoadRect.idx, ix5, this]

theorem tileV_apply (x : Vec Ideal S1x16x8x128x256 .bf16) (n : ℕ) (hn : n < 16) (h : Fin 8) (d : Fin 128) (c : Fin 256) :
    tileV x n h (ix5 0 0 0 d c) = x (ix5 0 ⟨n, hn⟩ h d c) := by
  unfold tileV View.ld; congr 1; funext a; apply Fin.ext
  have := Nat.mod_eq_of_lt hn
  fin_cases a <;> simp [Rect.unit, Rect.emb, LoadRect.idx, ix5, this]

theorem tileB_apply (x : Vec Ideal S1x1x8x16x256 .f32) (n : ℕ) (hn : n < 16) (h : Fin 8) (r : Fin 256) :
    tileB x n h (ix5 0 0 0 0 r) = x (ix5 0 0 h ⟨n, hn⟩ r) := by
  unfold tileB View.ld; congr 1; funext a; apply Fin.ext
  have := Nat.mod_eq_of_lt hn
  fin_cases a <;> simp [Rect.unit, Rect.emb, LoadRect.idx, ix5, this]

variable (q : Fin 8 → FVec Ideal S128x256 .bf16) (x1 : Vec Ideal S1x16x8x256x128 .bf16) (x2 : Vec Ideal S1x16x8x128x256 .bf16)
  (x3 : Vec Ideal S1x1x8x16x256 .f32) (h : Fin 8) (r : Fin 256) (d : Fin 128)
  (qr : Fin 128 → ℝ) (kr : ℕ → Fin 256 → Fin 128 → ℝ)

/-- The score of key `c` of block `n`. -/
def sc (n : ℕ) (c : Fin 256) : ℝ := ∑ e, kr n c e * qr e

/-- The weight of block `n`'s key `c` for query `r` of block `qb`. -/
def wgt (bv : ℕ → EReal) (qb : ℕ) (n : ℕ) (c : Fin 256) : ℝ :=
  if n = qb then wt (c.val ≤ r.val) (sc qr kr n c) else wt (bv n = 0) (sc qr kr n c)

/-- The whole weight after the own block and the first `n` past ones. -/
def W (bv : ℕ → EReal) (qb : ℕ) : ℕ → ℝ
  | 0 => ∑ c, wt (c.val ≤ r.val) (sc qr kr qb c)
  | n + 1 => W bv qb n + ∑ c, wt (bv n = 0) (sc qr kr n c)

/-- The weighted values after the own block and the first `n` past ones. -/
def N (bv : ℕ → EReal) (vr : ℕ → Fin 256 → EReal) (qb : ℕ) : ℕ → EReal
  | 0 => ∑ c, ((wt (c.val ≤ r.val) (sc qr kr qb c) : ℝ) : EReal) * vr qb c
  | n + 1 => N bv vr qb n + ∑ c, ((wt (bv n = 0) (sc qr kr n c) : ℝ) : EReal) * vr n c

variable (bv : ℕ → EReal) (vr : ℕ → Fin 256 → EReal)
  (hq : ∀ e, q h (ix2 e r) = (qr e : EReal))
  (hk : ∀ n (hn : n < 16) c e, x1 (ix5 0 ⟨n, hn⟩ h c e) = (kr n c e : EReal))
  (hv : ∀ n (hn : n < 16) c, x2 (ix5 0 ⟨n, hn⟩ h d c) = vr n c)
  (hbv : ∀ n (hn : n < 16), x3 (ix5 0 0 h ⟨n, hn⟩ r) = bv n)
  (hb : ∀ n, n < 16 → bv n = 0 ∨ bv n = ⊥)

include hq hk in
theorem score_real (n : ℕ) (hn : n < 16) (c : Fin 256) :
    score (q h) (tileK x1 n h) (ix2 c r) = (sc qr kr n c : EReal) := by
  rw [score_apply, sc, coe_sum]
  refine Finset.sum_congr rfl fun e _ => ?_
  rw [tileK_apply _ _ hn, hk, hq, EReal.coe_mul]

include hq hk hv in
/-- After the own block. -/
theorem own_inv (qb : ℕ) (hqb : qb < 16) :
    Inv ((own (q h) (tileK x1 qb h) (tileV x2 qb h)).1 (ix2 0 r)) ((own (q h) (tileK x1 qb h) (tileV x2 qb h)).2.1 (ix2 0 r))
      ((own (q h) (tileK x1 qb h) (tileV x2 qb h)).2.2 (ix2 d r)) (W r qr kr bv qb 0) (N r qr kr bv vr qb 0) := by
  have hs : ∀ c, ownScore (q h) (tileK x1 qb h) (ix2 c r) = if c.val ≤ r.val then (sc qr kr qb c : EReal) else ⊥ := fun c => by
    rw [ownScore_apply, score_real q x1 h r qr kr hq hk qb hqb]
  have := inv_own (fun c : Fin 256 => c.val ≤ r.val) (sc qr kr qb) (vr qb) r le_rfl
    (colMax (ownScore (q h) (tileK x1 qb h)) (ix2 0 r)) (by rw [colMax_apply]; simp only [hs])
  unfold own; dsimp only
  rw [colSum_apply, mix_apply]
  simp only [ownWeight_apply, hs, tileV_apply _ _ hqb, hv]
  exact this

include hq hk hv hbv hb in
/-- After the own block and the first `n` past ones. -/
theorem blocks_inv (qb : ℕ) (hqb : qb < 16) (n : ℕ) (hn : n ≤ qb) :
    Inv ((blocks q x1 x2 x3 h (own (q h) (tileK x1 qb h) (tileV x2 qb h)) n).1 (ix2 0 r))
      ((blocks q x1 x2 x3 h (own (q h) (tileK x1 qb h) (tileV x2 qb h)) n).2.1 (ix2 0 r))
      ((blocks q x1 x2 x3 h (own (q h) (tileK x1 qb h) (tileV x2 qb h)) n).2.2 (ix2 d r))
      (W r qr kr bv qb n) (N r qr kr bv vr qb n) := by
  induction n with
  | zero => exact own_inv q x1 x2 h r d qr kr bv vr hq hk hv qb hqb
  | succ n ih =>
    have hn16 : n < 16 := by omega
    have ih := ih (by omega)
    set x := blocks q x1 x2 x3 h (own (q h) (tileK x1 qb h) (tileV x2 qb h)) n with hx
    have hs := score_real q x1 h r qr kr hq hk n hn16
    have := inv_step (sc qr kr n) (vr n) (bv n) (hb n hn16) r ih
      (newMax x.1 (score (q h) (tileK x1 n h)) (row (tileB x3 n h)) (ix2 0 r)) (by
        rw [newMax_apply, row_apply, tileB_apply _ _ hn16, hbv, colMax_apply]; simp only [hs])
    show Inv (newMax x.1 (score (q h) (tileK x1 n h)) (row (tileB x3 n h)) (ix2 0 r)) _ _ _ _
    convert this using 1
    · show (blockStep q x1 x2 x3 h n x).2.1 (ix2 0 r) = _
      pointwise [blockStep, step]
      simp only [colSum_apply, past_apply, hs, row_apply, tileB_apply _ _ hn16, hbv]
      rfl
    · show (blockStep q x1 x2 x3 h n x).2.2 (ix2 d r) = _
      pointwise [blockStep, step]
      simp only [mix_apply, past_apply, hs, row_apply, tileB_apply _ _ hn16, hbv, tileV_apply _ _ hn16, hv]
      rfl
    · rfl
    · rfl

theorem W_pos (qb n : ℕ) : W r qr kr bv qb n ≠ 0 := by
  have : 0 < W r qr kr bv qb n := by
    induction n with
    | zero =>
      refine Finset.sum_pos' (fun c _ => wt_nonneg _ _) ⟨r, Finset.mem_univ _, ?_⟩
      rw [wt_true le_rfl]; exact Real.rpow_pos_of_pos (by norm_num) _
    | succ n ih => exact add_pos_of_pos_of_nonneg ih (Finset.sum_nonneg fun c _ => wt_nonneg _ _)
  exact this.ne'

end Cert.Attn

end
-- ==== Proof.Spec.lean ====
module

public import proofs.«01_k».proof.Proof.Head

@[expose] public section

noncomputable section

/-! The attention of one query as one quotient over all 4096 keys, and its form block by block. -/

namespace Cert.Attn

open Idealize.ShloMosaic Cert.KernelIdeal

/-- Block `n` as an index. -/
def bk (n : ℕ) : Fin 16 := ⟨n % 16, Nat.mod_lt _ (by norm_num)⟩
/-- Position `p`'s place in its block. -/
def pl (p : ℕ) : Fin 256 := ⟨p % 256, Nat.mod_lt _ (by norm_num)⟩

theorem bk_val {n : ℕ} (hn : n < 16) : bk n = ⟨n, hn⟩ := Fin.ext (Nat.mod_eq_of_lt hn)

/-- Query `p` sees key `k`: a selected past block, or its own block up to itself. -/
def vis (bv : ℕ → EReal) (p k : ℕ) : Prop := (k / 256 < p / 256 ∧ bv (k / 256) = 0) ∨ (k / 256 = p / 256 ∧ k ≤ p)

instance (bv : ℕ → EReal) (p k : ℕ) : Decidable (vis bv p k) := Classical.propDecidable _

/-- The weight of key `k` for query `p`. -/
def kw (qr : Fin 128 → ℝ) (kr : ℕ → Fin 256 → Fin 128 → ℝ) (bv : ℕ → EReal) (p k : ℕ) : ℝ :=
  wt (vis bv p k) (sc qr kr (k / 256) (pl k))

/-- The attention of query `p`. -/
def attn (qr : Fin 128 → ℝ) (kr : ℕ → Fin 256 → Fin 128 → ℝ) (bv : ℕ → EReal) (vr : ℕ → Fin 256 → EReal) (p : ℕ) : EReal :=
  ((1 / ∑ k : Fin 4096, kw qr kr bv p k : ℝ) : EReal) * ∑ k : Fin 4096, ((kw qr kr bv p k : ℝ) : EReal) * vr (k / 256) (pl k)

/-- A sum over the keys is a sum over the blocks and the places in them. -/
theorem sum_keys {M : Type} [AddCommMonoid M] (G : ℕ → Fin 256 → M) :
    ∑ k : Fin 4096, G (k.val / 256) (pl k.val) = ∑ n ∈ Finset.range 16, ∑ c, G n c := by
  rw [Finset.sum_range, ← Fintype.sum_prod_type' (f := fun (n : Fin 16) c => G n c)]
  refine (Fintype.sum_equiv (finProdFinEquiv (m := 16) (n := 256)) _ _ fun x => ?_).symm
  obtain ⟨n, c⟩ := x
  have h1 : (finProdFinEquiv (n, c)).val / 256 = n.val := by
    simp only [finProdFinEquiv_apply_val]; omega
  have h2 : pl (finProdFinEquiv (n, c)).val = c := by
    apply Fin.ext; show (finProdFinEquiv (n, c)).val % 256 = _
    simp only [finProdFinEquiv_apply_val]; omega
  rw [h1, h2]

/-- A sum over the blocks whose terms vanish past block `qb`. -/
theorem sum_past {M : Type} [AddCommMonoid M] (g p : ℕ → M) (o : M) (qb m : ℕ) (hqb : qb < m)
    (hp : ∀ n, n < qb → g n = p n) (ho : g qb = o) (hz : ∀ n, qb < n → g n = 0) :
    ∑ n ∈ Finset.range m, g n = o + ∑ n ∈ Finset.range qb, p n := by
  rw [← Finset.sum_range_add_sum_Ico g hqb, Finset.sum_range_succ, ho,
    Finset.sum_eq_zero (s := Finset.Ico _ _) fun n hn => hz n (Finset.mem_Ico.1 hn).1, add_zero, add_comm]
  congr 1
  exact Finset.sum_congr rfl fun n hn => hp n (Finset.mem_range.1 hn)

variable (qr : Fin 128 → ℝ) (kr : ℕ → Fin 256 → Fin 128 → ℝ) (bv : ℕ → EReal) (vr : ℕ → Fin 256 → EReal)

theorem wt_congr {p q : Prop} [Decidable p] [Decidable q] (h : p ↔ q) (s : ℝ) : wt p s = wt q s := by
  unfold wt; simp only [h]

theorem wt_false' {p : Prop} [Decidable p] (h : ¬ p) (s : ℝ) : wt p s = 0 := by
  unfold wt; rw [if_neg h]

/-- The weight of place `c` of block `n` for the query at place `r` of block `qb`. -/
def bw (r : Fin 256) (qb n : ℕ) (c : Fin 256) : ℝ := kw qr kr bv (256 * qb + r.val) (256 * n + c.val)

theorem bw_past (r : Fin 256) {qb n : ℕ} (c : Fin 256) (h : n < qb) : bw qr kr bv r qb n c = wt (bv n = 0) (sc qr kr n c) := by
  have e1 : (256 * n + c.val) / 256 = n := by omega
  have e2 : (256 * qb + r.val) / 256 = qb := by omega
  have e3 : pl (256 * n + c.val) = c := by apply Fin.ext; show (256 * n + c.val) % 256 = _; omega
  unfold bw kw; rw [e1, e3]
  refine wt_congr ?_ _
  unfold vis; rw [e1, e2]
  exact ⟨fun h' => h'.elim (fun h => h.2) (fun h => absurd h.1 (by omega)), fun h' => .inl ⟨h, h'⟩⟩

theorem bw_own (r : Fin 256) (qb : ℕ) (c : Fin 256) : bw qr kr bv r qb qb c = wt (c.val ≤ r.val) (sc qr kr qb c) := by
  have e1 : (256 * qb + c.val) / 256 = qb := by omega
  have e2 : (256 * qb + r.val) / 256 = qb := by omega
  have e3 : pl (256 * qb + c.val) = c := by apply Fin.ext; show (256 * qb + c.val) % 256 = _; omega
  unfold bw kw; rw [e1, e3]
  refine wt_congr ?_ _
  unfold vis; rw [e1, e2]
  exact ⟨fun h' => h'.elim (fun h => absurd h.1 (by omega)) (fun h => by omega), fun h' => .inr ⟨rfl, by omega⟩⟩

theorem bw_later (r : Fin 256) {qb n : ℕ} (c : Fin 256) (h : qb < n) : bw qr kr bv r qb n c = 0 := by
  have e1 : (256 * n + c.val) / 256 = n := by omega
  have e2 : (256 * qb + r.val) / 256 = qb := by omega
  unfold bw kw
  refine wt_false' ?_ _
  unfold vis; rw [e1, e2]
  exact fun h' => h'.elim (fun h => by omega) (fun h => by omega)

theorem W_sum (r : Fin 256) (qb n : ℕ) : W r qr kr bv qb n
    = (∑ c, wt (c.val ≤ r.val) (sc qr kr qb c)) + ∑ m ∈ Finset.range n, ∑ c, wt (bv m = 0) (sc qr kr m c) := by
  induction n with
  | zero => simp [W]
  | succ n ih => rw [W, ih, Finset.sum_range_succ, add_assoc]

theorem N_sum (r : Fin 256) (qb n : ℕ) : N r qr kr bv vr qb n
    = (∑ c, ((wt (c.val ≤ r.val) (sc qr kr qb c) : ℝ) : EReal) * vr qb c)
      + ∑ m ∈ Finset.range n, ∑ c, ((wt (bv m = 0) (sc qr kr m c) : ℝ) : EReal) * vr m c := by
  induction n with
  | zero => simp [N]
  | succ n ih => rw [N, ih, Finset.sum_range_succ, add_assoc]

theorem key_split (k : ℕ) : 256 * (k / 256) + (pl k).val = k := by
  show 256 * (k / 256) + k % 256 = k; omega

theorem W_eq (r : Fin 256) (qb : ℕ) (hqb : qb < 16) :
    W r qr kr bv qb qb = ∑ k : Fin 4096, kw qr kr bv (256 * qb + r.val) k := by
  have e : ∀ k : Fin 4096, kw qr kr bv (256 * qb + r.val) k = bw qr kr bv r qb (k.val / 256) (pl k.val) := fun k => by
    unfold bw; rw [key_split]
  simp only [e]
  rw [sum_keys (fun n c => bw qr kr bv r qb n c), W_sum]
  refine (sum_past _ _ _ qb 16 hqb (fun n hn => ?_) ?_ fun n hn => ?_).symm
  · simp only [bw_past qr kr bv r _ hn]
  · simp only [bw_own]
  · simp only [bw_later qr kr bv r _ hn, Finset.sum_const_zero]

theorem N_eq (r : Fin 256) (qb : ℕ) (hqb : qb < 16) :
    N r qr kr bv vr qb qb = ∑ k : Fin 4096, ((kw qr kr bv (256 * qb + r.val) k : ℝ) : EReal) * vr (k.val / 256) (pl k.val) := by
  have e : ∀ k : Fin 4096, kw qr kr bv (256 * qb + r.val) k = bw qr kr bv r qb (k.val / 256) (pl k.val) := fun k => by
    unfold bw; rw [key_split]
  simp only [e]
  rw [sum_keys (fun n c => ((bw qr kr bv r qb n c : ℝ) : EReal) * vr n c), N_sum]
  refine (sum_past _ _ _ qb 16 hqb (fun n hn => ?_) ?_ fun n hn => ?_).symm
  · simp only [bw_past qr kr bv r _ hn]
  · simp only [bw_own]
  · simp only [bw_later qr kr bv r _ hn, EReal.coe_zero, zero_mul, Finset.sum_const_zero]

/-- The quotient the kernel ends in is the attention. -/
theorem attn_eq (r : Fin 256) (qb : ℕ) (hqb : qb < 16) :
    ((1 / W r qr kr bv qb qb : ℝ) : EReal) * N r qr kr bv vr qb qb = attn qr kr bv vr (256 * qb + r.val) := by
  rw [W_eq qr kr bv r qb hqb, N_eq qr kr bv vr r qb hqb]; rfl

/-! The operands read from the arrays. -/

variable (b : Fin 2) (h : Fin 8)

def qOfA (X0 : Vec Ideal S2x16x8x128x256 .bf16) (p : ℕ) (e : Fin 128) : ℝ := (X0 (ix5 b (bk (p / 256)) h e (pl p))).toReal
def kOfA (X1 : Vec Ideal S2x16x8x256x128 .bf16) (n : ℕ) (c : Fin 256) (e : Fin 128) : ℝ := (X1 (ix5 b (bk n) h c e)).toReal
def vOfA (X2 : Vec Ideal S2x16x8x128x256 .bf16) (d : Fin 128) (n : ℕ) (c : Fin 256) : EReal := X2 (ix5 b (bk n) h d c)
def bOfA (X3 : Vec Ideal S2x16x8x16x256 .f32) (p n : ℕ) : EReal := X3 (ix5 b (bk (p / 256)) h (bk n) (pl p))

/-- The attention of query `p`, head `h`, at value coordinate `d`. -/
def spec (X0 : Vec Ideal S2x16x8x128x256 .bf16) (X1 : Vec Ideal S2x16x8x256x128 .bf16) (X2 : Vec Ideal S2x16x8x128x256 .bf16)
    (X3 : Vec Ideal S2x16x8x16x256 .f32) (p : ℕ) (d : Fin 128) : EReal :=
  attn (qOfA b h X0 p) (kOfA b h X1) (bOfA b h X3 p) (vOfA b h X2 d) p

end Cert.Attn

end
-- ==== Proof.Block.lean ====
module

public import proofs.«01_k».proof.Proof.Stores
public import proofs.«01_k».proof.Proof.Spec

@[expose] public section

set_option maxRecDepth 16384

noncomputable section

/-! The block one grid point leaves, at an index: the attention of its query. -/

namespace Cert.Attn

open Idealize.ShloMosaic Idealize.SL.Sem Cert.KernelIdeal Cert.KernelIdeal.Gen

theorem headOut_apply (s : St Ideal) (r : Fin 256) (d : Fin 128) :
    headOut s (ix3 0 r d) = Ideal.div (s.2.2 (ix2 d r)) (s.2.1 (ix2 0 r)) := by
  pointwise [headOut]

theorem qOf_apply (x : Vec Ideal S1x1x8x128x256 .bf16) (h : Fin 8) (e : Fin 128) (r : Fin 256) :
    qOf x h (ix2 e r) = x (ix5 0 0 h e r) := by
  pointwise [qOf]
  unfold tileQ View.ld; congr 1; funext a; apply Fin.ext
  fin_cases a <;> simp [Rect.unit, Rect.emb, LoadRect.idx, ix5]

/-- The block as one function of the final states. -/
def blockOut {F : FTy → Type} [FloatOps F] (f : Fin 8 → St F) : Vec F S1x256x1024 .bf16 :=
  fun y => headOut (f ⟨(y 2).val / 128, Nat.div_lt_of_lt_mul (y 2).isLt⟩)
    (ix3 0 (y 1) ⟨(y 2).val % 128, Nat.mod_lt _ (by norm_num)⟩)

theorem blockOut_at {F : FTy → Type} [FloatOps F] (f : Fin 8 → St F) (h : Fin 8) (x : S1x256x128.Idx) (y : S1x256x1024.Idx)
    (h1 : (y 1).val = (x 1).val) (h2 : (y 2).val = 128 * h.val + (x 2).val) : headOut (f h) x = blockOut f y := by
  have hx2 : (x 2).val < 128 := (x 2).isLt
  have hx0 : (x 0).val < 1 := (x 0).isLt
  unfold blockOut
  have e : (⟨(y 2).val / 128, Nat.div_lt_of_lt_mul (y 2).isLt⟩ : Fin 8) = h := Fin.ext (by show (y 2).val / 128 = _; omega)
  rw [e]; congr 1; funext a; apply Fin.ext
  fin_cases a
  · show (x 0).val = 0; omega
  · exact h1.symm
  · show (x 2).val = (y 2).val % 128; omega

variable (c : Dev nD) (i : grid0.Coords)
  (arg3 : Memref sig .tc .vmem S1x1x8x128x256 .bf16) (harg3 : arg3.IsWhole)
  (arg4 : Memref sig .tc .vmem S1x16x8x256x128 .bf16) (harg4 : arg4.IsWhole)
  (arg5 : Memref sig .tc .vmem S1x16x8x128x256 .bf16) (harg5 : arg5.IsWhole)
  (arg6 : Memref sig .tc .vmem S1x1x8x16x256 .f32) (harg6 : arg6.IsWhole)
  (arg7 : Memref sig .tc .vmem S1x256x1024 .bf16) (harg7 : arg7.IsWhole)

/-- What a grid point leaves in its output block. -/
theorem out_block {F : FTy → Type} [FloatOps F] (x0 : Vec F S1x1x8x128x256 .bf16) (x1 : Vec F S1x16x8x256x128 .bf16)
    (x2 : Vec F S1x16x8x128x256 .bf16) (x3 : Vec F S1x1x8x16x256 .f32) :
    out0_A_4 c i arg3 harg3 arg4 harg4 arg5 harg5 arg6 harg6 arg7 harg7 x0 x1 x2 x3 = blockOut (fin x0 x1 x2 x3 (i 2).val) := by
  have hc := cover0_A_4 c i arg3 harg3 arg4 harg4 arg5 harg5 arg6 harg6 arg7 harg7 x0 x1 x2 x3
  unfold out0_A_4
  rw [run_stores] at hc ⊢
  rw [View.read_writes_eq_canon _ _ _ hc]
  funext y
  refine View.canon_apply_of_pieces _ _ (fun p hp x => ?_) y (hc y)
  unfold stores at hp
  rw [unpack_pack] at hp
  simp only [List.mem_cons, List.mem_nil_iff, or_false] at hp
  rcases hp with rfl | rfl | rfl | rfl | rfl | rfl | rfl | rfl
  all_goals exact blockOut_at _ _ x _ (by simp [Rect.unit, Rect.emb]) (by simp [Rect.unit, Rect.emb])

/-- Its entry for query `r` of the block, at head `h`, column `d`. -/
theorem block_value (x0 : Vec Ideal S1x1x8x128x256 .bf16) (x1 : Vec Ideal S1x16x8x256x128 .bf16)
    (x2 : Vec Ideal S1x16x8x128x256 .bf16) (x3 : Vec Ideal S1x1x8x16x256 .f32) (h : Fin 8) (r : Fin 256) (d : Fin 128)
    (qr : Fin 128 → ℝ) (kr : ℕ → Fin 256 → Fin 128 → ℝ) (bv : ℕ → EReal) (vr : ℕ → Fin 256 → EReal)
    (hq : ∀ e, x0 (ix5 0 0 h e r) = (qr e : EReal))
    (hk : ∀ n (hn : n < 16) c e, x1 (ix5 0 ⟨n, hn⟩ h c e) = (kr n c e : EReal))
    (hv : ∀ n (hn : n < 16) c, x2 (ix5 0 ⟨n, hn⟩ h d c) = vr n c)
    (hbv : ∀ n (hn : n < 16), x3 (ix5 0 0 h ⟨n, hn⟩ r) = bv n)
    (hb : ∀ n, n < 16 → bv n = 0 ∨ bv n = ⊥) (qb : ℕ) (hqb : qb < 16) :
    headOut (fin x0 x1 x2 x3 qb h) (ix3 0 r d) = attn qr kr bv vr (256 * qb + r.val) := by
  rw [headOut_apply, ← attn_eq qr kr bv vr r qb hqb]
  exact inv_div (blocks_inv (qOf x0) x1 x2 x3 h r d qr kr bv vr (fun e => (qOf_apply x0 h e r).trans (hq e)) hk hv hbv hb qb hqb qb le_rfl)
    (W_pos r qr kr bv qb qb)

end Cert.Attn

end
-- ==== Proof.KerVal.lean ====
module

public import proofs.«01_k».proof.Proof.Block
public import proofs.«01_k».proof.Proof.Gen.KernelIdeal.Value
public import Idealize.ShloMosaic.Lib.Pipeline.ValueKit

@[expose] public section

set_option maxRecDepth 16384

noncomputable section

/-! The kernel's result array: the attention at every index. -/

namespace Cert.Attn

open Idealize.ShloMosaic Idealize.ShloMosaic.TcCoe Idealize.SL.Sem Cert.KernelIdeal Cert.KernelIdeal.Gen

/-- The attention, as an array. -/
def result (X0 : Vec Ideal S2x16x8x128x256 .bf16) (X1 : Vec Ideal S2x16x8x256x128 .bf16) (X2 : Vec Ideal S2x16x8x128x256 .bf16)
    (X3 : Vec Ideal S2x16x8x16x256 .f32) : Vec Ideal S2x4096x1024 .bf16 :=
  fun y => spec (y 0) ⟨(y 2).val / 128, Nat.div_lt_of_lt_mul (y 2).isLt⟩ X0 X1 X2 X3 (y 1).val
    ⟨(y 2).val % 128, Nat.mod_lt _ (by norm_num)⟩

theorem index0 : ∀ t : Fin cfg0.N, win0_0.index t = ![(grid0.coords t 0).val, (grid0.coords t 2).val, 0, 0, 0] :=
  (by decide +kernel : ∀ t : Fin grid0.N, _)
theorem index1 : ∀ t : Fin cfg0.N, win0_1.index t = ![(grid0.coords t 0).val, 0, 0, 0, 0] :=
  (by decide +kernel : ∀ t : Fin grid0.N, _)
theorem index2 : ∀ t : Fin cfg0.N, win0_2.index t = ![(grid0.coords t 0).val, 0, 0, 0, 0] :=
  (by decide +kernel : ∀ t : Fin grid0.N, _)
theorem index3 : ∀ t : Fin cfg0.N, win0_3.index t = ![(grid0.coords t 0).val, (grid0.coords t 2).val, 0, 0, 0] :=
  (by decide +kernel : ∀ t : Fin grid0.N, _)
theorem index4 : ∀ t : Fin cfg0.N, win0_4.index t = ![(grid0.coords t 0).val, (grid0.coords t 2).val, 0] :=
  (by decide +kernel : ∀ t : Fin grid0.N, _)

variable (m : (ℓ : Loc nD τ sig) → Buf (Elt Ideal) ℓ) (c : Dev nD) (t : Fin cfg0.N)

theorem c0_lt : (grid0.coords t 0).val < 2 := (grid0.coords t 0).isLt
theorem c2_lt : (grid0.coords t 2).val < 16 := (grid0.coords t 2).isLt

theorem read0 (h : Fin 8) (e : Fin 128) (r : Fin 256) : iblk m c 0 t (ix5 0 0 h e r)
    = m ((c : Thread nD τ).loc main_arg0) (ix5 ⟨(grid0.coords t 0).val, c0_lt t⟩ ⟨(grid0.coords t 2).val, c2_lt t⟩ h e r) := by
  blk_simp [iblk]
  rw [V_main_arg0]; congr 1; funext a; apply Fin.ext
  fin_cases a <;> blk_simp [index0 t] <;> simp [ix5]

theorem read1 (n : Fin 16) (h : Fin 8) (e : Fin 256) (r : Fin 128) : iblk m c 1 t (ix5 0 n h e r)
    = m ((c : Thread nD τ).loc main_arg1) (ix5 ⟨(grid0.coords t 0).val, c0_lt t⟩ n h e r) := by
  blk_simp [iblk]
  rw [V_main_arg1]; congr 1; funext a; apply Fin.ext
  fin_cases a <;> blk_simp [index1 t] <;> simp [ix5]

theorem read2 (n : Fin 16) (h : Fin 8) (e : Fin 128) (r : Fin 256) : iblk m c 2 t (ix5 0 n h e r)
    = m ((c : Thread nD τ).loc main_arg2) (ix5 ⟨(grid0.coords t 0).val, c0_lt t⟩ n h e r) := by
  blk_simp [iblk]
  rw [V_main_arg2]; congr 1; funext a; apply Fin.ext
  fin_cases a <;> blk_simp [index2 t] <;> simp [ix5]

theorem read3 (h : Fin 8) (n : Fin 16) (r : Fin 256) : iblk m c 3 t (ix5 0 0 h n r)
    = m ((c : Thread nD τ).loc main_arg3) (ix5 ⟨(grid0.coords t 0).val, c0_lt t⟩ ⟨(grid0.coords t 2).val, c2_lt t⟩ h n r) := by
  blk_simp [iblk]
  rw [V_main_arg3]; congr 1; funext a; apply Fin.ext
  fin_cases a <;> blk_simp [index3 t] <;> simp [ix5]

/-- The block point `t` leaves, at an index. -/
theorem block_spec (h0 : ∀ i, m ((c : Thread nD τ).loc main_arg0) i = ((m ((c : Thread nD τ).loc main_arg0) i : EReal).toReal : EReal))
    (h1 : ∀ i, m ((c : Thread nD τ).loc main_arg1) i = ((m ((c : Thread nD τ).loc main_arg1) i : EReal).toReal : EReal))
    (h3 : ∀ i, m ((c : Thread nD τ).loc main_arg3) i = (0 : EReal) ∨ m ((c : Thread nD τ).loc main_arg3) i = (⊥ : EReal))
    (h : Fin 8) (r : Fin 256) (d : Fin 128) :
    headOut (fin (iblk m c 0 t) (iblk m c 1 t) (iblk m c 2 t) (iblk m c 3 t) (grid0.coords t 2).val h) (ix3 0 r d)
      = spec ⟨(grid0.coords t 0).val, c0_lt t⟩ h (m ((c : Thread nD τ).loc main_arg0)) (m ((c : Thread nD τ).loc main_arg1))
        (m ((c : Thread nD τ).loc main_arg2)) (m ((c : Thread nD τ).loc main_arg3)) (256 * (grid0.coords t 2).val + r.val) d := by
  have hq := c2_lt t
  have e1 : bk ((256 * (grid0.coords t 2).val + r.val) / 256) = ⟨(grid0.coords t 2).val, hq⟩ := by
    apply Fin.ext; show (256 * (grid0.coords t 2).val + r.val) / 256 % 16 = (grid0.coords t 2).val; omega
  have e2 : pl (256 * (grid0.coords t 2).val + r.val) = r := by
    apply Fin.ext; show (256 * (grid0.coords t 2).val + r.val) % 256 = r.val; omega
  refine block_value _ _ _ _ h r d _ _ _ _ (fun e => ?_) (fun n hn k e => ?_) (fun n hn k => ?_) (fun n hn => ?_) (fun n hn => ?_) _ hq
  · rw [read0]; unfold qOfA; rw [e1, e2]; exact h0 _
  · rw [read1]; unfold kOfA; rw [bk_val hn]; exact h1 _
  · rw [read2]; unfold vOfA; rw [bk_val hn]
  · rw [read3]; unfold bOfA; rw [bk_val hn, e1, e2]
  · exact h3 _

/-- The result array after the run. -/
theorem final (h0 : ∀ i, m ((c : Thread nD τ).loc main_arg0) i = ((m ((c : Thread nD τ).loc main_arg0) i : EReal).toReal : EReal))
    (h1 : ∀ i, m ((c : Thread nD τ).loc main_arg1) i = ((m ((c : Thread nD τ).loc main_arg1) i : EReal).toReal : EReal))
    (h3 : ∀ i, m ((c : Thread nD τ).loc main_arg3) i = (0 : EReal) ∨ m ((c : Thread nD τ).loc main_arg3) i = (⊥ : EReal)) :
    (dats m 0 c).arrAt 4 cfg0.N = result (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4]
  unfold outsAt0
  rw [out_block]
  unfold blockOut
  refine (block_spec m c t h0 h1 h3 ⟨(y 2 : ℕ) / 128, Nat.div_lt_of_lt_mul (y 2).isLt⟩ (y 1) ⟨(y 2 : ℕ) % 128, Nat.mod_lt _ (by norm_num)⟩).trans ?_
  have a0 : ((win0_4.blk t).view.emb y 0 : ℕ) = (grid0.coords t 0).val := by
    blk_simp [index4 t]
  have a1 : ((win0_4.blk t).view.emb y 1 : ℕ) = 256 * (grid0.coords t 2).val + (y 1 : ℕ) := by
    blk_simp [index4 t]; omega
  have a2 : ((win0_4.blk t).view.emb y 2 : ℕ) = (y 2 : ℕ) := by
    blk_simp [index4 t]
  unfold result
  have b0 : (⟨(grid0.coords t 0).val, c0_lt t⟩ : Fin 2) = (win0_4.blk t).view.emb y 0 := Fin.ext a0.symm
  congr 1
  · exact Fin.ext (by show (y 2 : ℕ) / 128 = ((win0_4.blk t).view.emb y 2 : ℕ) / 128; rw [a2])
  · exact a1.symm
  · exact Fin.ext (by show (y 2 : ℕ) % 128 = ((win0_4.blk t).view.emb y 2 : ℕ) % 128; rw [a2])

end Cert.Attn

end
-- ==== Proof.RefVal.lean ====
module

public import proofs.«01_k».proof.Proof.Spec
public import proofs.«01_k».proof.Proof.Gen.ReferenceIdeal.Read

@[expose] public section

set_option maxRecDepth 16384

noncomputable section

/-! The reference's value at an output index is the attention. -/

namespace Cert.Attn

open Idealize.ShloMosaic Idealize.SL.Sem Cert.ReferenceIdeal Cert.ReferenceIdeal.Gen Cert.ReferenceIdeal.Read

variable (X0 : Vec Ideal S2x16x8x128x256 .bf16) (X1 : Vec Ideal S2x16x8x256x128 .bf16) (X2 : Vec Ideal S2x16x8x128x256 .bf16)
  (X3 : Vec Ideal S2x16x8x16x256 .f32) (b : Fin 2) (h : Fin 8) (p k : Fin 4096) (e d : Fin 128)

/-! ## The operands -/

theorem ref_q : val_main_v2 (F := Ideal) X0 (ix4 b h p e) = X0 (ix5 b (bk (p.val / 256)) h e (pl p.val)) := by
  rw [val_main_v2_apply, val_main_v1_apply, val_main_v0_apply]
  show X0 _ = X0 _
  congr 1; funext a; apply Fin.ext
  fin_cases a <;> simp [ix4, ix5, bk, pl] <;> omega

theorem ref_k : val_main_v5 (F := Ideal) X1 (ix4 b h k e) = X1 (ix5 b (bk (k.val / 256)) h (pl k.val) e) := by
  rw [val_main_v5_apply, val_main_v4_apply, val_main_v3_apply]
  show X1 _ = X1 _
  congr 1; funext a; apply Fin.ext
  fin_cases a <;> simp [ix4, ix5, bk, pl] <;> omega

theorem ref_v : val_main_v8 (F := Ideal) X2 (ix4 b h k d) = vOfA b h X2 d (k.val / 256) (pl k.val) := by
  rw [val_main_v8_apply, val_main_v7_apply, val_main_v6_apply]
  show X2 _ = X2 _
  congr 1; funext a; apply Fin.ext
  fin_cases a <;> simp [ix4, ix5, bk, pl] <;> omega

theorem ref_bias (n : Fin 16) : val_main_v10 (F := Ideal) X3 (ix4 b h p n) = bOfA b h X3 p.val n.val := by
  rw [val_main_v10_apply, val_main_v9_apply]
  show X3 _ = X3 _
  congr 1; funext a; apply Fin.ext
  fin_cases a <;> simp [ix4, ix5, bk, pl] <;> omega

/-! ## The masks -/

theorem ofBool_and (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem ofBool_or (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

/-- The position's block. -/
theorem ref_block : val_main_v16 (F := Ideal) (ix1 p) = BitVec.ofNat 32 (p.val / 256) := by
  rw [val_main_v16_apply]
  revert p; decide +kernel

theorem ref_past : val_main_v38 (F := Ideal) (ix4 b h p k) = BitVec.ofBool (decide (k.val / 256 < p.val / 256)) := by
  rw [val_main_v38_apply, val_main_v37_apply, val_main_v21_apply, val_main_v19_apply, val_main_v20_apply, val_main_v17_apply, val_main_v18_apply]
  refine (congrArg₂ _ (ref_block k) (ref_block p)).trans ?_
  exact slt_word (by omega) (by omega)

theorem ref_own : val_main_v41 (F := Ideal) (ix4 b h p k) = BitVec.ofBool (decide (k.val / 256 = p.val / 256 ∧ k.val ≤ p.val)) := by
  rw [val_main_v41_apply, val_main_v40_apply, val_main_v32_apply, val_main_v26_apply, val_main_v31_apply, val_main_v24_apply, val_main_v25_apply,
    val_main_v22_apply, val_main_v23_apply, val_main_v29_apply, val_main_v30_apply, val_main_v27_apply, val_main_v28_apply, ← ofBool_and]
  refine congrArg₂ _ ((congrArg₂ _ (ref_block k) (ref_block p)).trans (eq_word (by omega) (by omega))) ?_
  exact sle_word (a := k.val) (b := p.val) (by omega) (by omega)

theorem ref_sel : val_main_v14 (F := Ideal) X3 (ix4 b h p k) = BitVec.ofBool (decide (bOfA b h X3 p.val (k.val / 256) = 0)) := by
  have e : idx_main_v13 (idx_main_v14 (ix4 b h p k)) = ix4 b h p ⟨k.val / 256, by omega⟩ := by
    funext a; apply Fin.ext
    fin_cases a <;> simp [ix4] <;> omega
  rw [val_main_v14_apply, val_main_v13_apply, e, val_main_v12_apply, ref_bias, val_main_v11_apply, val_main_cst_apply]
  pointwise

theorem ref_mask : val_main_v42 (F := Ideal) X3 (ix4 b h p k) = BitVec.ofBool (decide (vis (bOfA b h X3 p.val) p.val k.val)) := by
  rw [val_main_v42_apply, val_main_v39_apply, ref_past, ref_sel, ref_own, ofBool_and, ofBool_or]
  exact congrArg BitVec.ofBool (decide_eq_decide.2 Iff.rfl)

/-! ## The scores -/

theorem two : Ideal.ofBits .f32 0x40000000#32 = ((2 : ℝ) : EReal) := by
  simp [Ideal.ofBits, Ideal.ieee]
  rw [← EReal.coe_mul]; norm_num

theorem ref_log2 (i : S2x8x4096x4096.Idx) : val_main_v35 (F := Ideal) i = ((Real.log 2 : ℝ) : EReal) := by
  rw [val_main_v35_apply, val_main_v34_apply, val_main_cst_0_apply]
  show Ideal.log (Ideal.ofBits .f32 0x40000000#32) = _
  rw [two, Ideal.log_coe, if_neg (by norm_num)]

variable (h0 : ∀ i, X0 i = ((X0 i).toReal : EReal)) (h1 : ∀ i, X1 i = ((X1 i).toReal : EReal))

include h0 h1 in
theorem ref_dot : val_main_v33 (F := Ideal) X0 X1 (ix4 b h p k)
    = ((sc (qOfA b h X0 p.val) (kOfA b h X1) (k.val / 256) (pl k.val) : ℝ) : EReal) := by
  rw [val_main_v33_apply, sc, coe_sum]
  refine Finset.sum_congr rfl fun e _ => ?_
  have e1 : lidx_main_v33 (ix4 b h p k) e = ix4 b h p e := by funext a; fin_cases a <;> rfl
  have e2 : ridx_main_v33 (ix4 b h p k) e = ix4 b h k e := by funext a; fin_cases a <;> rfl
  rw [e1, e2, ref_q, ref_k, EReal.coe_mul, mul_comm, h0, h1]
  rfl

include h0 h1 in
theorem ref_score : val_main_v43 (F := Ideal) X0 X1 X3 (ix4 b h p k)
    = if vis (bOfA b h X3 p.val) p.val k.val then ((sc (qOfA b h X0 p.val) (kOfA b h X1) (k.val / 256) (pl k.val) : ℝ) : EReal) * ((Real.log 2 : ℝ) : EReal) else ⊥ := by
  rw [val_main_v43_apply, ref_mask, select_ofBool, val_main_v36_apply, ref_dot X0 X1 b h p k h0 h1, ref_log2, val_main_call1_v1_apply,
    val_main_call1_v0_apply, val_main_cst_1_apply]
  show (if _ then _ else Ideal.ofBits .f32 0xFF800000#32) = _
  rw [ofBits_bot]; rfl

theorem ref_max : val_main_v46 (F := Ideal) X0 X1 X3 (ix3 b h p)
    = Finset.univ.fold max ⊥ fun k : Fin 4096 => val_main_v43 (F := Ideal) X0 X1 X3 (ix4 b h p k) := by
  rw [val_main_v46_apply, val_main_v45_apply, val_main_cst_3_apply]
  unfold val_main_v44
  generalize val_main_v43 (F := Ideal) X0 X1 X3 = y
  pointwise [val_main_cst_2]
  rw [ofBits_bot]; simp

theorem ref_exp : val_main_v50 (F := Ideal) X0 X1 X3 (ix4 b h p k)
    = Ideal.exp (val_main_v43 (F := Ideal) X0 X1 X3 (ix4 b h p k) - val_main_v46 (F := Ideal) X0 X1 X3 (ix3 b h p)) := by
  have e1 : idx_main_v47 (idx_main_v48 (ix4 b h p k)) = ix3 b h p := by funext a; fin_cases a <;> rfl
  rw [val_main_v50_apply, val_main_v49_apply, val_main_v48_apply, val_main_v47_apply, e1]
  rfl

theorem ref_sum (i : S2x8x4096.Idx) (hi : i = ix3 b h p) : val_main_v51 (F := Ideal) X0 X1 X3 i
    = ∑ k : Fin 4096, val_main_v50 (F := Ideal) X0 X1 X3 (ix4 b h p k) := by
  subst hi
  rw [val_main_v51_apply, val_main_cst_4_apply]
  have z : FloatOps.ofBits (F := Ideal) .f32 0x00000000#32 = (0 : EReal) := by
    show Ideal.ofBits .f32 0x00000000#32 = 0
    simp [Ideal.ofBits, Ideal.ieee]
  rw [z, zero_add]
  refine Finset.sum_congr rfl fun k _ => ?_
  congr 1; funext a; fin_cases a <;> rfl

include h0 h1 in
/-- The reference's attention. -/
theorem ref_attn : val_main_v55 (F := Ideal) X0 X1 X2 X3 (ix4 b h p d) = spec b h X0 X1 X2 X3 p.val d := by
  rw [val_main_v55_apply]
  have key := softmax_eq (fun k : Fin 4096 => vis (bOfA b h X3 p.val) p.val k.val)
    (fun k => sc (qOfA b h X0 p.val) (kOfA b h X1) (k.val / 256) (pl k.val)) (fun k => vOfA b h X2 d (k.val / 256) (pl k.val)) p
    (.inr ⟨rfl, le_rfl⟩) (fun k => val_main_v43 (F := Ideal) X0 X1 X3 (ix4 b h p k)) (fun k => ref_score X0 X1 X3 b h p k h0 h1)
    (val_main_v46 (F := Ideal) X0 X1 X3 (ix3 b h p)) (ref_max X0 X1 X3 b h p)
  refine Eq.trans (Finset.sum_congr rfl fun k _ => ?_) key
  have e1 : lidx_main_v55 (ix4 b h p d) k = ix4 b h p k := by funext a; fin_cases a <;> rfl
  have e2 : ridx_main_v55 (ix4 b h p d) k = ix4 b h k d := by funext a; fin_cases a <;> rfl
  rw [e1, e2, ref_v, val_main_v54_apply, val_main_v53_apply, val_main_v52_apply,
    ref_sum X0 X1 X3 b h p _ (by funext a; fin_cases a <;> rfl)]
  simp only [ref_exp]
  rfl

include h0 h1 in
/-- The reference's value at an output index. -/
theorem ref_value (j : Fin 1024) : val_main_v58 (F := Ideal) X0 X1 X2 X3 (ix3 b p j)
    = spec b ⟨j.val / 128, by omega⟩ X0 X1 X2 X3 p.val ⟨j.val % 128, by omega⟩ := by
  rw [val_main_v58_apply, val_main_v57_apply, val_main_v56_apply, ← ref_attn X0 X1 X2 X3 _ _ p _ h0 h1]
  show val_main_v55 (F := Ideal) X0 X1 X2 X3 _ = _
  congr 1; funext a; apply Fin.ext
  fin_cases a <;> simp [ix4, ix3] <;> omega

end Cert.Attn

end
-- ==== Proof.Pre.lean ====
module

public import proofs.«01_k».proof.Defs
public import proofs.«01_k».proof.Proof.Words
public import proofs.«01_k».proof.Proof.Gen.KernelIdeal
public import proofs.«01_k».proof.Proof.Gen.ReferenceIdeal
public import Idealize.ShloMosaic.Lib.ReduceAll

@[expose] public section

noncomputable section

/-! What the precondition says of the arguments: finite queries and keys, and a mask of zeros and minus infinities. -/

namespace Cert.Attn

open Idealize.ShloMosaic Cert.Pre_finite_and_masked

theorem preFacts : Cert.Pre_finite_and_masked.Facts where
  bitsLt_bf16_f32 := by decide
  bcast_S_S2x16x8x128x256 := by decide
  reducesTo_S2x16x8x128x256_S_d0_1_2_3_4 := by decide
  h_S_ := by decide
  bcast_S_S2x16x8x256x128 := by decide
  reducesTo_S2x16x8x256x128_S_d0_1_2_3_4 := by decide
  bcast_S_S2x16x8x16x256 := by decide
  reducesTo_S2x16x8x16x256_S_d0_1_2_3_4 := by decide

theorem ofBool_one {p : Prop} [Decidable p] (h : BitVec.ofBool (decide p) = 1#1) : p := by
  by_contra hp; simp [hp] at h

theorem real_of_between {x : EReal} (h1 : ⊥ < x) (h2 : x < ⊤) : x = ((x.toReal : ℝ) : EReal) :=
  (EReal.coe_toReal h2.ne h1.ne').symm

theorem or_one {a b : BitVec 1} (h : IntOp.ori a b = 1#1) : a = 1#1 ∨ b = 1#1 := by
  revert a b; decide

attribute [local instance] preFacts in
theorem pre_values (X0 : FVec Ideal S2x16x8x128x256 .bf16) (X1 : FVec Ideal S2x16x8x256x128 .bf16)
    (X2 : FVec Ideal S2x16x8x128x256 .bf16) (X3 : FVec Ideal S2x16x8x16x256 .f32)
    (h : Cert.Pre_finite_and_masked.fn (F := Ideal) X0 X1 X2 X3 = fun _ => 1#1) :
    (∀ i, X0 i = ((X0 i).toReal : EReal)) ∧ (∀ i, X1 i = ((X1 i).toReal : EReal)) ∧ ∀ i, X3 i = 0 ∨ X3 i = (⊥ : EReal) := by
  have hj := congrFun h (Shape.Idx.first Facts.h_S_)
  unfold Cert.Pre_finite_and_masked.fn fn_part1 at hj
  dsimp only at hj
  obtain ⟨h01, h3⟩ := IntOp.andi_eq_one.1 hj
  obtain ⟨h0, h1⟩ := IntOp.andi_eq_one.1 h01
  haveI : Subsingleton S_.Idx := ⟨fun a b => funext fun x => x.elim0⟩
  refine ⟨fun i => ?_, fun i => ?_, fun i => ?_⟩
  · obtain ⟨ha, hb⟩ := IntOp.andi_eq_one.1 (Host.reduce_andi_all _ _ _ _ _ h0 i)
    refine real_of_between ?_ ?_
    · rw [← ofBits_bot]; exact ofBool_one ha
    · rw [← ofBits_top]; exact ofBool_one hb
  · obtain ⟨ha, hb⟩ := IntOp.andi_eq_one.1 (Host.reduce_andi_all _ _ _ _ _ h1 i)
    refine real_of_between ?_ ?_
    · rw [← ofBits_bot]; exact ofBool_one ha
    · rw [← ofBits_top]; exact ofBool_one hb
  · rcases or_one (Host.reduce_andi_all _ _ _ _ _ h3 i) with ha | ha
    · exact .inl ((ofBool_one ha : _ = Ideal.ofBits .f32 0#32).trans Ideal.ofBits_zero_f32)
    · exact .inr ((ofBool_one ha).trans ofBits_bot)

end Cert.Attn

end
-- ==== Proof.MlpRow.lean ====
module

public import proofs.«01_k».proof.Proof.Gen.MlpKernelIdeal.Frame
public import Idealize.ShloMosaic.Lib.Pointwise

@[expose] public section

set_option maxRecDepth 16384

noncomputable section

/-! The MLP kernel's work on one chunk of rows: its operations on vectors, and each read at an index over the extended reals. -/

namespace Cert.Mlp

open Idealize.ShloMosaic Idealize.SL.Sem Cert.MlpKernelIdeal Cert.MlpKernelIdeal.Gen

section chunk
variable {F : FTy → Type} [FloatOps F]

/-- The normalized rows. -/
def hid (x : Vec F S256x2048 .f32) (g : Vec F S1x2048 .f32) : FVec F S256x2048 .bf16 := k0_pay5 x g

/-- The hidden rows' share of the second product over 1024 hidden coordinates. -/
def part (h : FVec F S256x2048 .bf16) (wu : Vec F S2048x1024 .bf16) (wd : Vec F S1024x2048 .bf16) : FVec F S256x2048 .f32 := k0_pay15 h wu wd

/-- The normalization of the product's rows, added to the input's. -/
def fin (p : FVec F S256x2048 .f32) (x : Vec F S256x2048 .f32) (g : Vec F S1x2048 .f32) : FVec F S256x2048 .f32 :=
  k0_pay4 p (k0_pay8 p) x g

variable (x p : Vec F S256x2048 .f32) (g : Vec F S1x2048 .f32) (h : Vec F S256x2048 .bf16) (wu : Vec F S2048x1024 .bf16) (wd : Vec F S1024x2048 .bf16)

theorem pay6 : k0_pay6 x g = hid x g := by unfold k0_pay6; rw [shapeCast_self]; rfl
theorem pay7 : k0_pay7 x g wu wd = part (hid x g) wu wd := rfl
theorem pay10 : k0_pay10 x (k0_pay8 x) k0_pay9 g = hid x g := rfl
theorem pay11 : k0_pay11 x (k0_pay8 x) k0_pay9 g = hid x g := by unfold k0_pay11; rw [shapeCast_self, pay10]
theorem pay12 : k0_pay12 x (k0_pay8 x) k0_pay9 g wu wd = part (hid x g) wu wd := rfl
theorem pay13 : k0_pay13 x g = hid x g := rfl
theorem pay14 : k0_pay14 (k0_pay13 x g) = hid x g := by unfold k0_pay14; rw [shapeCast_self, pay13]
theorem pay15 : k0_pay15 (k0_pay13 x g) wu wd = part (hid x g) wu wd := rfl
theorem pay17 : k0_pay17 x g = hid x g := by unfold k0_pay17; rw [shapeCast_self]; rfl
theorem pay1 : k0_pay1 (k0_pay18 x g wu) k0_pay19 wd = part (hid x g) wu wd := rfl
theorem pay20 : k0_pay20 p h wu wd = addf p (part h wu wd) := by unfold k0_pay20; rw [shapeCast_self]; rfl
theorem pay21 : k0_pay21 p h wu wd = addf p (part h wu wd) := by unfold k0_pay21; rw [shapeCast_self]; rfl
theorem pay2 : k0_pay2 (k0_pay22 p) h wu wd = addf p (part h wu wd) := by unfold k0_pay22; rw [shapeCast_self]; rfl
theorem pay3 : k0_pay3 p h wu wd = addf p (part h wu wd) := by unfold k0_pay3; rw [shapeCast_self]; rfl
theorem pay23 : k0_pay23 p h wu wd x g = fin (addf p (part h wu wd)) x g := by unfold k0_pay23; rw [shapeCast_self]; rfl
theorem pay25 : k0_pay25 (k0_pay24 p) h wu wd x g = fin (addf p (part h wu wd)) x g := by unfold k0_pay24; rw [shapeCast_self]; rfl
theorem pay28 : k0_pay28 (k0_pay26 p) (k0_pay27 h wu) wd x g = fin (addf p (part h wu wd)) x g := by unfold k0_pay26; rw [shapeCast_self]; rfl
theorem pay4 : k0_pay4 (k0_pay29 p h wu wd) (k0_pay30 p h wu wd) x g = fin (addf p (part h wu wd)) x g := by
  unfold k0_pay30 k0_pay29; rw [shapeCast_self]; rfl

end chunk

variable (r : Fin 256) (e : Fin 2048)

/-- A row times the reciprocal root of its mean square (plus the small constant), times the gain. -/
def norm (x : Fin 2048 → EReal) (g : Fin 2048 → EReal) (e : Fin 2048) : EReal :=
  x e * Ideal.rsqrt (Ideal.div (∑ k, x k * x k) (Ideal.ofBits .f32 0x45000000#32) + Ideal.ofBits .f32 0x358637BD#32) * g e

/-- The share of `n` hidden coordinates in the second product. -/
def share {n : ℕ} (h : Fin 2048 → EReal) (wu : Fin 2048 → Fin n → EReal) (wd : Fin n → EReal) : EReal :=
  ∑ j, max (∑ k, h k * wu k j) 0 * max (∑ k, h k * wu k j) 0 * wd j

theorem hid_apply (x : Vec Ideal S256x2048 .f32) (g : Vec Ideal S1x2048 .f32) :
    hid x g (ix2 r e) = norm (fun k => x (ix2 r k)) (fun k => g (ix2 0 k)) e := by
  unfold norm
  pointwise [hid, k0_pay5]

theorem part_apply (h : FVec Ideal S256x2048 .bf16) (wu : Vec Ideal S2048x1024 .bf16) (wd : Vec Ideal S1024x2048 .bf16) :
    part h wu wd (ix2 r e) = share (fun k => h (ix2 r k)) (fun k (j : Fin 1024) => wu (ix2 k j)) (fun j => wd (ix2 j e)) := by
  unfold share
  pointwise [part, k0_pay15]

theorem fin_apply (p x : Vec Ideal S256x2048 .f32) (g : Vec Ideal S1x2048 .f32) :
    fin p x g (ix2 r e) = x (ix2 r e) + norm (fun k => p (ix2 r k)) (fun k => g (ix2 0 k)) e := by
  unfold norm
  pointwise [fin, k0_pay4, k0_pay8]

end Cert.Mlp

end
-- ==== Proof.MlpCases.lean ====
module

public import proofs.«01_k».proof.Proof.MlpRow

@[expose] public section

set_option maxRecDepth 16384

noncomputable section

/-! What one grid point of the MLP kernel leaves in its output block and in its scratch. -/

namespace Cert.Mlp

open Idealize.ShloMosaic Idealize.ShloMosaic.Tactic Idealize.SL.Sem Cert.MlpKernelIdeal Cert.MlpKernelIdeal.Gen

/-! ## The block functions -/

/-- The normalized rows of a block. -/
def hidB (x : Vec Ideal S1024x2048 .f32) (g : Vec Ideal S1x2048 .f32) : Vec Ideal S1024x2048 .bf16 :=
  fun y => norm (fun k => x (ix2 (y 0) k)) (fun k => g (ix2 0 k)) (y 1)

/-- One slice of hidden coordinates' share of the second product. -/
def partB (h : Vec Ideal S1024x2048 .bf16) (wu : Vec Ideal S2048x1024 .bf16) (wd : Vec Ideal S1024x2048 .bf16) : Vec Ideal S1024x2048 .f32 :=
  fun y => share (fun k => h (ix2 (y 0) k)) (fun k (j : Fin 1024) => wu (ix2 k j)) (fun j => wd (ix2 j (y 1)))

/-- The same added to what is there. -/
def accB (p : Vec Ideal S1024x2048 .f32) (h : Vec Ideal S1024x2048 .bf16) (wu : Vec Ideal S2048x1024 .bf16) (wd : Vec Ideal S1024x2048 .bf16) :
    Vec Ideal S1024x2048 .f32 := fun y => (p y : EReal) + partB h wu wd y

/-- The result block. -/
def finB (p x : Vec Ideal S1024x2048 .f32) (g : Vec Ideal S1x2048 .f32) : Vec Ideal S1024x2048 .f32 :=
  fun y => (x y : EReal) + norm (fun k => p (ix2 (y 0) k)) (fun k => g (ix2 0 k)) (y 1)

/-! ## A chunk of 256 rows starting at row `o` -/

section chunk
variable (o : ℕ) (hi : ∀ a, (![o, 0] : Fin 2 → ℕ) a + S256x2048.size a ≤ S1024x2048.size a)

/-- The chunk of a block. -/
def rows {F : FTy → Type} {e : EltTy} (X : Vec F S1024x2048 e) : Vec F S256x2048 e :=
  View.ld X (Rect.unit (s := S1024x2048) ![o, 0] S256x2048.size hi)

theorem emb_row (r : Fin 256) (d : Fin 2048) (ho : o + r.val < 1024) :
    (Rect.unit (s := S1024x2048) ![o, 0] S256x2048.size hi).emb (ix2 r d) = (ix2 ⟨o + r.val, ho⟩ d : S1024x2048.Idx) := by
  funext a; apply Fin.ext
  fin_cases a <;> simp [Rect.unit, Rect.emb, ix2]

theorem rows_apply {e : EltTy} (X : Vec Ideal S1024x2048 e) (r : Fin 256) (d : Fin 2048) (ho : o + r.val < 1024) :
    rows o hi X (ix2 r d) = X (ix2 ⟨o + r.val, ho⟩ d) := by
  unfold rows View.ld; congr 1; funext a; apply Fin.ext
  fin_cases a <;> simp [Rect.unit, Rect.emb, LoadRect.idx, ix2]

theorem o_lt (hi : ∀ a, (![o, 0] : Fin 2 → ℕ) a + S256x2048.size a ≤ S1024x2048.size a) (r : Fin 256) : o + r.val < 1024 := by
  have h : o + 256 ≤ 1024 := hi 0
  have := r.isLt; omega

variable (X P : Vec Ideal S1024x2048 .f32) (g : Vec Ideal S1x2048 .f32) (H : Vec Ideal S1024x2048 .bf16)
  (wu : Vec Ideal S2048x1024 .bf16) (wd : Vec Ideal S1024x2048 .bf16) (y : S256x2048.Idx)

theorem y_eq : ∃ (r : Fin 256) (d : Fin 2048), y = ix2 r d := ⟨y 0, y 1, by funext a; fin_cases a <;> rfl⟩

theorem hid_chunk : hid (rows o hi X) g y = hidB X g ((Rect.unit (s := S1024x2048) ![o, 0] S256x2048.size hi).emb y) := by
  obtain ⟨r, d, rfl⟩ := y_eq y
  rw [hid_apply, emb_row o hi _ _ (o_lt o hi _)]
  unfold hidB
  simp only [rows_apply o hi X _ _ (o_lt o hi _)]; rfl

theorem start_chunk : part (hid (rows o hi X) g) wu wd y = partB (hidB X g) wu wd ((Rect.unit (s := S1024x2048) ![o, 0] S256x2048.size hi).emb y) := by
  obtain ⟨r, d, rfl⟩ := y_eq y
  rw [part_apply, emb_row o hi _ _ (o_lt o hi _)]
  unfold partB
  simp only [hid_chunk, emb_row o hi _ _ (o_lt o hi _)]; rfl

theorem acc_chunk : addf (rows o hi P) (part (rows o hi H) wu wd) y = accB P H wu wd ((Rect.unit (s := S1024x2048) ![o, 0] S256x2048.size hi).emb y) := by
  obtain ⟨r, d, rfl⟩ := y_eq y
  show (rows o hi P _ : EReal) + part (rows o hi H) wu wd _ = _
  rw [part_apply, emb_row o hi _ _ (o_lt o hi _)]
  unfold accB partB
  simp only [rows_apply o hi _ _ _ (o_lt o hi _)]; rfl

theorem fin_chunk : fin (addf (rows o hi P) (part (rows o hi H) wu wd)) (rows o hi X) g y
    = finB (accB P H wu wd) X g ((Rect.unit (s := S1024x2048) ![o, 0] S256x2048.size hi).emb y) := by
  obtain ⟨r, d, rfl⟩ := y_eq y
  rw [fin_apply, emb_row o hi _ _ (o_lt o hi _)]
  unfold finB
  simp only [acc_chunk, emb_row o hi _ _ (o_lt o hi _), rows_apply o hi _ _ _ (o_lt o hi _)]; rfl

end chunk

theorem hz : (![0, 0] : Fin 2 → Nat) = fun _ => 0 := funext fun a => by fin_cases a <;> rfl

/-! ## The cases -/

variable (c : Dev nD) (i : grid0.Coords)
  (a2 : Memref sig .tc .vmem S1024x2048 .f32) (h2 : a2.IsWhole) (a3 : Memref sig .tc .vmem S1x2048 .f32) (h3 : a3.IsWhole)
  (a4 : Memref sig .tc .vmem S2048x1024 .bf16) (h4 : a4.IsWhole) (a5 : Memref sig .tc .vmem S1024x2048 .bf16) (h5 : a5.IsWhole)
  (a6 : Memref sig .tc .vmem S1x2048 .f32) (h6 : a6.IsWhole) (a7 : Memref sig .tc .vmem S1024x2048 .f32) (h7 : a7.IsWhole)
  (a8 : Memref sig .tc .vmem S1024x2048 .bf16) (h8 : a8.IsWhole)
  (x0 : Vec Ideal S1024x2048 .f32) (x1 : Vec Ideal S1x2048 .f32) (x2 : Vec Ideal S2048x1024 .bf16) (x3 : Vec Ideal S1024x2048 .bf16) (x4 : Vec Ideal S1x2048 .f32)
  (xo : Vec Ideal S1024x2048 .f32) (xs : Vec Ideal S1024x2048 .bf16)

theorem out_A (hc0 : cond0_0 i) (hc1 : ¬cond0_1 i) (hc2 : ¬cond0_2 i) :
    out0_A_5 c i a2 h2 a3 h3 a4 h4 a5 h5 a6 h6 a7 h7 a8 h8 hc0 hc1 hc2 x0 x1 x2 x3 x4 = partB (hidB x0 x1) x2 x3 := by
  have hc := cover0_A_5 c i a2 h2 a3 h3 a4 h4 a5 h5 a6 h6 a7 h7 a8 h8 hc0 hc1 hc2 x0 x1 x2 x3 x4
  unfold out0_A_5
  rw [View.read_writes_eq_canon _ _ _ hc]
  funext y
  refine View.canon_apply_of_pieces _ _ (fun p hp x => ?_) y (hc y)
  revert hp
  unfold kernelRun0_A
  dsimp only
  sl_unfold_words
  simp only [View.readAt_eq_ld, h2.read_unread, h3.read_unread, h4.read_unread, h5.read_unread, View.ld_unit_zero (S := S1x2048) hz,
    View.ld_unit_zero (S := S2048x1024) hz, View.ld_unit_zero (S := S1024x2048) hz, pay1, pay15, pay12, pay7, List.mem_cons, List.mem_nil_iff, or_false]
  rintro (rfl | rfl | rfl | rfl)
  all_goals exact start_chunk _ _ x0 x1 x2 x3 x

theorem sout_A (hc0 : cond0_0 i) (hc1 : ¬cond0_1 i) (hc2 : ¬cond0_2 i) :
    sout0_A_0 c i a2 h2 a3 h3 a4 h4 a5 h5 a6 h6 a7 h7 a8 h8 hc0 hc1 hc2 x0 x1 x2 x3 x4 = hidB x0 x1 := by
  have hc := scover0_A_0 c i a2 h2 a3 h3 a4 h4 a5 h5 a6 h6 a7 h7 a8 h8 hc0 hc1 hc2 x0 x1 x2 x3 x4
  unfold sout0_A_0
  rw [View.read_writes_eq_canon _ _ _ hc]
  funext y
  refine View.canon_apply_of_pieces _ _ (fun p hp x => ?_) y (hc y)
  revert hp
  unfold kernelRun0_A
  dsimp only
  sl_unfold_words
  simp only [View.readAt_eq_ld, h2.read_unread, h3.read_unread, View.ld_unit_zero (S := S1x2048) hz,
    pay17, pay14, pay11, pay6, List.mem_cons, List.mem_nil_iff, or_false]
  rintro (rfl | rfl | rfl | rfl)
  all_goals exact hid_chunk _ _ x0 x1 x

theorem out_B (hc0 : ¬cond0_0 i) (hc1 : cond0_1 i) (hc2 : ¬cond0_2 i) :
    out0_B_5 c i a2 h2 a3 h3 a4 h4 a5 h5 a6 h6 a7 h7 a8 h8 hc0 hc1 hc2 x0 x1 x2 x3 x4 xo xs = accB xo xs x2 x3 := by
  have hc := cover0_B_5 c i a2 h2 a3 h3 a4 h4 a5 h5 a6 h6 a7 h7 a8 h8 hc0 hc1 hc2 x0 x1 x2 x3 x4 xo xs
  unfold out0_B_5
  rw [View.read_writes_eq_canon _ _ _ hc]
  funext y
  refine View.canon_apply_of_pieces _ _ (fun p hp x => ?_) y (hc y)
  revert hp
  unfold kernelRun0_B
  dsimp only
  sl_unfold_words
  simp only [View.readAt_eq_ld, h4.read_unread, h5.read_unread, h7.read_unread, h8.read_unread,
    View.ld_unit_zero (S := S2048x1024) hz, View.ld_unit_zero (S := S1024x2048) hz, pay20, pay21, pay2, pay3, List.mem_cons, List.mem_nil_iff, or_false]
  rintro (rfl | rfl | rfl | rfl)
  all_goals exact acc_chunk _ _ xo xs x2 x3 x

theorem out_C (hc0 : ¬cond0_0 i) (hc1 : ¬cond0_1 i) (hc2 : cond0_2 i) :
    out0_C_5 c i a2 h2 a3 h3 a4 h4 a5 h5 a6 h6 a7 h7 a8 h8 hc0 hc1 hc2 x0 x1 x2 x3 x4 xo xs = finB (accB xo xs x2 x3) x0 x4 := by
  have hc := cover0_C_5 c i a2 h2 a3 h3 a4 h4 a5 h5 a6 h6 a7 h7 a8 h8 hc0 hc1 hc2 x0 x1 x2 x3 x4 xo xs
  unfold out0_C_5
  rw [View.read_writes_eq_canon _ _ _ hc]
  funext y
  refine View.canon_apply_of_pieces _ _ (fun p hp x => ?_) y (hc y)
  revert hp
  unfold kernelRun0_C
  dsimp only
  sl_unfold_words
  simp only [View.readAt_eq_ld, h2.read_unread, h4.read_unread, h5.read_unread, h6.read_unread, h7.read_unread, h8.read_unread, View.ld_unit_zero (S := S1x2048) hz,
    View.ld_unit_zero (S := S2048x1024) hz, View.ld_unit_zero (S := S1024x2048) hz, pay23, pay25, pay28, pay4, List.mem_cons, List.mem_nil_iff, or_false]
  rintro (rfl | rfl | rfl | rfl)
  all_goals exact fin_chunk _ _ x0 xo x4 xs x2 x3 x

end Cert.Mlp

end
-- ==== Proof.MlpKer.lean ====
module

public import proofs.«01_k».proof.Proof.MlpCases
public import proofs.«01_k».proof.Proof.Gen.MlpKernelIdeal.Value
public import Idealize.ShloMosaic.Lib.Pipeline.ValueKit

@[expose] public section

set_option maxRecDepth 16384

noncomputable section

/-! The MLP kernel's result array, by induction over the grid points of one block of rows. -/

namespace Cert.Mlp

open Idealize.ShloMosaic Idealize.ShloMosaic.TcCoe Idealize.SL.Sem Cert.MlpKernelIdeal Cert.MlpKernelIdeal.Gen

/-! ## The mathematics -/

/-- Place `j` of the `i`-th run of 1024. -/
def at8 (i : ℕ) (j : Fin 1024) : Fin 8192 := ⟨(1024 * i + j.val) % 8192, Nat.mod_lt _ (by norm_num)⟩

theorem at8_val {i : ℕ} (hi : i < 8) (j : Fin 1024) : (at8 i j).val = 1024 * i + j.val := by
  have := j.isLt; show (1024 * i + j.val) % 8192 = _; omega

theorem sum_runs {M : Type} [AddCommMonoid M] (G : Fin 8192 → M) :
    ∑ k : Fin 8192, G k = ∑ n ∈ Finset.range 8, ∑ c : Fin 1024, G (at8 n c) := by
  rw [Finset.sum_range, ← Fintype.sum_prod_type' (f := fun (n : Fin 8) c => G (at8 n c))]
  refine (Fintype.sum_equiv (finProdFinEquiv (m := 8) (n := 1024)) _ _ fun x => ?_).symm
  obtain ⟨n, c⟩ := x
  congr 1; apply Fin.ext
  rw [at8_val n.isLt]
  simp only [finProdFinEquiv_apply_val]; omega

variable (X : Vec Ideal S8192x2048 .f32) (G : Vec Ideal S2048 .f32) (U : Vec Ideal S2048x8192 .bf16) (D : Vec Ideal S8192x2048 .bf16)
  (G' : Vec Ideal S2048 .f32)

/-- Row `p`, normalized. -/
def hidA (p : Fin 8192) : Fin 2048 → EReal := norm (fun k => X (ix2 p k)) fun k => G (ix1 k)

/-- Row `p` of the two products with the squared positive part between them, at column `d`. -/
def mlpA (p : Fin 8192) (d : Fin 2048) : EReal :=
  share (hidA X G p) (fun k (j : Fin 8192) => U (ix2 k j)) fun j => D (ix2 j d)

/-- The same over the `f`-th run of 1024 hidden coordinates. -/
def runA (p : Fin 8192) (d : Fin 2048) (f : ℕ) : EReal :=
  share (hidA X G p) (fun k (j : Fin 1024) => U (ix2 k (at8 f j))) fun j => D (ix2 (at8 f j) d)

theorem mlp_runs (p : Fin 8192) (d : Fin 2048) : mlpA X G U D p d = ∑ f ∈ Finset.range 8, runA X G U D p d f := by
  unfold mlpA runA share
  exact sum_runs _

/-- The result. -/
def resultA : Vec Ideal S8192x2048 .f32 :=
  fun y => (X y : EReal) + norm (fun d => mlpA X G U D (y 0) d) (fun k => G' (ix1 k)) (y 1)

theorem resultA_apply (p : Fin 8192) (d : Fin 2048) : resultA X G U D G' (ix2 p d)
    = (X (ix2 p d) : EReal) + norm (fun d => mlpA X G U D p d) (fun k => G' (ix1 k)) d := rfl

/-! ## The blocks the grid points read -/

theorem index0 : ∀ t : Fin cfg0.N, win0_0.index t = ![t.val / 8, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, t.val % 8] := (by decide +kernel : ∀ t : Fin grid0.N, _)
theorem index3 : ∀ t : Fin cfg0.N, win0_3.index t = ![t.val % 8, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val / 8, 0] := (by decide +kernel : ∀ t : Fin grid0.N, _)

variable (m : (ℓ : Loc nD τ sig) → Buf (Elt Ideal) ℓ) (c : Dev nD) (t : Fin cfg0.N)

theorem V_main_v0 : V m c main_v0 = shapeCast S1x2048 (m ((c : Thread nD τ).loc main_arg1)) shapeCasts_S2048_S1x2048 := by
  show StableHlo.after hostOps0 _ (Proc.devRef .tc main_v0) = _
  after_results
  rfl

theorem V_main_v1 : V m c main_v1 = shapeCast S1x2048 (m ((c : Thread nD τ).loc main_arg4)) shapeCasts_S2048_S1x2048 := by
  show StableHlo.after hostOps0 _ (Proc.devRef .tc main_v1) = _
  after_results
  rfl

theorem row_apply (g : Vec Ideal S2048 .f32) (d : Fin 2048) : shapeCast S1x2048 g shapeCasts_S2048_S1x2048 (ix2 0 d) = g (ix1 d) := by
  pointwise

theorem t_lt : t.val < 64 := lt_of_lt_of_eq t.isLt N_0

theorem read0 (r : Fin 1024) (d : Fin 2048) : iblk m c 0 t (ix2 r d) = m ((c : Thread nD τ).loc main_arg0) (ix2 (at8 (t.val / 8) r) d) := by
  have ht := t_lt t
  have e := at8_val (i := t.val / 8) (by omega) r
  blk_simp [iblk]
  rw [V_main_arg0]; congr 1; funext a; apply Fin.ext
  fin_cases a <;> blk_simp [index0 t] <;> simp [ix2, e] <;> omega

theorem read1 (d : Fin 2048) : iblk m c 1 t (ix2 0 d) = m ((c : Thread nD τ).loc main_arg1) (ix1 d) := by
  blk_simp [iblk]
  rw [V_main_v0]
  refine Eq.trans ?_ (row_apply _ d)
  congr 1; funext a; apply Fin.ext
  fin_cases a <;> blk_simp [index1 t] <;> simp [ix2]

theorem read2 (k : Fin 2048) (j : Fin 1024) : iblk m c 2 t (ix2 k j) = m ((c : Thread nD τ).loc main_arg2) (ix2 k (at8 (t.val % 8) j)) := by
  have e := at8_val (i := t.val % 8) (by omega) j
  blk_simp [iblk]
  rw [V_main_arg2]; congr 1; funext a; apply Fin.ext
  fin_cases a <;> blk_simp [index2 t] <;> simp [ix2, e] <;> omega

theorem read3 (j : Fin 1024) (d : Fin 2048) : iblk m c 3 t (ix2 j d) = m ((c : Thread nD τ).loc main_arg3) (ix2 (at8 (t.val % 8) j) d) := by
  have e := at8_val (i := t.val % 8) (by omega) j
  blk_simp [iblk]
  rw [V_main_arg3]; congr 1; funext a; apply Fin.ext
  fin_cases a <;> blk_simp [index3 t] <;> simp [ix2, e] <;> omega

theorem read4 (d : Fin 2048) : iblk m c 4 t (ix2 0 d) = m ((c : Thread nD τ).loc main_arg4) (ix1 d) := by
  blk_simp [iblk]
  rw [V_main_v1]
  refine Eq.trans ?_ (row_apply _ d)
  congr 1; funext a; apply Fin.ext
  fin_cases a <;> blk_simp [index4 t] <;> simp [ix2]

/-! ## The grid points of one block of rows -/

/-- The scratch: the block's rows, normalized. -/
def hidT : Vec Ideal S1024x2048 .bf16 :=
  fun y => hidA (m ((c : Thread nD τ).loc main_arg0)) (m ((c : Thread nD τ).loc main_arg1)) (at8 (t.val / 8) (y 0)) (y 1)

/-- One run's share, for the block's rows. -/
def runT (i f : ℕ) : Vec Ideal S1024x2048 .f32 :=
  fun y => runA (m ((c : Thread nD τ).loc main_arg0)) (m ((c : Thread nD τ).loc main_arg1)) (m ((c : Thread nD τ).loc main_arg2))
    (m ((c : Thread nD τ).loc main_arg3)) (at8 i (y 0)) (y 1) f

theorem idx_eq (y : S1024x2048.Idx) : ∃ (r : Fin 1024) (d : Fin 2048), y = ix2 r d := ⟨y 0, y 1, by funext a; fin_cases a <;> rfl⟩

theorem finB_apply (p x : Vec Ideal S1024x2048 .f32) (g : Vec Ideal S1x2048 .f32) (r : Fin 1024) (d : Fin 2048) :
    finB p x g (ix2 r d) = (x (ix2 r d) : EReal) + norm (fun k => p (ix2 r k)) (fun k => g (ix2 0 k)) d := rfl

theorem accB_apply (p : Vec Ideal S1024x2048 .f32) (h : Vec Ideal S1024x2048 .bf16) (wu : Vec Ideal S2048x1024 .bf16) (wd : Vec Ideal S1024x2048 .bf16)
    (y : S1024x2048.Idx) : accB p h wu wd y = (p y : EReal) + partB h wu wd y := rfl

theorem hidB_eq : hidB (iblk m c 0 t) (iblk m c 1 t) = hidT m c t := by
  funext y
  obtain ⟨r, d, rfl⟩ := idx_eq y
  show norm (fun k => iblk m c 0 t (ix2 r k)) (fun k => iblk m c 1 t (ix2 0 k)) d = _
  simp only [read0, read1]; rfl

theorem partB_eq : partB (hidT m c t) (iblk m c 2 t) (iblk m c 3 t) = runT m c (t.val / 8) (t.val % 8) := by
  funext y
  obtain ⟨r, d, rfl⟩ := idx_eq y
  show share (fun k => hidT m c t (ix2 r k)) (fun k (j : Fin 1024) => iblk m c 2 t (ix2 k j)) (fun j => iblk m c 3 t (ix2 j d)) = _
  simp only [read2, read3]; rfl

theorem hid_prev (h : ¬ t.val % 8 = 0) (hp : t.val - 1 < cfg0.N) : hidT m c ⟨t.val - 1, hp⟩ = hidT m c t := by
  unfold hidT
  have e : (t.val - 1) / 8 = t.val / 8 := by omega
  simp only [e]

/-- What the points before the last leave. -/
theorem outs_eq : ∀ (n : ℕ) (hn : n < cfg0.N), (outsAt0 m c n hn).2 = hidT m c ⟨n, hn⟩
    ∧ (n % 8 ≠ 7 → ∀ y, ((outsAt0 m c n hn).1 y : EReal) = ∑ f ∈ Finset.range (n % 8 + 1), runT m c (n / 8) f y) := by
  intro n
  induction n with
  | zero =>
    intro hn
    rw [outsAt0_A m c ⟨0, hn⟩ rfl (by dsimp only; omega) (by dsimp only; omega)]
    dsimp only
    rw [out_A, sout_A, hidB_eq, partB_eq]
    exact ⟨rfl, fun _ y => by simp⟩
  | succ n ih =>
    intro hn
    have hp : n < cfg0.N := Nat.lt_of_succ_lt hn
    obtain ⟨i1, i2⟩ := ih hp
    by_cases h0 : (n + 1) % 8 = 0
    · rw [outsAt0_A m c ⟨n + 1, hn⟩ h0 (by dsimp only; omega) (by dsimp only; omega)]
      dsimp only
      rw [out_A, sout_A, hidB_eq, partB_eq]
      refine ⟨rfl, fun _ y => ?_⟩
      dsimp only
      rw [h0]; simp
    · have e1 : n / 8 = (n + 1) / 8 := by omega
      have e2 : n % 8 + 1 = (n + 1) % 8 := by omega
      have e3 : hidT m c ⟨n, hp⟩ = hidT m c ⟨n + 1, hn⟩ := hid_prev m c ⟨n + 1, hn⟩ h0 hp
      by_cases h7 : (n + 1) % 8 = 7
      · rw [outsAt0_C m c ⟨n + 1, hn⟩ h0 (by dsimp only; omega) h7]
        exact ⟨i1.trans e3, fun h => absurd h7 h⟩
      · rw [outsAt0_B m c ⟨n + 1, hn⟩ h0 (by dsimp only; omega) h7]
        refine ⟨i1.trans e3, fun _ y => ?_⟩
        dsimp only
        rw [out_B]
        show ((outsAt0 m c n hp).1 y : EReal) + partB (outsAt0 m c n hp).2 (iblk m c 2 ⟨n + 1, hn⟩) (iblk m c 3 ⟨n + 1, hn⟩) y = _
        rw [i1, e3, partB_eq, i2 (by omega), e1, e2, Finset.sum_range_succ]

/-- What the last point of a block of rows leaves. -/
theorem last_eq (h7 : t.val % 8 = 7) (r : Fin 1024) (d : Fin 2048) : (outsAt0 m c t.val t.isLt).1 (ix2 r d)
    = resultA (m ((c : Thread nD τ).loc main_arg0)) (m ((c : Thread nD τ).loc main_arg1)) (m ((c : Thread nD τ).loc main_arg2))
      (m ((c : Thread nD τ).loc main_arg3)) (m ((c : Thread nD τ).loc main_arg4)) (ix2 (at8 (t.val / 8) r) d) := by
  have hp : t.val - 1 < cfg0.N := Nat.lt_of_le_of_lt (Nat.sub_le _ _) t.isLt
  obtain ⟨i1, i2⟩ := outs_eq m c (t.val - 1) hp
  rw [hid_prev m c t (by omega) hp] at i1
  have e1 : (t.val - 1) / 8 = t.val / 8 := by omega
  have e2 : (t.val - 1) % 8 + 1 = 7 := by omega
  rw [e1, e2] at i2
  rw [outsAt0_C m c t (by omega) (by omega) h7]
  dsimp only
  rw [out_C]
  rw [finB_apply]
  simp only [accB_apply]
  rw [i1, partB_eq, h7]
  simp only [i2 (by omega), read0, read4, ← Finset.sum_range_succ]
  rw [resultA_apply]
  simp only [mlp_runs]
  rfl

/-- The result array after the run. -/
theorem final : (dats m 0 c).arrAt 5 cfg0.N
    = resultA (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  have h7 : t.val % 8 = 7 := by have := (flush0_5 t).mp hf; omega
  have ht := t_lt t
  blk_simp
  rw [after0_5]
  obtain ⟨r, d, rfl⟩ := idx_eq y
  refine (last_eq m c t h7 r d).trans ?_
  congr 1; funext a; apply Fin.ext
  have e := at8_val (i := t.val / 8) (by omega) r
  fin_cases a <;> blk_simp [index5 t] <;> simp [ix2, e] <;> omega

end Cert.Mlp

end
-- ==== Proof.MlpRef.lean ====
module

public import proofs.«01_k».proof.Proof.MlpKer
public import proofs.«01_k».proof.Proof.Gen.MlpReferenceIdeal.Read

@[expose] public section

set_option maxRecDepth 16384

noncomputable section

/-! The reference's value at an index is the same. -/

namespace Cert.Mlp

open Idealize.ShloMosaic Idealize.SL.Sem Cert.MlpReferenceIdeal Cert.MlpReferenceIdeal.Gen Cert.MlpReferenceIdeal.Read

variable (X : Vec Ideal S8192x2048 .f32) (G : Vec Ideal S2048 .f32) (U : Vec Ideal S2048x8192 .bf16) (D : Vec Ideal S8192x2048 .bf16)
  (G' : Vec Ideal S2048 .f32) (p : Fin 8192) (d : Fin 2048)

theorem ref_hid : val_main_v12 (F := Ideal) X G (ix2 p d) = hidA X G p d := by
  have e1 : idx_main_v2 (idx_main_v8 (ix2 p d)) = ix1 p := by funext a; fin_cases a <;> rfl
  have e2 : idx_main_v10 (idx_main_v11 (ix2 p d)) = ix1 d := by funext a; fin_cases a <;> rfl
  have e3 : ∀ k, idx_main_v1 (ix1 p) k = ix2 p k := fun k => by funext a; fin_cases a <;> rfl
  rw [val_main_v12_apply, val_main_v9_apply, val_main_v8_apply, val_main_v7_apply, val_main_v6_apply, val_main_v4_apply, val_main_v2_apply, e1,
    val_main_v1_apply, val_main_v3_apply, val_main_v5_apply, val_main_v11_apply, val_main_v10_apply, e2]
  simp only [e3, val_main_v0_apply, val_main_cst_apply, val_main_cst_0_apply, val_main_cst_1_apply]
  unfold hidA norm
  have z : (FloatOps.ofBits (F := Ideal) .f32 0x00000000#32 : EReal) = 0 := by pointwise
  rw [z, zero_add]
  rfl

theorem ref_up (j : Fin 8192) : val_main_v14 (F := Ideal) X G U (ix2 p j) = ∑ k, hidA X G p k * U (ix2 k j) := by
  rw [val_main_v14_apply]
  refine Finset.sum_congr rfl fun k _ => ?_
  have e1 : lidx_main_v14 (ix2 p j) k = ix2 p k := by funext a; fin_cases a <;> rfl
  have e2 : ridx_main_v14 (ix2 p j) k = ix2 k j := by funext a; fin_cases a <;> rfl
  rw [e1, e2, ref_hid, val_main_v13_apply]; rfl

theorem ref_mlp : val_main_v18 (F := Ideal) X G U D (ix2 p d) = mlpA X G U D p d := by
  rw [val_main_v18_apply]
  unfold mlpA share
  refine Finset.sum_congr rfl fun j _ => ?_
  have e1 : lidx_main_v18 (ix2 p d) j = ix2 p j := by funext a; fin_cases a <;> rfl
  have e2 : ridx_main_v18 (ix2 p d) j = ix2 j d := by funext a; fin_cases a <;> rfl
  rw [e1, e2, val_main_v16_apply, val_main_v15_apply, ref_up, val_main_call0_v0_apply, val_main_call0_cst_apply, val_main_v17_apply]
  have z : (FloatOps.ofBits (F := Ideal) .f32 0x00000000#32 : EReal) = 0 := by pointwise
  rw [z]
  rfl

theorem ref_value : val_main_v32 (F := Ideal) X G U D G' (ix2 p d) = resultA X G U D G' (ix2 p d) := by
  have e1 : idx_main_v21 (idx_main_v27 (ix2 p d)) = ix1 p := by funext a; fin_cases a <;> rfl
  have e2 : idx_main_v29 (idx_main_v30 (ix2 p d)) = ix1 d := by funext a; fin_cases a <;> rfl
  have e3 : ∀ k, idx_main_v20 (ix1 p) k = ix2 p k := fun k => by funext a; fin_cases a <;> rfl
  rw [val_main_v32_apply, val_main_v31_apply, val_main_v28_apply, val_main_v27_apply, val_main_v26_apply, val_main_v25_apply, val_main_v23_apply,
    val_main_v21_apply, e1, val_main_v20_apply, val_main_v22_apply, val_main_v24_apply, val_main_v30_apply, val_main_v29_apply, e2]
  simp only [e3, val_main_v19_apply, ref_mlp, val_main_cst_2_apply, val_main_cst_3_apply, val_main_cst_4_apply]
  rw [resultA_apply]; unfold norm
  have z : (FloatOps.ofBits (F := Ideal) .f32 0x00000000#32 : EReal) = 0 := by pointwise
  rw [z, zero_add]
  rfl

theorem ref_result : val_main_v32 (F := Ideal) X G U D G' = resultA X G U D G' := by
  funext y
  obtain ⟨p, d, rfl⟩ : ∃ (p : Fin 8192) (d : Fin 2048), y = ix2 p d := ⟨y 0, y 1, by funext a; fin_cases a <;> rfl⟩
  exact ref_value X G U D G' p d

end Cert.Mlp

end
-- ==== Proof.OutKer.lean ====
module

public import proofs.«01_k».proof.Proof.MlpRow
public import proofs.«01_k».proof.Proof.Gen.OutKernelIdeal.Value
public import Idealize.ShloMosaic.Lib.Pipeline.ValueKit
public import Idealize.ShloMosaic.Lib.Pointwise

@[expose] public section

set_option maxRecDepth 16384

noncomputable section

/-! The output projection's result array. -/

namespace Cert.Out

open Idealize.ShloMosaic Idealize.ShloMosaic.TcCoe Idealize.SL.Sem Cert.OutKernelIdeal Cert.OutKernelIdeal.Gen

/-! ## One chunk of rows -/

section chunk
variable {F : FTy → Type} [FloatOps F]

/-- The chunk's two products, their sum normalized and added to the input's rows. -/
def row (yr : Vec F S256x1024 .bf16) (wr : Vec F S1024x2048 .bf16) (ya : Vec F S256x1024 .bf16) (wa : Vec F S1024x2048 .bf16) (x : Vec F S256x2048 .f32)
    (g : Vec F S1x2048 .f32) : FVec F S256x2048 .f32 := k0_pay2 yr wr ya wa x g

theorem pay1 (yr : Vec F S256x1024 .bf16) (wr : Vec F S1024x2048 .bf16) (ya : Vec F S256x1024 .bf16) (wa : Vec F S1024x2048 .bf16) (x : Vec F S256x2048 .f32)
    (g : Vec F S1x2048 .f32) : k0_pay1 (k0_pay3 yr wr) ya wa (constant S256x2048 .f32 0x00000000#32) x g = row yr wr ya wa x g := rfl

end chunk

/-- A row of the two groups' outputs times the two halves of the weights. -/
def proj (yr ya : Fin 1024 → EReal) (wr wa : Fin 1024 → Fin 2048 → EReal) (d : Fin 2048) : EReal :=
  ∑ k, yr k * wr k d + ∑ k, ya k * wa k d

theorem row_apply (yr : Vec Ideal S256x1024 .bf16) (wr : Vec Ideal S1024x2048 .bf16) (ya : Vec Ideal S256x1024 .bf16) (wa : Vec Ideal S1024x2048 .bf16)
    (x : Vec Ideal S256x2048 .f32) (g : Vec Ideal S1x2048 .f32) (r : Fin 256) (e : Fin 2048) :
    row yr wr ya wa x g (ix2 r e) = x (ix2 r e) + Mlp.norm (proj (fun k => yr (ix2 r k)) (fun k => ya (ix2 r k)) (fun k d => wr (ix2 k d)) (fun k d => wa (ix2 k d)))
      (fun k => g (ix2 0 k)) e := by
  unfold Mlp.norm proj
  pointwise [row, k0_pay2]

/-! ## One block of 512 rows -/

/-- The result block. -/
def outB (yr ya : Vec Ideal S512x1024 .bf16) (wr wa : Vec Ideal S1024x2048 .bf16) (x : Vec Ideal S512x2048 .f32) (g : Vec Ideal S1x2048 .f32) :
    Vec Ideal S512x2048 .f32 :=
  fun y => (x y : EReal) + Mlp.norm (proj (fun k => yr (ix2 (y 0) k)) (fun k => ya (ix2 (y 0) k)) (fun k d => wr (ix2 k d)) (fun k d => wa (ix2 k d)))
    (fun k => g (ix2 0 k)) (y 1)

theorem outB_apply (yr ya : Vec Ideal S512x1024 .bf16) (wr wa : Vec Ideal S1024x2048 .bf16) (x : Vec Ideal S512x2048 .f32) (g : Vec Ideal S1x2048 .f32)
    (r : Fin 512) (d : Fin 2048) : outB yr ya wr wa x g (ix2 r d) = (x (ix2 r d) : EReal) + Mlp.norm (proj (fun k => yr (ix2 r k)) (fun k => ya (ix2 r k))
      (fun k d => wr (ix2 k d)) (fun k d => wa (ix2 k d))) (fun k => g (ix2 0 k)) d := rfl

section rows
variable (o : ℕ) (hi : ∀ a, (![o, 0] : Fin 2 → ℕ) a + S256x2048.size a ≤ S512x2048.size a)
  (hj : ∀ a, (![o, 0] : Fin 2 → ℕ) a + S256x1024.size a ≤ S512x1024.size a)

theorem emb_row (r : Fin 256) (d : Fin 2048) (ho : o + r.val < 512) :
    (Rect.unit (s := S512x2048) ![o, 0] S256x2048.size hi).emb (ix2 r d) = (ix2 ⟨o + r.val, ho⟩ d : S512x2048.Idx) := by
  funext a; apply Fin.ext
  fin_cases a <;> simp [Rect.unit, Rect.emb, ix2]

/-- The chunk of a block. -/
def wide (X : Vec Ideal S512x2048 .f32) : Vec Ideal S256x2048 .f32 := View.ld X (Rect.unit (s := S512x2048) ![o, 0] S256x2048.size hi)

/-- The chunk of a block of 1024 columns. -/
def half (X : Vec Ideal S512x1024 .bf16) : Vec Ideal S256x1024 .bf16 := View.ld X (Rect.unit (s := S512x1024) ![o, 0] S256x1024.size hj)

theorem ld_wide (X : Vec Ideal S512x2048 .f32) (r : Fin 256) (d : Fin 2048) (ho : o + r.val < 512) :
    wide o hi X (ix2 r d) = X (ix2 ⟨o + r.val, ho⟩ d) := by
  unfold wide View.ld; congr 1; funext a; apply Fin.ext
  fin_cases a <;> simp [Rect.unit, Rect.emb, LoadRect.idx, ix2]

theorem ld_half (X : Vec Ideal S512x1024 .bf16) (r : Fin 256) (d : Fin 1024) (ho : o + r.val < 512) :
    half o hj X (ix2 r d) = X (ix2 ⟨o + r.val, ho⟩ d) := by
  unfold half View.ld; congr 1; funext a; apply Fin.ext
  fin_cases a <;> simp [Rect.unit, Rect.emb, LoadRect.idx, ix2]

theorem o_lt (hi : ∀ a, (![o, 0] : Fin 2 → ℕ) a + S256x2048.size a ≤ S512x2048.size a) (r : Fin 256) : o + r.val < 512 := by
  have h : o + 256 ≤ 512 := hi 0
  have := r.isLt; omega

theorem row_chunk (yr ya : Vec Ideal S512x1024 .bf16) (wr wa : Vec Ideal S1024x2048 .bf16) (x : Vec Ideal S512x2048 .f32) (g : Vec Ideal S1x2048 .f32)
    (y : S256x2048.Idx) :
    row (half o hj yr) wr (half o hj ya) wa (wide o hi x) g y
    = outB yr ya wr wa x g ((Rect.unit (s := S512x2048) ![o, 0] S256x2048.size hi).emb y) := by
  obtain ⟨r, d, rfl⟩ : ∃ (r : Fin 256) (d : Fin 2048), y = ix2 r d := ⟨y 0, y 1, by funext a; fin_cases a <;> rfl⟩
  rw [row_apply, emb_row o hi _ _ (o_lt o hi _), outB_apply]
  simp only [ld_wide o hi _ _ _ (o_lt o hi _), ld_half o hj _ _ _ (o_lt o hi _)]

end rows

theorem hz : (![0, 0] : Fin 2 → Nat) = fun _ => 0 := funext fun a => by fin_cases a <;> rfl

theorem out_eq (x0 x1 : Vec Ideal S512x1024 .bf16) (x2 x3 : Vec Ideal S1024x2048 .bf16) (x4 : Vec Ideal S512x2048 .f32) (x5 : Vec Ideal S1x2048 .f32) :
    out0_6 x0 x1 x2 x3 x4 x5 = outB x0 x1 x2 x3 x4 x5 := by
  unfold out0_6
  funext y
  refine View.canon_apply_of_pieces _ _ (fun p hp x => ?_) y (cover0_6 _ _ y)
  revert hp
  simp only [View.ld_unit_zero (S := S1x2048) hz, View.ld_unit_zero (S := S1024x2048) hz, pay1, List.mem_cons, List.mem_nil_iff, or_false]
  rintro (rfl | rfl)
  all_goals exact row_chunk _ _ _ x0 x1 x2 x3 x4 x5 x

/-! ## The mathematics -/

/-- Row `r` of the `i`-th run of 512. -/
def at16 (i : ℕ) (r : Fin 512) : Fin 8192 := ⟨(512 * i + r.val) % 8192, Nat.mod_lt _ (by norm_num)⟩

theorem at16_val {i : ℕ} (hi : i < 16) (r : Fin 512) : (at16 i r).val = 512 * i + r.val := by
  have := r.isLt; show (512 * i + r.val) % 8192 = _; omega

/-- The lower and the upper half of the weights' rows. -/
def lo (k : Fin 1024) : Fin 2048 := ⟨k.val, by omega⟩
def up (k : Fin 1024) : Fin 2048 := ⟨1024 + k.val, by omega⟩

theorem sum_halves {M : Type} [AddCommMonoid M] (G : Fin 2048 → M) : ∑ k, G k = ∑ k, G (lo k) + ∑ k, G (up k) :=
  Fin.sum_univ_add (a := 1024) (b := 1024) G

variable (Yr Ya : Vec Ideal S8192x1024 .bf16) (W : Vec Ideal S2048x2048 .bf16) (X : Vec Ideal S8192x2048 .f32) (G : Vec Ideal S2048 .f32)

/-- Row `p` of the projection. -/
def projA (p : Fin 8192) : Fin 2048 → EReal :=
  proj (fun k => Yr (ix2 p k)) (fun k => Ya (ix2 p k)) (fun k d => W (ix2 (lo k) d)) (fun k d => W (ix2 (up k) d))

/-- The result. -/
def resultA : Vec Ideal S8192x2048 .f32 :=
  fun y => (X y : EReal) + Mlp.norm (projA Yr Ya W (y 0)) (fun k => G (ix1 k)) (y 1)

theorem resultA_apply (p : Fin 8192) (d : Fin 2048) : resultA Yr Ya W X G (ix2 p d)
    = (X (ix2 p d) : EReal) + Mlp.norm (projA Yr Ya W p) (fun k => G (ix1 k)) d := rfl

/-! ## The blocks the grid points read -/

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![1, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val, 0] := (by decide +kernel : ∀ t : Fin grid0.N, _)

variable (m : (ℓ : Loc nD τ sig) → Buf (Elt Ideal) ℓ) (c : Dev nD) (t : Fin cfg0.N)

theorem V_main_v0 : V m c main_v0 = shapeCast S1x2048 (m ((c : Thread nD τ).loc main_arg4)) shapeCasts_S2048_S1x2048 := by
  show StableHlo.after hostOps0 _ (Proc.devRef .tc main_v0) = _
  after_results
  rfl

theorem gain_apply (g : Vec Ideal S2048 .f32) (d : Fin 2048) : shapeCast S1x2048 g shapeCasts_S2048_S1x2048 (ix2 0 d) = g (ix1 d) := by
  pointwise

theorem t_lt : t.val < 16 := lt_of_lt_of_eq t.isLt N_0

theorem read0 (r : Fin 512) (d : Fin 1024) : iblk m c 0 t (ix2 r d) = m ((c : Thread nD τ).loc main_arg0) (ix2 (at16 t.val r) d) := by
  have e := at16_val (t_lt t) r
  blk_simp [iblk]
  rw [V_main_arg0]; congr 1; funext a; apply Fin.ext
  fin_cases a <;> blk_simp [index0 t] <;> simp [ix2, e] <;> omega

theorem read1 (r : Fin 512) (d : Fin 1024) : iblk m c 1 t (ix2 r d) = m ((c : Thread nD τ).loc main_arg1) (ix2 (at16 t.val r) d) := by
  have e := at16_val (t_lt t) r
  blk_simp [iblk]
  rw [V_main_arg1]; congr 1; funext a; apply Fin.ext
  fin_cases a <;> blk_simp [index1 t] <;> simp [ix2, e] <;> omega

theorem read2 (k : Fin 1024) (d : Fin 2048) : iblk m c 2 t (ix2 k d) = m ((c : Thread nD τ).loc main_arg2) (ix2 (lo k) d) := by
  blk_simp [iblk]
  rw [V_main_arg2]; congr 1; funext a; apply Fin.ext
  fin_cases a <;> blk_simp [index2 t] <;> simp [ix2, lo]

theorem read3 (k : Fin 1024) (d : Fin 2048) : iblk m c 3 t (ix2 k d) = m ((c : Thread nD τ).loc main_arg2) (ix2 (up k) d) := by
  blk_simp [iblk]
  rw [V_main_arg2]; congr 1; funext a; apply Fin.ext
  fin_cases a <;> blk_simp [index3 t] <;> simp [ix2, up]

theorem read4 (r : Fin 512) (d : Fin 2048) : iblk m c 4 t (ix2 r d) = m ((c : Thread nD τ).loc main_arg3) (ix2 (at16 t.val r) d) := by
  have e := at16_val (t_lt t) r
  blk_simp [iblk]
  rw [V_main_arg3]; congr 1; funext a; apply Fin.ext
  fin_cases a <;> blk_simp [index4 t] <;> simp [ix2, e] <;> omega

theorem read5 (d : Fin 2048) : iblk m c 5 t (ix2 0 d) = m ((c : Thread nD τ).loc main_arg4) (ix1 d) := by
  blk_simp [iblk]
  rw [V_main_v0]
  refine Eq.trans ?_ (gain_apply _ d)
  congr 1; funext a; apply Fin.ext
  fin_cases a <;> blk_simp [index5 t] <;> simp [ix2]

/-- What a grid point leaves. -/
theorem point_eq (r : Fin 512) (d : Fin 2048) :
    outB (iblk m c 0 t) (iblk m c 1 t) (iblk m c 2 t) (iblk m c 3 t) (iblk m c 4 t) (iblk m c 5 t) (ix2 r d)
    = resultA (m ((c : Thread nD τ).loc main_arg0)) (m ((c : Thread nD τ).loc main_arg1)) (m ((c : Thread nD τ).loc main_arg2))
      (m ((c : Thread nD τ).loc main_arg3)) (m ((c : Thread nD τ).loc main_arg4)) (ix2 (at16 t.val r) d) := by
  rw [outB_apply, resultA_apply]
  simp only [read0, read1, read2, read3, read4, read5]
  rfl

/-- The result array after the run. -/
theorem final : (dats m 0 c).arrAt 6 cfg0.N
    = resultA (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t hf y => ?_
  blk_simp
  rw [after0_6, out_eq]
  obtain ⟨r, d, rfl⟩ : ∃ (r : Fin 512) (d : Fin 2048), y = ix2 r d := ⟨y 0, y 1, by funext a; fin_cases a <;> rfl⟩
  refine (point_eq m c t r d).trans ?_
  congr 1; funext a; apply Fin.ext
  have e := at16_val (t_lt t) r
  fin_cases a <;> blk_simp [index6 t] <;> simp [ix2, e] <;> omega

end Cert.Out

end
-- ==== Proof.OutRef.lean ====
module

public import proofs.«01_k».proof.Proof.OutKer
public import proofs.«01_k».proof.Proof.Gen.OutReferenceIdeal.Read

@[expose] public section

set_option maxRecDepth 16384

noncomputable section

/-! The reference's value at an index is the same. -/

namespace Cert.Out

open Idealize.ShloMosaic Idealize.SL.Sem Cert.OutReferenceIdeal Cert.OutReferenceIdeal.Gen Cert.OutReferenceIdeal.Read

variable (Yr Ya : Vec Ideal S8192x1024 .bf16) (W : Vec Ideal S2048x2048 .bf16) (X : Vec Ideal S8192x2048 .f32) (G : Vec Ideal S2048 .f32)
  (p : Fin 8192) (d : Fin 2048)

theorem ref_lo (k : Fin 1024) : val_main_v2 (F := Ideal) Yr Ya (ix2 p (lo k)) = Yr (ix2 p k) := by
  pointwise [val_main_v2, val_main_v0, val_main_v1, lo]

theorem ref_up (k : Fin 1024) : val_main_v2 (F := Ideal) Yr Ya (ix2 p (up k)) = Ya (ix2 p k) := by
  pointwise [val_main_v2, val_main_v0, val_main_v1, up]

theorem ref_proj : val_main_v4 (F := Ideal) Yr Ya W (ix2 p d) = projA Yr Ya W p d := by
  rw [val_main_v4_apply, sum_halves]
  unfold projA proj
  have e1 : ∀ k, lidx_main_v4 (ix2 p d) k = ix2 p k := fun k => by funext a; fin_cases a <;> rfl
  have e2 : ∀ k, ridx_main_v4 (ix2 p d) k = ix2 k d := fun k => by funext a; fin_cases a <;> rfl
  simp only [e1, e2, ref_lo, ref_up, val_main_v3_apply]
  rfl

theorem ref_value : val_main_v18 (F := Ideal) Yr Ya W X G (ix2 p d) = resultA Yr Ya W X G (ix2 p d) := by
  have e1 : idx_main_v7 (idx_main_v13 (ix2 p d)) = ix1 p := by funext a; fin_cases a <;> rfl
  have e2 : idx_main_v15 (idx_main_v16 (ix2 p d)) = ix1 d := by funext a; fin_cases a <;> rfl
  have e3 : ∀ k, idx_main_v6 (ix1 p) k = ix2 p k := fun k => by funext a; fin_cases a <;> rfl
  rw [val_main_v18_apply, val_main_v17_apply, val_main_v14_apply, val_main_v13_apply, val_main_v12_apply, val_main_v11_apply, val_main_v9_apply,
    val_main_v7_apply, e1, val_main_v6_apply, val_main_v8_apply, val_main_v10_apply, val_main_v16_apply, val_main_v15_apply, e2]
  simp only [e3, val_main_v5_apply, ref_proj, val_main_cst_apply, val_main_cst_0_apply, val_main_cst_1_apply]
  rw [resultA_apply]; unfold Mlp.norm
  have z : (FloatOps.ofBits (F := Ideal) .f32 0x00000000#32 : EReal) = 0 := by pointwise
  rw [z, zero_add]
  rfl

theorem ref_result : val_main_v18 (F := Ideal) Yr Ya W X G = resultA Yr Ya W X G := by
  funext y
  obtain ⟨p, d, rfl⟩ : ∃ (p : Fin 8192) (d : Fin 2048), y = ix2 p d := ⟨y 0, y 1, by funext a; fin_cases a <;> rfl⟩
  exact ref_value Yr Ya W X G p d

end Cert.Out

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.MlpKernel.Frame
public import proofs.«01_k».proof.Proof.Gen.MlpKernelIdeal.Value
public import proofs.«01_k».proof.Proof.Gen.MlpReferenceIdeal.Run
public import proofs.«01_k».proof.Proof.Gen.MlpReferenceIdeal.Read
public import proofs.«01_k».proof.Proof.Gen.OutKernel.Frame
public import proofs.«01_k».proof.Proof.Gen.OutKernelIdeal.Value
public import proofs.«01_k».proof.Proof.Gen.OutReferenceIdeal.Run
public import proofs.«01_k».proof.Proof.Gen.OutReferenceIdeal.Read
public import proofs.«01_k».proof.Proof.KerVal
public import proofs.«01_k».proof.Proof.RefVal
public import proofs.«01_k».proof.Proof.Pre
public import proofs.«01_k».proof.Proof.MlpKer
public import proofs.«01_k».proof.Proof.MlpRef
public import proofs.«01_k».proof.Proof.OutKer
public import proofs.«01_k».proof.Proof.OutRef
public import Idealize.ShloMosaic.Adequacy
public import Idealize.ShloMosaic.Init

@[expose] public section

noncomputable section

/-! The claims. -/

namespace Cert.Proof

open Idealize.ShloMosaic Idealize.ShloMosaic.TcCoe Idealize.SL.Sem

attribute [local instance] Cert.Attn.preFacts

theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result array is the attention. -/
theorem reference_result (X0 : Vec Ideal Cert.ReferenceIdeal.S2x16x8x128x256 .bf16) (X1 : Vec Ideal Cert.ReferenceIdeal.S2x16x8x256x128 .bf16)
    (X2 : Vec Ideal Cert.ReferenceIdeal.S2x16x8x128x256 .bf16) (X3 : Vec Ideal Cert.ReferenceIdeal.S2x16x8x16x256 .f32)
    (h0 : ∀ i, X0 i = ((X0 i : EReal).toReal : EReal)) (h1 : ∀ i, X1 i = ((X1 i : EReal).toReal : EReal)) :
    Cert.ReferenceIdeal.Read.val_main_v58 (F := Ideal) X0 X1 X2 X3 = Cert.Attn.result X0 X1 X2 X3 := by
  funext y
  have e : y = ix3 (y 0) (y 1) (y 2) := by funext a; fin_cases a <;> rfl
  rw [e]
  exact Cert.Attn.ref_value X0 X1 X2 X3 (y 0) (y 1) h0 h1 (y 2)

theorem algebraic : Cert.algebraic_KernelIdeal_ReferenceIdeal_pre_finite_and_masked := by
  intro m ρ m' ρ' hpre hagree
  refine ⟨fun c => Cert.Attn.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Value.run_blocks (F := Ideal) m ρ)
    obtain ⟨h0, h1, h3⟩ := Cert.Attn.pre_values _ _ _ _ (hpre c)
    exact ⟨(h c).1.trans (Cert.Attn.final m c h0 h1 h3), (h c).2⟩
  · refine (θ_run Cert.ReferenceIdeal.defs _ _).mono (fun r h c => ?_) (Cert.ReferenceIdeal.Value.run (F := Ideal) m' ρ')
    obtain ⟨h0, h1, _⟩ := Cert.Attn.pre_values _ _ _ _ (hpre c)
    obtain ⟨a0, a1, a2, a3⟩ := hagree c
    refine ⟨(h c).1.trans ?_, (h c).2⟩
    rw [Cert.ReferenceIdeal.Read.val_main_v58_eq, a0, a1, a2, a3]
    exact reference_result _ _ _ _ h0 h1

theorem frame_mlp_r : Cert.quiescent_MlpReferenceIdeal := fun m ρ _ =>
  (θ_run Cert.MlpReferenceIdeal.defs _ _).mono (fun r h => ⟨fun c => (h c).2, sem_eq_zero_of_no_sems (by decide) r.2⟩)
    (Cert.MlpReferenceIdeal.Value.run (F := Ideal) m ρ)

theorem algebraic_mlp : Cert.algebraic_MlpKernelIdeal_MlpReferenceIdeal := by
  intro m ρ m' ρ' _ hagree
  refine ⟨fun c => Cert.Mlp.resultA (m ((c.tc : Thread Cert.MlpKernelIdeal.nD Cert.MlpKernelIdeal.τ).loc Cert.MlpKernelIdeal.main_arg0))
    (m ((c.tc : Thread Cert.MlpKernelIdeal.nD Cert.MlpKernelIdeal.τ).loc Cert.MlpKernelIdeal.main_arg1))
    (m ((c.tc : Thread Cert.MlpKernelIdeal.nD Cert.MlpKernelIdeal.τ).loc Cert.MlpKernelIdeal.main_arg2))
    (m ((c.tc : Thread Cert.MlpKernelIdeal.nD Cert.MlpKernelIdeal.τ).loc Cert.MlpKernelIdeal.main_arg3))
    (m ((c.tc : Thread Cert.MlpKernelIdeal.nD Cert.MlpKernelIdeal.τ).loc Cert.MlpKernelIdeal.main_arg4)), ?_, ?_⟩
  · refine (θ_run Cert.MlpKernelIdeal.defs _ _).mono (fun r h c => ?_) (Cert.MlpKernelIdeal.Value.run (F := Ideal) m ρ)
    exact ⟨(h c).1.trans ((Cert.MlpKernelIdeal.Value.final5 m c).symm.trans (Cert.Mlp.final m c)), (h c).2⟩
  · refine (θ_run Cert.MlpReferenceIdeal.defs _ _).mono (fun r h c => ?_) (Cert.MlpReferenceIdeal.Value.run (F := Ideal) m' ρ')
    obtain ⟨a0, a1, a2, a3, a4⟩ := hagree c
    refine ⟨(h c).1.trans ?_, (h c).2⟩
    rw [Cert.MlpReferenceIdeal.Read.val_main_v32_eq, a0, a1, a2, a3, a4]
    exact Cert.Mlp.ref_result _ _ _ _ _

theorem frame_out_r : Cert.quiescent_OutReferenceIdeal := fun m ρ _ =>
  (θ_run Cert.OutReferenceIdeal.defs _ _).mono (fun r h => ⟨fun c => (h c).2, sem_eq_zero_of_no_sems (by decide) r.2⟩)
    (Cert.OutReferenceIdeal.Value.run (F := Ideal) m ρ)

theorem algebraic_out : Cert.algebraic_OutKernelIdeal_OutReferenceIdeal := by
  intro m ρ m' ρ' _ hagree
  refine ⟨fun c => Cert.Out.resultA (m ((c.tc : Thread Cert.OutKernelIdeal.nD Cert.OutKernelIdeal.τ).loc Cert.OutKernelIdeal.main_arg0))
    (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2))
    (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)), ?_, ?_⟩
  · refine (θ_run Cert.OutKernelIdeal.defs _ _).mono (fun r h c => ?_) (Cert.OutKernelIdeal.Value.run_blocks (F := Ideal) m ρ)
    exact ⟨(h c).1.trans (Cert.Out.final m c), (h c).2⟩
  · refine (θ_run Cert.OutReferenceIdeal.defs _ _).mono (fun r h c => ?_) (Cert.OutReferenceIdeal.Value.run (F := Ideal) m' ρ')
    obtain ⟨a0, a1, a2, a3, a4⟩ := hagree c
    refine ⟨(h c).1.trans ?_, (h c).2⟩
    rw [Cert.OutReferenceIdeal.Read.val_main_v18_eq, a0, a1, a2, a3, a4]
    exact Cert.Out.ref_result _ _ _ _ _

theorem claim : Cert.Claim := ⟨Cert.Kernel.Gen.facts, Cert.KernelIdeal.Gen.facts, Cert.ReferenceIdeal.Gen.facts,
  Cert.MlpKernel.Gen.facts, Cert.MlpKernelIdeal.Gen.facts, Cert.MlpReferenceIdeal.Gen.facts,
  Cert.OutKernel.Gen.facts, Cert.OutKernelIdeal.Gen.facts, Cert.OutReferenceIdeal.Gen.facts, Cert.Attn.preFacts,
  fun m ρ _ => Cert.Kernel.Gen.frame m ρ, fun m ρ _ => Cert.KernelIdeal.Gen.frame m ρ, fun m ρ _ => Cert.KernelIdeal.Gen.frame m ρ,
  frame_r, fun m ρ _ => frame_r m ρ trivial, fun m ρ _ => Cert.MlpKernel.Gen.frame m ρ, fun m ρ _ => Cert.MlpKernelIdeal.Gen.frame m ρ,
  frame_mlp_r, fun m ρ _ => Cert.OutKernel.Gen.frame m ρ, fun m ρ _ => Cert.OutKernelIdeal.Gen.frame m ρ, frame_out_r,
  trivial, algebraic, trivial, algebraic_mlp, trivial, algebraic_out⟩

end Cert.Proof

end
